-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelX (m : (ℓ : Loc Cert.KernelX.nD Cert.KernelX.τ Cert.KernelX.sig) → Buf (Elt Bits) ℓ) : Prop :=
  True

def Pre_KernelXIdeal (m : (ℓ : Loc Cert.KernelXIdeal.nD Cert.KernelXIdeal.τ Cert.KernelXIdeal.sig) → Buf (Elt Ideal) ℓ) : Prop :=
  True

def Pre_ReferenceXIdeal (m : (ℓ : Loc Cert.ReferenceXIdeal.nD Cert.ReferenceXIdeal.τ Cert.ReferenceXIdeal.sig) → Buf (Elt Ideal) ℓ) : Prop :=
  True

def Pre_KernelNew (m : (ℓ : Loc Cert.KernelNew.nD Cert.KernelNew.τ Cert.KernelNew.sig) → Buf (Elt Bits) ℓ) : Prop :=
  True

def Pre_KernelNewIdeal (m : (ℓ : Loc Cert.KernelNewIdeal.nD Cert.KernelNewIdeal.τ Cert.KernelNewIdeal.sig) → Buf (Elt Ideal) ℓ) : Prop :=
  True

def Pre_ReferenceNewIdeal (m : (ℓ : Loc Cert.ReferenceNewIdeal.nD Cert.ReferenceNewIdeal.τ Cert.ReferenceNewIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelX [hKernelX : Cert.KernelX.Facts] : Prop :=
  ∀ (m : (ℓ : Loc Cert.KernelX.nD Cert.KernelX.τ Cert.KernelX.sig) → Buf (Elt Bits) ℓ) (g : Dev Cert.KernelX.nD → PrngReg), Pre_KernelX m →
    θ_run (Cert.KernelX.defs (F := Bits)) (onTc (τ := Cert.KernelX.τ) (Cert.KernelX.main (F := Bits))) ⟨m, fun _ => 0, g⟩ (fun r => (∀ c : Dev Cert.KernelX.nD,
      r.2.mem ((c.tc : Thread Cert.KernelX.nD Cert.KernelX.τ).loc Cert.KernelX.main_arg0) = m ((c.tc : Thread Cert.KernelX.nD Cert.KernelX.τ).loc Cert.KernelX.main_arg0))
      ∧ r.2.sem = fun _ => 0)

def quiescent_KernelXIdeal [hKernelXIdeal : Cert.KernelXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg), Pre_KernelXIdeal m →
    θ_run (Cert.KernelXIdeal.defs (F := Ideal)) (onTc (τ := Cert.KernelXIdeal.τ) (Cert.KernelXIdeal.main (F := Ideal))) ⟨m, fun _ => 0, g⟩ (fun r => (∀ c : Dev Cert.KernelXIdeal.nD,
      r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ r.2.sem = fun _ => 0)

def quiescent_ReferenceXIdeal [hReferenceXIdeal : Cert.ReferenceXIdeal.Facts] : Prop :=
  ∀ (m : (ℓ : Loc Cert.ReferenceXIdeal.nD Cert.ReferenceXIdeal.τ Cert.ReferenceXIdeal.sig) → Buf (Elt Ideal) ℓ) (g : Dev Cert.ReferenceXIdeal.nD → PrngReg), Pre_ReferenceXIdeal m →
    θ_run (Cert.ReferenceXIdeal.defs (F := Ideal)) (onTc (τ := Cert.ReferenceXIdeal.τ) (Cert.ReferenceXIdeal.main (F := Ideal))) ⟨m, fun _ => 0, g⟩ (fun r => (∀ c : Dev Cert.ReferenceXIdeal.nD,
      r.2.mem ((c.tc : Thread Cert.ReferenceXIdeal.nD Cert.ReferenceXIdeal.τ).loc Cert.ReferenceXIdeal.main_arg0) = m ((c.tc : Thread Cert.ReferenceXIdeal.nD Cert.ReferenceXIdeal.τ).loc Cert.ReferenceXIdeal.main_arg0))
      ∧ r.2.sem = fun _ => 0)

def quiescent_KernelNew [hKernelNew : Cert.KernelNew.Facts] : Prop :=
  ∀ (m : (ℓ : Loc Cert.KernelNew.nD Cert.KernelNew.τ Cert.KernelNew.sig) → Buf (Elt Bits) ℓ) (g : Dev Cert.KernelNew.nD → PrngReg), Pre_KernelNew m →
    θ_run (Cert.KernelNew.defs (F := Bits)) (onTc (τ := Cert.KernelNew.τ) (Cert.KernelNew.main (F := Bits))) ⟨m, fun _ => 0, g⟩ (fun r => (∀ c : Dev Cert.KernelNew.nD,
      r.2.mem ((c.tc : Thread Cert.KernelNew.nD Cert.KernelNew.τ).loc Cert.KernelNew.main_arg0) = m ((c.tc : Thread Cert.KernelNew.nD Cert.KernelNew.τ).loc Cert.KernelNew.main_arg0)
      ∧ r.2.mem ((c.tc : Thread Cert.KernelNew.nD Cert.KernelNew.τ).loc Cert.KernelNew.main_arg1) = m ((c.tc : Thread Cert.KernelNew.nD Cert.KernelNew.τ).loc Cert.KernelNew.main_arg1))
      ∧ r.2.sem = fun _ => 0)

def quiescent_KernelNewIdeal [hKernelNewIdeal : Cert.KernelNewIdeal.Facts] : Prop :=
  ∀ (m : (ℓ : Loc Cert.KernelNewIdeal.nD Cert.KernelNewIdeal.τ Cert.KernelNewIdeal.sig) → Buf (Elt Ideal) ℓ) (g : Dev Cert.KernelNewIdeal.nD → PrngReg), Pre_KernelNewIdeal m →
    θ_run (Cert.KernelNewIdeal.defs (F := Ideal)) (onTc (τ := Cert.KernelNewIdeal.τ) (Cert.KernelNewIdeal.main (F := Ideal))) ⟨m, fun _ => 0, g⟩ (fun r => (∀ c : Dev Cert.KernelNewIdeal.nD,
      r.2.mem ((c.tc : Thread Cert.KernelNewIdeal.nD Cert.KernelNewIdeal.τ).loc Cert.KernelNewIdeal.main_arg0) = m ((c.tc : Thread Cert.KernelNewIdeal.nD Cert.KernelNewIdeal.τ).loc Cert.KernelNewIdeal.main_arg0)
      ∧ r.2.mem ((c.tc : Thread Cert.KernelNewIdeal.nD Cert.KernelNewIdeal.τ).loc Cert.KernelNewIdeal.main_arg1) = m ((c.tc : Thread Cert.KernelNewIdeal.nD Cert.KernelNewIdeal.τ).loc Cert.KernelNewIdeal.main_arg1))
      ∧ r.2.sem = fun _ => 0)

def quiescent_ReferenceNewIdeal [hReferenceNewIdeal : Cert.ReferenceNewIdeal.Facts] : Prop :=
  ∀ (m : (ℓ : Loc Cert.ReferenceNewIdeal.nD Cert.ReferenceNewIdeal.τ Cert.ReferenceNewIdeal.sig) → Buf (Elt Ideal) ℓ) (g : Dev Cert.ReferenceNewIdeal.nD → PrngReg), Pre_ReferenceNewIdeal m →
    θ_run (Cert.ReferenceNewIdeal.defs (F := Ideal)) (onTc (τ := Cert.ReferenceNewIdeal.τ) (Cert.ReferenceNewIdeal.main (F := Ideal))) ⟨m, fun _ => 0, g⟩ (fun r => (∀ c : Dev Cert.ReferenceNewIdeal.nD,
      r.2.mem ((c.tc : Thread Cert.ReferenceNewIdeal.nD Cert.ReferenceNewIdeal.τ).loc Cert.ReferenceNewIdeal.main_arg0) = m ((c.tc : Thread Cert.ReferenceNewIdeal.nD Cert.ReferenceNewIdeal.τ).loc Cert.ReferenceNewIdeal.main_arg0)
      ∧ r.2.mem ((c.tc : Thread Cert.ReferenceNewIdeal.nD Cert.ReferenceNewIdeal.τ).loc Cert.ReferenceNewIdeal.main_arg1) = m ((c.tc : Thread Cert.ReferenceNewIdeal.nD Cert.ReferenceNewIdeal.τ).loc Cert.ReferenceNewIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2)
      ∧ r.2.mem ((c.tc : Thread Cert.KernelQ.nD Cert.KernelQ.τ).loc Cert.KernelQ.main_arg3) = m ((c.tc : Thread Cert.KernelQ.nD Cert.KernelQ.τ).loc Cert.KernelQ.main_arg3))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
      ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2)
      ∧ r.2.mem ((c.tc : Thread Cert.ReferenceQIdeal.nD Cert.ReferenceQIdeal.τ).loc Cert.ReferenceQIdeal.main_arg3) = m ((c.tc : Thread Cert.ReferenceQIdeal.nD Cert.ReferenceQIdeal.τ).loc Cert.ReferenceQIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelX_KernelXIdeal : Prop :=
  True

def algebraic_KernelXIdeal_ReferenceXIdeal [hKernelXIdeal : Cert.KernelXIdeal.Facts] [hReferenceXIdeal : Cert.ReferenceXIdeal.Facts] : Prop :=
  ∀ (m : (ℓ : Loc Cert.KernelXIdeal.nD Cert.KernelXIdeal.τ Cert.KernelXIdeal.sig) → Buf (Elt Ideal) ℓ) (g : Dev Cert.KernelXIdeal.nD → PrngReg)
    (m' : (ℓ : Loc Cert.ReferenceXIdeal.nD Cert.ReferenceXIdeal.τ Cert.ReferenceXIdeal.sig) → Buf (Elt Ideal) ℓ) (g' : Dev Cert.ReferenceXIdeal.nD → PrngReg), Pre_KernelXIdeal m →
    (∀ c : Dev Cert.KernelXIdeal.nD,
      m' ((c.tc : Thread Cert.ReferenceXIdeal.nD Cert.ReferenceXIdeal.τ).loc Cert.ReferenceXIdeal.main_arg0) = m ((c.tc : Thread Cert.KernelXIdeal.nD Cert.KernelXIdeal.τ).loc Cert.KernelXIdeal.main_arg0)) →
    ∃ (v0 : (c : Dev Cert.KernelXIdeal.nD) → Buf (Elt Ideal) ((c.tc : Thread Cert.KernelXIdeal.nD Cert.KernelXIdeal.τ).loc Cert.KernelXIdeal.main_v0_0)) (v1 : (c : Dev Cert.KernelXIdeal.nD) → Buf (Elt Ideal) ((c.tc : Thread Cert.KernelXIdeal.nD Cert.KernelXIdeal.τ).loc Cert.KernelXIdeal.main_v0_1)),
      θ_run (Cert.KernelXIdeal.defs (F := Ideal)) (onTc (τ := Cert.KernelXIdeal.τ) (Cert.KernelXIdeal.main (F := Ideal))) ⟨m, fun _ => 0, g⟩ (fun r => ∀ c : Dev Cert.KernelXIdeal.nD,
          r.2.mem ((c.tc : Thread Cert.KernelXIdeal.nD Cert.KernelXIdeal.τ).loc Cert.KernelXIdeal.main_v0_0) = v0 c
          ∧ r.2.mem ((c.tc : Thread Cert.KernelXIdeal.nD Cert.KernelXIdeal.τ).loc Cert.KernelXIdeal.main_v0_1) = v1 c
          ∧ r.2.mem ((c.tc : Thread Cert.KernelXIdeal.nD Cert.KernelXIdeal.τ).loc Cert.KernelXIdeal.main_arg0) = m ((c.tc : Thread Cert.KernelXIdeal.nD Cert.KernelXIdeal.τ).loc Cert.KernelXIdeal.main_arg0))
      ∧ θ_run (Cert.ReferenceXIdeal.defs (F := Ideal)) (onTc (τ := Cert.ReferenceXIdeal.τ) (Cert.ReferenceXIdeal.main (F := Ideal))) ⟨m', fun _ => 0, g'⟩ (fun r => ∀ c : Dev Cert.ReferenceXIdeal.nD,
          r.2.mem ((c.tc : Thread Cert.ReferenceXIdeal.nD Cert.ReferenceXIdeal.τ).loc Cert.ReferenceXIdeal.main_v0_0) = v0 c
          ∧ r.2.mem ((c.tc : Thread Cert.ReferenceXIdeal.nD Cert.ReferenceXIdeal.τ).loc Cert.ReferenceXIdeal.main_v0_1) = v1 c
          ∧ r.2.mem ((c.tc : Thread Cert.ReferenceXIdeal.nD Cert.ReferenceXIdeal.τ).loc Cert.ReferenceXIdeal.main_arg0) = m' ((c.tc : Thread Cert.ReferenceXIdeal.nD Cert.ReferenceXIdeal.τ).loc Cert.ReferenceXIdeal.main_arg0))

def preserves_KernelNew_KernelNewIdeal : Prop :=
  True

def algebraic_KernelNewIdeal_ReferenceNewIdeal [hKernelNewIdeal : Cert.KernelNewIdeal.Facts] [hReferenceNewIdeal : Cert.ReferenceNewIdeal.Facts] : Prop :=
  ∀ (m : (ℓ : Loc Cert.KernelNewIdeal.nD Cert.KernelNewIdeal.τ Cert.KernelNewIdeal.sig) → Buf (Elt Ideal) ℓ) (g : Dev Cert.KernelNewIdeal.nD → PrngReg)
    (m' : (ℓ : Loc Cert.ReferenceNewIdeal.nD Cert.ReferenceNewIdeal.τ Cert.ReferenceNewIdeal.sig) → Buf (Elt Ideal) ℓ) (g' : Dev Cert.ReferenceNewIdeal.nD → PrngReg), Pre_KernelNewIdeal m →
    (∀ c : Dev Cert.KernelNewIdeal.nD,
      m' ((c.tc : Thread Cert.ReferenceNewIdeal.nD Cert.ReferenceNewIdeal.τ).loc Cert.ReferenceNewIdeal.main_arg0) = m ((c.tc : Thread Cert.KernelNewIdeal.nD Cert.KernelNewIdeal.τ).loc Cert.KernelNewIdeal.main_arg0)
      ∧ m' ((c.tc : Thread Cert.ReferenceNewIdeal.nD Cert.ReferenceNewIdeal.τ).loc Cert.ReferenceNewIdeal.main_arg1) = m ((c.tc : Thread Cert.KernelNewIdeal.nD Cert.KernelNewIdeal.τ).loc Cert.KernelNewIdeal.main_arg1)) →
    ∃ (v0 : (c : Dev Cert.KernelNewIdeal.nD) → Buf (Elt Ideal) ((c.tc : Thread Cert.KernelNewIdeal.nD Cert.KernelNewIdeal.τ).loc Cert.KernelNewIdeal.main_v0_0)) (v1 : (c : Dev Cert.KernelNewIdeal.nD) → Buf (Elt Ideal) ((c.tc : Thread Cert.KernelNewIdeal.nD Cert.KernelNewIdeal.τ).loc Cert.KernelNewIdeal.main_v0_1)) (v2 : (c : Dev Cert.KernelNewIdeal.nD) → Buf (Elt Ideal) ((c.tc : Thread Cert.KernelNewIdeal.nD Cert.KernelNewIdeal.τ).loc Cert.KernelNewIdeal.main_v0_2)),
      θ_run (Cert.KernelNewIdeal.defs (F := Ideal)) (onTc (τ := Cert.KernelNewIdeal.τ) (Cert.KernelNewIdeal.main (F := Ideal))) ⟨m, fun _ => 0, g⟩ (fun r => ∀ c : Dev Cert.KernelNewIdeal.nD,
          r.2.mem ((c.tc : Thread Cert.KernelNewIdeal.nD Cert.KernelNewIdeal.τ).loc Cert.KernelNewIdeal.main_v0_0) = v0 c
          ∧ r.2.mem ((c.tc : Thread Cert.KernelNewIdeal.nD Cert.KernelNewIdeal.τ).loc Cert.KernelNewIdeal.main_v0_1) = v1 c
          ∧ r.2.mem ((c.tc : Thread Cert.KernelNewIdeal.nD Cert.KernelNewIdeal.τ).loc Cert.KernelNewIdeal.main_v0_2) = v2 c
          ∧ r.2.mem ((c.tc : Thread Cert.KernelNewIdeal.nD Cert.KernelNewIdeal.τ).loc Cert.KernelNewIdeal.main_arg0) = m ((c.tc : Thread Cert.KernelNewIdeal.nD Cert.KernelNewIdeal.τ).loc Cert.KernelNewIdeal.main_arg0)
          ∧ r.2.mem ((c.tc : Thread Cert.KernelNewIdeal.nD Cert.KernelNewIdeal.τ).loc Cert.KernelNewIdeal.main_arg1) = m ((c.tc : Thread Cert.KernelNewIdeal.nD Cert.KernelNewIdeal.τ).loc Cert.KernelNewIdeal.main_arg1))
      ∧ θ_run (Cert.ReferenceNewIdeal.defs (F := Ideal)) (onTc (τ := Cert.ReferenceNewIdeal.τ) (Cert.ReferenceNewIdeal.main (F := Ideal))) ⟨m', fun _ => 0, g'⟩ (fun r => ∀ c : Dev Cert.ReferenceNewIdeal.nD,
          r.2.mem ((c.tc : Thread Cert.ReferenceNewIdeal.nD Cert.ReferenceNewIdeal.τ).loc Cert.ReferenceNewIdeal.main_v0_0) = v0 c
          ∧ r.2.mem ((c.tc : Thread Cert.ReferenceNewIdeal.nD Cert.ReferenceNewIdeal.τ).loc Cert.ReferenceNewIdeal.main_v0_1) = v1 c
          ∧ r.2.mem ((c.tc : Thread Cert.ReferenceNewIdeal.nD Cert.ReferenceNewIdeal.τ).loc Cert.ReferenceNewIdeal.main_v0_2) = v2 c
          ∧ r.2.mem ((c.tc : Thread Cert.ReferenceNewIdeal.nD Cert.ReferenceNewIdeal.τ).loc Cert.ReferenceNewIdeal.main_arg0) = m' ((c.tc : Thread Cert.ReferenceNewIdeal.nD Cert.ReferenceNewIdeal.τ).loc Cert.ReferenceNewIdeal.main_arg0)
          ∧ r.2.mem ((c.tc : Thread Cert.ReferenceNewIdeal.nD Cert.ReferenceNewIdeal.τ).loc Cert.ReferenceNewIdeal.main_arg1) = m' ((c.tc : Thread Cert.ReferenceNewIdeal.nD Cert.ReferenceNewIdeal.τ).loc Cert.ReferenceNewIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)
      ∧ m' ((c.tc : Thread Cert.ReferenceQIdeal.nD Cert.ReferenceQIdeal.τ).loc Cert.ReferenceQIdeal.main_arg3) = m ((c.tc : Thread Cert.KernelQIdeal.nD Cert.KernelQIdeal.τ).loc Cert.KernelQIdeal.main_arg3)) →
    ∃ (v0 : (c : Dev Cert.KernelQIdeal.nD) → Buf (Elt Ideal) ((c.tc : Thread Cert.KernelQIdeal.nD Cert.KernelQIdeal.τ).loc Cert.KernelQIdeal.main_v4)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v4) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2)
          ∧ r.2.mem ((c.tc : Thread Cert.KernelQIdeal.nD Cert.KernelQIdeal.τ).loc Cert.KernelQIdeal.main_arg3) = m ((c.tc : Thread Cert.KernelQIdeal.nD Cert.KernelQIdeal.τ).loc Cert.KernelQIdeal.main_arg3))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v0) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2)
          ∧ r.2.mem ((c.tc : Thread Cert.ReferenceQIdeal.nD Cert.ReferenceQIdeal.τ).loc Cert.ReferenceQIdeal.main_arg3) = m' ((c.tc : Thread Cert.ReferenceQIdeal.nD Cert.ReferenceQIdeal.τ).loc Cert.ReferenceQIdeal.main_arg3))

def Claim : Prop :=
  ∃ (hKernel : Cert.Kernel.Facts) (hKernelIdeal : Cert.KernelIdeal.Facts) (hReferenceIdeal : Cert.ReferenceIdeal.Facts) (hKernelX : Cert.KernelX.Facts) (hKernelXIdeal : Cert.KernelXIdeal.Facts) (hReferenceXIdeal : Cert.ReferenceXIdeal.Facts) (hKernelNew : Cert.KernelNew.Facts) (hKernelNewIdeal : Cert.KernelNewIdeal.Facts) (hReferenceNewIdeal : Cert.ReferenceNewIdeal.Facts) (hKernelQ : Cert.KernelQ.Facts) (hKernelQIdeal : Cert.KernelQIdeal.Facts) (hReferenceQIdeal : Cert.ReferenceQIdeal.Facts),
    quiescent_Kernel (hKernel := hKernel)
    ∧ quiescent_KernelIdeal (hKernelIdeal := hKernelIdeal)
    ∧ quiescent_ReferenceIdeal (hReferenceIdeal := hReferenceIdeal)
    ∧ quiescent_KernelX (hKernelX := hKernelX)
    ∧ quiescent_KernelXIdeal (hKernelXIdeal := hKernelXIdeal)
    ∧ quiescent_ReferenceXIdeal (hReferenceXIdeal := hReferenceXIdeal)
    ∧ quiescent_KernelNew (hKernelNew := hKernelNew)
    ∧ quiescent_KernelNewIdeal (hKernelNewIdeal := hKernelNewIdeal)
    ∧ quiescent_ReferenceNewIdeal (hReferenceNewIdeal := hReferenceNewIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ preserves_Kernel_KernelIdeal
    ∧ algebraic_KernelIdeal_ReferenceIdeal (hKernelIdeal := hKernelIdeal) (hReferenceIdeal := hReferenceIdeal)
    ∧ preserves_KernelX_KernelXIdeal
    ∧ algebraic_KernelXIdeal_ReferenceXIdeal (hKernelXIdeal := hKernelXIdeal) (hReferenceXIdeal := hReferenceXIdeal)
    ∧ preserves_KernelNew_KernelNewIdeal
    ∧ algebraic_KernelNewIdeal_ReferenceNewIdeal (hKernelNewIdeal := hKernelNewIdeal) (hReferenceNewIdeal := hReferenceNewIdeal)
    ∧ preserves_KernelQ_KernelQIdeal
    ∧ algebraic_KernelQIdeal_ReferenceQIdeal (hKernelQIdeal := hKernelQIdeal) (hReferenceQIdeal := hReferenceQIdeal)
-- ==== Kernel.lean ====
abbrev S6x640x7168 : Shape := ⟨3, ![6, 640, 7168]⟩
abbrev S6x288x7168 : Shape := ⟨3, ![6, 288, 7168]⟩
abbrev S6x1664x7168 : Shape := ⟨3, ![6, 1664, 7168]⟩
abbrev S6x256x7168 : Shape := ⟨3, ![6, 256, 7168]⟩
abbrev S6x2016x1 : Shape := ⟨3, ![6, 2016, 1]⟩
abbrev S7168x2x56x128 : Shape := ⟨4, ![7168, 2, 56, 128]⟩
abbrev S2x56x128 : Shape := ⟨3, ![2, 56, 128]⟩
abbrev S7168x14336 : Shape := ⟨2, ![7168, 14336]⟩
abbrev S112x1x128 : Shape := ⟨3, ![112, 1, 128]⟩
abbrev S6x2016x7168 : Shape := ⟨3, ![6, 2016, 7168]⟩
abbrev S6x56x2016 : Shape := ⟨3, ![6, 56, 2016]⟩
abbrev S1x640x7168 : Shape := ⟨3, ![1, 640, 7168]⟩
abbrev S1x288x7168 : Shape := ⟨3, ![1, 288, 7168]⟩
abbrev S1x832x7168 : Shape := ⟨3, ![1, 832, 7168]⟩
abbrev S1x256x7168 : Shape := ⟨3, ![1, 256, 7168]⟩
abbrev S1x2016x1 : Shape := ⟨3, ![1, 2016, 1]⟩
abbrev S7168x128 : Shape := ⟨2, ![7168, 128]⟩
abbrev S1x1x128 : Shape := ⟨3, ![1, 1, 128]⟩
abbrev S1x256x128 : Shape := ⟨3, ![1, 256, 128]⟩
abbrev S1x2016x128 : Shape := ⟨3, ![1, 2016, 128]⟩
abbrev S1x56x2016 : Shape := ⟨3, ![1, 56, 2016]⟩
abbrev S2016x256 : Shape := ⟨2, ![2016, 256]⟩
abbrev S2016x128 : Shape := ⟨2, ![2016, 128]⟩
abbrev S7168x256 : Shape := ⟨2, ![7168, 256]⟩
abbrev S1x128 : Shape := ⟨2, ![1, 128]⟩
abbrev S256x128 : Shape := ⟨2, ![256, 128]⟩
abbrev S640x7168 : Shape := ⟨2, ![640, 7168]⟩
abbrev S640x256 : Shape := ⟨2, ![640, 256]⟩
abbrev S1x640x1 : Shape := ⟨3, ![1, 640, 1]⟩
abbrev S640x1 : Shape := ⟨2, ![640, 1]⟩
abbrev S640x128 : Shape := ⟨2, ![640, 128]⟩
abbrev S640 : Shape := ⟨1, ![640]⟩
abbrev S1x640x128 : Shape := ⟨3, ![1, 640, 128]⟩
abbrev S288x7168 : Shape := ⟨2, ![288, 7168]⟩
abbrev S288x256 : Shape := ⟨2, ![288, 256]⟩
abbrev S1x288x1 : Shape := ⟨3, ![1, 288, 1]⟩
abbrev S288x1 : Shape := ⟨2, ![288, 1]⟩
abbrev S288x128 : Shape := ⟨2, ![288, 128]⟩
abbrev S288 : Shape := ⟨1, ![288]⟩
abbrev S1x288x128 : Shape := ⟨3, ![1, 288, 128]⟩
abbrev S832x7168 : Shape := ⟨2, ![832, 7168]⟩
abbrev S832x256 : Shape := ⟨2, ![832, 256]⟩
abbrev S1x832x1 : Shape := ⟨3, ![1, 832, 1]⟩
abbrev S832x1 : Shape := ⟨2, ![832, 1]⟩
abbrev S832x128 : Shape := ⟨2, ![832, 128]⟩
abbrev S832 : Shape := ⟨1, ![832]⟩
abbrev S1x832x128 : Shape := ⟨3, ![1, 832, 128]⟩
abbrev S256x7168 : Shape := ⟨2, ![256, 7168]⟩
abbrev S256x256 : Shape := ⟨2, ![256, 256]⟩
abbrev S1x256x1 : Shape := ⟨3, ![1, 256, 1]⟩
abbrev S256x1 : Shape := ⟨2, ![256, 1]⟩
abbrev S256 : Shape := ⟨1, ![256]⟩
abbrev S1x256 : Shape := ⟨2, ![1, 256]⟩
abbrev S2016x1 : Shape := ⟨2, ![2016, 1]⟩
abbrev S128x256 : Shape := ⟨2, ![128, 256]⟩
abbrev S128x2016 : Shape := ⟨2, ![128, 2016]⟩
abbrev S56x2016 : Shape := ⟨2, ![56, 2016]⟩

abbrev nBuf : Space → Nat
  | .hbm => 16
  | .vmem => 33
  | .smem => 0
  | _ => 0

abbrev bufTy : (tb : Table) → Fin (tcTables nBuf tb) → BufTy
  | .hbm, ⟨0, _⟩ => ⟨S6x640x7168, .fp8e4m3⟩
  | .hbm, ⟨1, _⟩ => ⟨S6x288x7168, .fp8e4m3⟩
  | .hbm, ⟨2, _⟩ => ⟨S6x1664x7168, .fp8e4m3⟩
  | .hbm, ⟨3, _⟩ => ⟨S6x256x7168, .fp8e4m3⟩
  | .hbm, ⟨4, _⟩ => ⟨S6x2016x1, .f32⟩
  | .hbm, ⟨5, _⟩ => ⟨S7168x2x56x128, .fp8e4m3⟩
  | .hbm, ⟨6, _⟩ => ⟨S2x56x128, .f32⟩
  | .hbm, ⟨7, _⟩ => ⟨S6x256x7168, .bf16⟩
  | .hbm, ⟨8, _⟩ => ⟨S7168x14336, .fp8e4m3⟩
  | .hbm, ⟨9, _⟩ => ⟨S112x1x128, .f32⟩
  | .hbm, ⟨10, _⟩ => ⟨S112x1x128, .f32⟩
  | .hbm, ⟨11, _⟩ => ⟨S6x2016x7168, .fp8e4m3⟩
  | .hbm, ⟨12, _⟩ => ⟨S6x2016x7168, .fp8e4m3⟩
  | .hbm, ⟨13, _⟩ => ⟨S6x56x2016, .f32⟩
  | .hbm, ⟨14, _⟩ => ⟨S6x56x2016, .f32⟩
  | .hbm, ⟨15, _⟩ => ⟨S6x256x7168, .bf16⟩
  | .local _ .vmem, ⟨0, _⟩ => ⟨S1x640x7168, .fp8e4m3⟩
  | .local _ .vmem, ⟨1, _⟩ => ⟨S1x640x7168, .fp8e4m3⟩
  | .local _ .vmem, ⟨2, _⟩ => ⟨S1x288x7168, .fp8e4m3⟩
  | .local _ .vmem, ⟨3, _⟩ => ⟨S1x288x7168, .fp8e4m3⟩
  | .local _ .vmem, ⟨4, _⟩ => ⟨S1x832x7168, .fp8e4m3⟩
  | .local _ .vmem, ⟨5, _⟩ => ⟨S1x832x7168, .fp8e4m3⟩
  | .local _ .vmem, ⟨6, _⟩ => ⟨S1x256x7168, .fp8e4m3⟩
  | .local _ .vmem, ⟨7, _⟩ => ⟨S1x256x7168, .fp8e4m3⟩
  | .local _ .vmem, ⟨8, _⟩ => ⟨S1x2016x1, .f32⟩
  | .local _ .vmem, ⟨9, _⟩ => ⟨S1x2016x1, .f32⟩
  | .local _ .vmem, ⟨10, _⟩ => ⟨S7168x128, .fp8e4m3⟩
  | .local _ .vmem, ⟨11, _⟩ => ⟨S7168x128, .fp8e4m3⟩
  | .local _ .vmem, ⟨12, _⟩ => ⟨S7168x128, .fp8e4m3⟩
  | .local _ .vmem, ⟨13, _⟩ => ⟨S7168x128, .fp8e4m3⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x256x128, .bf16⟩
  | .local _ .vmem, ⟨19, _⟩ => ⟨S1x256x128, .bf16⟩
  | .local _ .vmem, ⟨20, _⟩ => ⟨S1x2016x128, .fp8e4m3⟩
  | .local _ .vmem, ⟨21, _⟩ => ⟨S1x2016x128, .fp8e4m3⟩
  | .local _ .vmem, ⟨22, _⟩ => ⟨S1x2016x128, .fp8e4m3⟩
  | .local _ .vmem, ⟨23, _⟩ => ⟨S1x2016x128, .fp8e4m3⟩
  | .local _ .vmem, ⟨24, _⟩ => ⟨S1x56x2016, .f32⟩
  | .local _ .vmem, ⟨25, _⟩ => ⟨S1x56x2016, .f32⟩
  | .local _ .vmem, ⟨26, _⟩ => ⟨S1x56x2016, .f32⟩
  | .local _ .vmem, ⟨27, _⟩ => ⟨S1x56x2016, .f32⟩
  | .local _ .vmem, ⟨28, _⟩ => ⟨S1x256x128, .bf16⟩
  | .local _ .vmem, ⟨29, _⟩ => ⟨S1x256x128, .bf16⟩
  | .local _ .vmem, ⟨30, _⟩ => ⟨S2016x256, .f32⟩
  | .local _ .vmem, ⟨31, _⟩ => ⟨S2016x128, .f32⟩
  | .local _ .vmem, ⟨32, _⟩ => ⟨S2016x128, .f32⟩
  | _, _ => ⟨S6x640x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![6, 56], ![false, false]⟩

def k0_cond1 (i : grid0.Coords) : BitVec 1 :=
  let arg1 : BitVec 32 := BitVec.ofNat 32 (i 1).val
  let c55_i32 : BitVec 32 := 55#32
  let v942 : BitVec 1 := Scalar.cmpi .eq arg1 c55_i32
  let v943 : BitVec 32 := Scalar.extui v942
  let c0_i32_350 : BitVec 32 := 0#32
  let v944 : BitVec 1 := Scalar.cmpi .ne v943 c0_i32_350
  v944

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  ![c0_i32.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x640x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x288x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x832x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2016x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S7168x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S7168x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2016x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2016x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x56x2016 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x56x2016 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferenceIdeal.lean ====
abbrev S6x640x7168 : Shape := ⟨3, ![6, 640, 7168]⟩
abbrev S6x288x7168 : Shape := ⟨3, ![6, 288, 7168]⟩
abbrev S6x1664x7168 : Shape := ⟨3, ![6, 1664, 7168]⟩
abbrev S6x256x7168 : Shape := ⟨3, ![6, 256, 7168]⟩
abbrev S6x2016x1 : Shape := ⟨3, ![6, 2016, 1]⟩
abbrev S7168x2x56x128 : Shape := ⟨4, ![7168, 2, 56, 128]⟩
abbrev S2x56x128 : Shape := ⟨3, ![2, 56, 128]⟩
abbrev S6x2016x7168 : Shape := ⟨3, ![6, 2016, 7168]⟩
abbrev S6x56x2016 : Shape := ⟨3, ![6, 56, 2016]⟩
abbrev S6x832x7168 : Shape := ⟨3, ![6, 832, 7168]⟩
abbrev S12096x7168 : Shape := ⟨2, ![12096, 7168]⟩
abbrev S7168x14336 : Shape := ⟨2, ![7168, 14336]⟩
abbrev S12096x14336 : Shape := ⟨2, ![12096, 14336]⟩
abbrev S6x2016x2x56x128 : Shape := ⟨5, ![6, 2016, 2, 56, 128]⟩
abbrev S6x2016x1x1x1 : Shape := ⟨5, ![6, 2016, 1, 1, 1]⟩
abbrev S1x1x2x56x128 : Shape := ⟨5, ![1, 1, 2, 56, 128]⟩
abbrev S6x2016x1x56x128 : Shape := ⟨5, ![6, 2016, 1, 56, 128]⟩
abbrev S6x2016x56x128 : Shape := ⟨4, ![6, 2016, 56, 128]⟩
abbrev S6x2016x56 : Shape := ⟨3, ![6, 2016, 56]⟩
abbrev S6x2016x56x1 : Shape := ⟨4, ![6, 2016, 56, 1]⟩
abbrev S6x56x2016x128 : Shape := ⟨4, ![6, 56, 2016, 128]⟩
abbrev S6x256x56x128 : Shape := ⟨4, ![6, 256, 56, 128]⟩
abbrev S6x56x256x128 : Shape := ⟨4, ![6, 56, 256, 128]⟩
abbrev S336x256x128 : Shape := ⟨3, ![336, 256, 128]⟩
abbrev S336x2016x128 : Shape := ⟨3, ![336, 2016, 128]⟩
abbrev S336x256x2016 : Shape := ⟨3, ![336, 256, 2016]⟩
abbrev S6x56x256x2016 : Shape := ⟨4, ![6, 56, 256, 2016]⟩
abbrev S6x56x1x2016 : Shape := ⟨4, ![6, 56, 1, 2016]⟩
abbrev S1x1x256x2016 : Shape := ⟨4, ![1, 1, 256, 2016]⟩
abbrev S6x56x256 : Shape := ⟨3, ![6, 56, 256]⟩
abbrev S6x56x256x1 : Shape := ⟨4, ![6, 56, 256, 1]⟩

abbrev nBuf : Space → Nat
  | .hbm => 13
  | .vmem => 13
  | .smem => 0
  | _ => 0

abbrev bufTy : (tb : Table) → Fin (tcTables nBuf tb) → BufTy
  | .hbm, ⟨0, _⟩ => ⟨S6x640x7168, .fp8e4m3⟩
  | .hbm, ⟨1, _⟩ => ⟨S6x288x7168, .fp8e4m3⟩
  | .hbm, ⟨2, _⟩ => ⟨S6x1664x7168, .fp8e4m3⟩
  | .hbm, ⟨3, _⟩ => ⟨S6x256x7168, .fp8e4m3⟩
  | .hbm, ⟨4, _⟩ => ⟨S6x2016x1, .f32⟩
  | .hbm, ⟨5, _⟩ => ⟨S7168x2x56x128, .fp8e4m3⟩
  | .hbm, ⟨6, _⟩ => ⟨S2x56x128, .f32⟩
  | .hbm, ⟨7, _⟩ => ⟨S6x256x7168, .bf16⟩
  | .hbm, ⟨8, _⟩ => ⟨S6x2016x7168, .fp8e4m3⟩
  | .hbm, ⟨9, _⟩ => ⟨S6x2016x7168, .fp8e4m3⟩
  | .hbm, ⟨10, _⟩ => ⟨S6x56x2016, .f32⟩
  | .hbm, ⟨11, _⟩ => ⟨S6x56x2016, .f32⟩
  | .hbm, ⟨12, _⟩ => ⟨S6x256x7168, .bf16⟩
  | .local _ .vmem, ⟨0, _⟩ => ⟨S6x640x7168, .fp8e4m3⟩
  | .local _ .vmem, ⟨1, _⟩ => ⟨S6x288x7168, .fp8e4m3⟩
  | .local _ .vmem, ⟨2, _⟩ => ⟨S6x1664x7168, .fp8e4m3⟩
  | .local _ .vmem, ⟨3, _⟩ => ⟨S6x256x7168, .fp8e4m3⟩
  | .local _ .vmem, ⟨4, _⟩ => ⟨S6x2016x1, .f32⟩
  | .local _ .vmem, ⟨5, _⟩ => ⟨S7168x2x56x128, .fp8e4m3⟩
  | .local _ .vmem, ⟨6, _⟩ => ⟨S2x56x128, .f32⟩
  | .local _ .vmem, ⟨7, _⟩ => ⟨S6x256x7168, .bf16⟩
  | .local _ .vmem, ⟨8, _⟩ => ⟨S6x2016x7168, .fp8e4m3⟩
  | .local _ .vmem, ⟨9, _⟩ => ⟨S6x2016x7168, .fp8e4m3⟩
  | .local _ .vmem, ⟨10, _⟩ => ⟨S6x56x2016, .f32⟩
  | .local _ .vmem, ⟨11, _⟩ => ⟨S6x56x2016, .f32⟩
  | .local _ .vmem, ⟨12, _⟩ => ⟨S6x256x7168, .bf16⟩
  | _, _ => ⟨S6x640x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S6x640x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x288x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1664x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2016x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x2x56x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x56x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x2016x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x2016x7168 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x56x2016 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x56x2016 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x256x7168 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== KernelX.lean ====
abbrev S6x256x7168 : Shape := ⟨3, ![6, 256, 7168]⟩
abbrev S6x256x1 : Shape := ⟨3, ![6, 256, 1]⟩
abbrev S1x256x7168 : Shape := ⟨3, ![1, 256, 7168]⟩
abbrev S1x256x1 : Shape := ⟨3, ![1, 256, 1]⟩
abbrev S256x7168 : Shape := ⟨2, ![256, 7168]⟩
abbrev S256 : Shape := ⟨1, ![256]⟩
abbrev S256x1 : Shape := ⟨2, ![256, 1]⟩

abbrev nBuf : Space → Nat
  | .hbm => 3
  | .vmem => 6
  | .smem => 0
  | _ => 0

abbrev bufTy : (tb : Table) → Fin (tcTables nBuf tb) → BufTy
  | .hbm, ⟨0, _⟩ => ⟨S6x256x7168, .bf16⟩
  | .hbm, ⟨1, _⟩ => ⟨S6x256x7168, .fp8e4m3⟩
  | .hbm, ⟨2, _⟩ => ⟨S6x256x1, .f32⟩
  | .local _ .vmem, ⟨0, _⟩ => ⟨S1x256x7168, .bf16⟩
  | .local _ .vmem, ⟨1, _⟩ => ⟨S1x256x7168, .bf16⟩
  | .local _ .vmem, ⟨2, _⟩ => ⟨S1x256x7168, .fp8e4m3⟩
  | .local _ .vmem, ⟨3, _⟩ => ⟨S1x256x7168, .fp8e4m3⟩
  | .local _ .vmem, ⟨4, _⟩ => ⟨S1x256x1, .f32⟩
  | .local _ .vmem, ⟨5, _⟩ => ⟨S1x256x1, .f32⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceXIdeal.lean ====
abbrev S6x256x7168 : Shape := ⟨3, ![6, 256, 7168]⟩
abbrev S6x256x1 : Shape := ⟨3, ![6, 256, 1]⟩
abbrev S6x256 : Shape := ⟨2, ![6, 256]⟩

abbrev nBuf : Space → Nat
  | .hbm => 3
  | .vmem => 3
  | .smem => 0
  | _ => 0

abbrev bufTy : (tb : Table) → Fin (tcTables nBuf tb) → BufTy
  | .hbm, ⟨0, _⟩ => ⟨S6x256x7168, .bf16⟩
  | .hbm, ⟨1, _⟩ => ⟨S6x256x7168, .fp8e4m3⟩
  | .hbm, ⟨2, _⟩ => ⟨S6x256x1, .f32⟩
  | .local _ .vmem, ⟨0, _⟩ => ⟨S6x256x7168, .bf16⟩
  | .local _ .vmem, ⟨1, _⟩ => ⟨S6x256x7168, .fp8e4m3⟩
  | .local _ .vmem, ⟨2, _⟩ => ⟨S6x256x1, .f32⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6x256x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelNew.lean ====
abbrev S6x288x7168 : Shape := ⟨3, ![6, 288, 7168]⟩
abbrev S6x1664x7168 : Shape := ⟨3, ![6, 1664, 7168]⟩
abbrev S6x277x7168 : Shape := ⟨3, ![6, 277, 7168]⟩
abbrev S6x288x1 : Shape := ⟨3, ![6, 288, 1]⟩
abbrev S1x288x7168 : Shape := ⟨3, ![1, 288, 7168]⟩
abbrev S1x32x7168 : Shape := ⟨3, ![1, 32, 7168]⟩
abbrev S1x277x7168 : Shape := ⟨3, ![1, 277, 7168]⟩
abbrev S1x288x1 : Shape := ⟨3, ![1, 288, 1]⟩
abbrev S288x7168 : Shape := ⟨2, ![288, 7168]⟩
abbrev S288 : Shape := ⟨1, ![288]⟩
abbrev S288x1 : Shape := ⟨2, ![288, 1]⟩
abbrev S1x1x7168 : Shape := ⟨3, ![1, 1, 7168]⟩
abbrev S1x7168 : Shape := ⟨2, ![1, 7168]⟩
abbrev S277x7168 : Shape := ⟨2, ![277, 7168]⟩

abbrev nBuf : Space → Nat
  | .hbm => 5
  | .vmem => 10
  | .smem => 0
  | _ => 0

abbrev bufTy : (tb : Table) → Fin (tcTables nBuf tb) → BufTy
  | .hbm, ⟨0, _⟩ => ⟨S6x288x7168, .f32⟩
  | .hbm, ⟨1, _⟩ => ⟨S6x1664x7168, .fp8e4m3⟩
  | .hbm, ⟨2, _⟩ => ⟨S6x288x7168, .fp8e4m3⟩
  | .hbm, ⟨3, _⟩ => ⟨S6x277x7168, .fp8e4m3⟩
  | .hbm, ⟨4, _⟩ => ⟨S6x288x1, .f32⟩
  | .local _ .vmem, ⟨0, _⟩ => ⟨S1x288x7168, .f32⟩
  | .local _ .vmem, ⟨1, _⟩ => ⟨S1x288x7168, .f32⟩
  | .local _ .vmem, ⟨2, _⟩ => ⟨S1x32x7168, .fp8e4m3⟩
  | .local _ .vmem, ⟨3, _⟩ => ⟨S1x32x7168, .fp8e4m3⟩
  | .local _ .vmem, ⟨4, _⟩ => ⟨S1x288x7168, .fp8e4m3⟩
  | .local _ .vmem, ⟨5, _⟩ => ⟨S1x288x7168, .fp8e4m3⟩
  | .local _ .vmem, ⟨6, _⟩ => ⟨S1x277x7168, .fp8e4m3⟩
  | .local _ .vmem, ⟨7, _⟩ => ⟨S1x277x7168, .fp8e4m3⟩
  | .local _ .vmem, ⟨8, _⟩ => ⟨S1x288x1, .f32⟩
  | .local _ .vmem, ⟨9, _⟩ => ⟨S1x288x1, .f32⟩
  | _, _ => ⟨S6x288x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c25_i32 : BitVec 32 := 25#32
  let c0_i32 : BitVec 32 := 0#32
  let c0_i32_0 : BitVec 32 := 0#32
  ![arg0.toNat, c25_i32.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x288x7168 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x288x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x277x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x288x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNewIdeal.lean ====
abbrev S6x288x7168 : Shape := ⟨3, ![6, 288, 7168]⟩
abbrev S6x1664x7168 : Shape := ⟨3, ![6, 1664, 7168]⟩
abbrev S6x277x7168 : Shape := ⟨3, ![6, 277, 7168]⟩
abbrev S6x288x1 : Shape := ⟨3, ![6, 288, 1]⟩
abbrev S6x288 : Shape := ⟨2, ![6, 288]⟩
abbrev S6x10x7168 : Shape := ⟨3, ![6, 10, 7168]⟩
abbrev S6x1x7168 : Shape := ⟨3, ![6, 1, 7168]⟩

abbrev nBuf : Space → Nat
  | .hbm => 5
  | .vmem => 5
  | .smem => 0
  | _ => 0

abbrev bufTy : (tb : Table) → Fin (tcTables nBuf tb) → BufTy
  | .hbm, ⟨0, _⟩ => ⟨S6x288x7168, .f32⟩
  | .hbm, ⟨1, _⟩ => ⟨S6x1664x7168, .fp8e4m3⟩
  | .hbm, ⟨2, _⟩ => ⟨S6x288x7168, .fp8e4m3⟩
  | .hbm, ⟨3, _⟩ => ⟨S6x277x7168, .fp8e4m3⟩
  | .hbm, ⟨4, _⟩ => ⟨S6x288x1, .f32⟩
  | .local _ .vmem, ⟨0, _⟩ => ⟨S6x288x7168, .f32⟩
  | .local _ .vmem, ⟨1, _⟩ => ⟨S6x1664x7168, .fp8e4m3⟩
  | .local _ .vmem, ⟨2, _⟩ => ⟨S6x288x7168, .fp8e4m3⟩
  | .local _ .vmem, ⟨3, _⟩ => ⟨S6x277x7168, .fp8e4m3⟩
  | .local _ .vmem, ⟨4, _⟩ => ⟨S6x288x1, .f32⟩
  | _, _ => ⟨S6x288x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x288x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1664x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x288x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x277x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x288x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelQ.lean ====
abbrev S6x256x7168 : Shape := ⟨3, ![6, 256, 7168]⟩
abbrev S6x256 : Shape := ⟨2, ![6, 256]⟩
abbrev S7168x56x128 : Shape := ⟨3, ![7168, 56, 128]⟩
abbrev S56x128 : Shape := ⟨2, ![56, 128]⟩
abbrev S7168x7168 : Shape := ⟨2, ![7168, 7168]⟩
abbrev S1536x7168 : Shape := ⟨2, ![1536, 7168]⟩
abbrev S1536x1 : Shape := ⟨2, ![1536, 1]⟩
abbrev S1x7168 : Shape := ⟨2, ![1, 7168]⟩
abbrev S7168x256 : Shape := ⟨2, ![7168, 256]⟩
abbrev S1x256 : Shape := ⟨2, ![1, 256]⟩
abbrev S1536x256 : Shape := ⟨2, ![1536, 256]⟩

abbrev nBuf : Space → Nat
  | .hbm => 9
  | .vmem => 8
  | .smem => 0
  | _ => 0

abbrev bufTy : (tb : Table) → Fin (tcTables nBuf tb) → BufTy
  | .hbm, ⟨0, _⟩ => ⟨S6x256x7168, .fp8e4m3⟩
  | .hbm, ⟨1, _⟩ => ⟨S6x256, .f32⟩
  | .hbm, ⟨2, _⟩ => ⟨S7168x56x128, .fp8e4m3⟩
  | .hbm, ⟨3, _⟩ => ⟨S56x128, .f32⟩
  | .hbm, ⟨4, _⟩ => ⟨S7168x7168, .fp8e4m3⟩
  | .hbm, ⟨5, _⟩ => ⟨S1536x7168, .fp8e4m3⟩
  | .hbm, ⟨6, _⟩ => ⟨S1536x1, .f32⟩
  | .hbm, ⟨7, _⟩ => ⟨S1x7168, .f32⟩
  | .hbm, ⟨8, _⟩ => ⟨S1536x7168, .bf16⟩
  | .local _ .vmem, ⟨0, _⟩ => ⟨S1536x7168, .fp8e4m3⟩
  | .local _ .vmem, ⟨1, _⟩ => ⟨S1536x1, .f32⟩
  | .local _ .vmem, ⟨2, _⟩ => ⟨S7168x256, .fp8e4m3⟩
  | .local _ .vmem, ⟨3, _⟩ => ⟨S7168x256, .fp8e4m3⟩
  | .local _ .vmem, ⟨4, _⟩ => ⟨S1x256, .f32⟩
  | .local _ .vmem, ⟨5, _⟩ => ⟨S1x256, .f32⟩
  | .local _ .vmem, ⟨6, _⟩ => ⟨S1536x256, .bf16⟩
  | .local _ .vmem, ⟨7, _⟩ => ⟨S1536x256, .bf16⟩
  | _, _ => ⟨S6x256x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S7168x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceQIdeal.lean ====
abbrev S6x256x7168 : Shape := ⟨3, ![6, 256, 7168]⟩
abbrev S6x256 : Shape := ⟨2, ![6, 256]⟩
abbrev S7168x56x128 : Shape := ⟨3, ![7168, 56, 128]⟩
abbrev S56x128 : Shape := ⟨2, ![56, 128]⟩
abbrev S1536x7168 : Shape := ⟨2, ![1536, 7168]⟩
abbrev S7168x7168 : Shape := ⟨2, ![7168, 7168]⟩
abbrev S6x256x56x128 : Shape := ⟨4, ![6, 256, 56, 128]⟩
abbrev S6x256x1x1 : Shape := ⟨4, ![6, 256, 1, 1]⟩
abbrev S1x1x56x128 : Shape := ⟨4, ![1, 1, 56, 128]⟩

abbrev nBuf : Space → Nat
  | .hbm => 5
  | .vmem => 5
  | .smem => 0
  | _ => 0

abbrev bufTy : (tb : Table) → Fin (tcTables nBuf tb) → BufTy
  | .hbm, ⟨0, _⟩ => ⟨S6x256x7168, .fp8e4m3⟩
  | .hbm, ⟨1, _⟩ => ⟨S6x256, .f32⟩
  | .hbm, ⟨2, _⟩ => ⟨S7168x56x128, .fp8e4m3⟩
  | .hbm, ⟨3, _⟩ => ⟨S56x128, .f32⟩
  | .hbm, ⟨4, _⟩ => ⟨S1536x7168, .bf16⟩
  | .local _ .vmem, ⟨0, _⟩ => ⟨S6x256x7168, .fp8e4m3⟩
  | .local _ .vmem, ⟨1, _⟩ => ⟨S6x256, .f32⟩
  | .local _ .vmem, ⟨2, _⟩ => ⟨S7168x56x128, .fp8e4m3⟩
  | .local _ .vmem, ⟨3, _⟩ => ⟨S56x128, .f32⟩
  | .local _ .vmem, ⟨4, _⟩ => ⟨S1536x7168, .bf16⟩
  | _, _ => ⟨S6x256x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x56x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KDefs.lean ====
/- What one grid step of the attention kernel computes, as functions of the blocks staged for it, and the run of its
   body: the code windows, the output window and the three scratch buffers after the step, in terms of the staged
   blocks and of what the two scale scratches held before it. -/
module

public import proofs.«01_k».proof.Proof.Gen.Kernel.Frame
public import proofs.«01_k».proof.Proof.Gen.Kernel.Skeleton

@[expose] public section

set_option maxRecDepth 16384

noncomputable section

namespace Cert.Kernel.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The blocks staged for one grid step: the four context pieces, their scales, the key and the value columns of the
    weight with their scales, and the queries. -/
structure Blk (F : FTy → Type) [FloatOps F] where
  cm : Vec F S1x640x7168 .fp8e4m3
  nw : Vec F S1x288x7168 .fp8e4m3
  mm : Vec F S1x832x7168 .fp8e4m3
  xc : Vec F S1x256x7168 .fp8e4m3
  csc : Vec F S1x2016x1 .f32
  wk : Vec F S7168x128 .fp8e4m3
  wv : Vec F S7168x128 .fp8e4m3
  sk : Vec F S1x1x128 .f32
  sv : Vec F S1x1x128 .f32
  q : Vec F S1x256x128 .bf16

/-! ## The rectangles the body loads and stores -/

abbrev r_S7168x128_S7168x128_0_0 : Rect S7168x128 := Rect.unit (s := S7168x128) ![0, 0] S7168x128.size inb_S7168x128_S7168x128_0_0
abbrev r_S1x256x128_S1x256x128_0_0_0 : Rect S1x256x128 := Rect.unit (s := S1x256x128) ![0, 0, 0] S1x256x128.size inb_S1x256x128_S1x256x128_0_0_0
abbrev r_S1x640x7168_S1x640x7168_0_0_0 : Rect S1x640x7168 := Rect.unit (s := S1x640x7168) ![0, 0, 0] S1x640x7168.size inb_S1x640x7168_S1x640x7168_0_0_0
abbrev r_S1x2016x1_S1x640x1_0_0_0 : Rect S1x2016x1 := Rect.unit (s := S1x2016x1) ![0, 0, 0] S1x640x1.size inb_S1x2016x1_S1x640x1_0_0_0
abbrev r_S1x1x128_S1x1x128_0_0_0 : Rect S1x1x128 := Rect.unit (s := S1x1x128) ![0, 0, 0] S1x1x128.size inb_S1x1x128_S1x1x128_0_0_0
abbrev r_S1x2016x128_S1x640x128_0_0_0 : Rect S1x2016x128 := Rect.unit (s := S1x2016x128) ![0, 0, 0] S1x640x128.size inb_S1x2016x128_S1x640x128_0_0_0
abbrev r_S2016x128_S640x128_0_0 : Rect S2016x128 := Rect.unit (s := S2016x128) ![0, 0] S640x128.size inb_S2016x128_S640x128_0_0
abbrev r_S2016x256_S640x256_0_0 : Rect S2016x256 := Rect.unit (s := S2016x256) ![0, 0] S640x256.size inb_S2016x256_S640x256_0_0
abbrev r_S1x288x7168_S1x288x7168_0_0_0 : Rect S1x288x7168 := Rect.unit (s := S1x288x7168) ![0, 0, 0] S1x288x7168.size inb_S1x288x7168_S1x288x7168_0_0_0
abbrev r_S1x2016x1_S1x288x1_0_640_0 : Rect S1x2016x1 := Rect.unit (s := S1x2016x1) ![0, 640, 0] S1x288x1.size inb_S1x2016x1_S1x288x1_0_640_0
abbrev r_S1x2016x128_S1x288x128_0_640_0 : Rect S1x2016x128 := Rect.unit (s := S1x2016x128) ![0, 640, 0] S1x288x128.size inb_S1x2016x128_S1x288x128_0_640_0
abbrev r_S2016x128_S288x128_640_0 : Rect S2016x128 := Rect.unit (s := S2016x128) ![640, 0] S288x128.size inb_S2016x128_S288x128_640_0
abbrev r_S2016x256_S288x256_640_0 : Rect S2016x256 := Rect.unit (s := S2016x256) ![640, 0] S288x256.size inb_S2016x256_S288x256_640_0
abbrev r_S1x832x7168_S1x832x7168_0_0_0 : Rect S1x832x7168 := Rect.unit (s := S1x832x7168) ![0, 0, 0] S1x832x7168.size inb_S1x832x7168_S1x832x7168_0_0_0
abbrev r_S1x2016x1_S1x832x1_0_928_0 : Rect S1x2016x1 := Rect.unit (s := S1x2016x1) ![0, 928, 0] S1x832x1.size inb_S1x2016x1_S1x832x1_0_928_0
abbrev r_S1x2016x128_S1x832x128_0_928_0 : Rect S1x2016x128 := Rect.unit (s := S1x2016x128) ![0, 928, 0] S1x832x128.size inb_S1x2016x128_S1x832x128_0_928_0
abbrev r_S2016x128_S832x128_928_0 : Rect S2016x128 := Rect.unit (s := S2016x128) ![928, 0] S832x128.size inb_S2016x128_S832x128_928_0
abbrev r_S2016x256_S832x256_928_0 : Rect S2016x256 := Rect.unit (s := S2016x256) ![928, 0] S832x256.size inb_S2016x256_S832x256_928_0
abbrev r_S1x256x7168_S1x256x7168_0_0_0 : Rect S1x256x7168 := Rect.unit (s := S1x256x7168) ![0, 0, 0] S1x256x7168.size inb_S1x256x7168_S1x256x7168_0_0_0
abbrev r_S1x2016x1_S1x256x1_0_1760_0 : Rect S1x2016x1 := Rect.unit (s := S1x2016x1) ![0, 1760, 0] S1x256x1.size inb_S1x2016x1_S1x256x1_0_1760_0
abbrev r_S1x2016x128_S1x256x128_0_1760_0 : Rect S1x2016x128 := Rect.unit (s := S1x2016x128) ![0, 1760, 0] S1x256x128.size inb_S1x2016x128_S1x256x128_0_1760_0
abbrev r_S2016x128_S256x128_1760_0 : Rect S2016x128 := Rect.unit (s := S2016x128) ![1760, 0] S256x128.size inb_S2016x128_S256x128_1760_0
abbrev r_S2016x256_S256x256_1760_0 : Rect S2016x256 := Rect.unit (s := S2016x256) ![1760, 0] S256x256.size inb_S2016x256_S256x256_1760_0
abbrev r_S2016x256_S2016x256_0_0 : Rect S2016x256 := Rect.unit (s := S2016x256) ![0, 0] S2016x256.size inb_S2016x256_S2016x256_0_0
abbrev r_S1x2016x128_S1x2016x128_0_0_0 : Rect S1x2016x128 := Rect.unit (s := S1x2016x128) ![0, 0, 0] S1x2016x128.size inb_S1x2016x128_S1x2016x128_0_0_0
abbrev r_S2016x128_S2016x128_0_0 : Rect S2016x128 := Rect.unit (s := S2016x128) ![0, 0] S2016x128.size inb_S2016x128_S2016x128_0_0
abbrev r_S1x56x2016_S1x56x2016_0_0_0 : Rect S1x56x2016 := Rect.unit (s := S1x56x2016) ![0, 0, 0] S1x56x2016.size inb_S1x56x2016_S1x56x2016_0_0_0

/-! ## The values of one step -/

/-- The lane numbers. -/
def lanes : IVec S1x128 32 := iota .tc S1x128 32 [1] iota_S1x128_d1_w32
def b_v4 (X : Blk F) : FVec F S7168x256 .fp8e4m3 :=
  k0_pay4 (View.ld X.wk r_S7168x128_S7168x128_0_0) (View.ld X.wv r_S7168x128_S7168x128_0_0)
def b_v7 (X : Blk F) : FVec F S256x128 .bf16 :=
  k0_pay5 (View.ld X.q r_S1x256x128_S1x256x128_0_0_0)
def b_v14 (X : Blk F) : FVec F S640x256 .f32 :=
  k0_pay6 (View.ld X.wk r_S7168x128_S7168x128_0_0) (View.ld X.wv r_S7168x128_S7168x128_0_0) (View.ld X.cm r_S1x640x7168_S1x640x7168_0_0_0) (View.ld X.csc r_S1x2016x1_S1x640x1_0_0_0)
def b_v19 (X : Blk F) : FVec F S640x128 .f32 :=
  k0_pay7 (View.ld X.wk r_S7168x128_S7168x128_0_0) (View.ld X.wv r_S7168x128_S7168x128_0_0) (View.ld X.cm r_S1x640x7168_S1x640x7168_0_0_0) (View.ld X.csc r_S1x2016x1_S1x640x1_0_0_0) (View.ld X.sk r_S1x1x128_S1x1x128_0_0_0)
def b_v24 (X : Blk F) : FVec F S640x1 .f32 :=
  k0_pay8 (View.ld X.wk r_S7168x128_S7168x128_0_0) (View.ld X.wv r_S7168x128_S7168x128_0_0) (View.ld X.cm r_S1x640x7168_S1x640x7168_0_0_0) (View.ld X.csc r_S1x2016x1_S1x640x1_0_0_0) (View.ld X.sk r_S1x1x128_S1x1x128_0_0_0)
def b_v32 (X : Blk F) : IVec S640x1 32 :=
  k0_pay9 (View.ld X.wk r_S7168x128_S7168x128_0_0) (View.ld X.wv r_S7168x128_S7168x128_0_0) (View.ld X.cm r_S1x640x7168_S1x640x7168_0_0_0) (View.ld X.csc r_S1x2016x1_S1x640x1_0_0_0) (View.ld X.sk r_S1x1x128_S1x1x128_0_0_0)
def b_v34 (X : Blk F) : IVec S640x1 32 :=
  k0_pay10 (View.ld X.wk r_S7168x128_S7168x128_0_0) (View.ld X.wv r_S7168x128_S7168x128_0_0) (View.ld X.cm r_S1x640x7168_S1x640x7168_0_0_0) (View.ld X.csc r_S1x2016x1_S1x640x1_0_0_0) (View.ld X.sk r_S1x1x128_S1x1x128_0_0_0)
def b_v81 (X : Blk F) : IVec S640x1 32 :=
  (k0_pay11 (b_v24 X) (b_v32 X) (b_v34 X))
def b_v92 (X : Blk F) : FVec F S640x1 .f32 :=
  k0_pay13 (F := F) (b_v81 X)
def b_v120 (X : Blk F) : FVec F S640x256 .f32 :=
  k0_pay17 (b_v7 X) (b_v19 X) (b_v81 X)
def b_v121 (X : Blk F) : FVec F S640x1 .f32 :=
  k0_pay18 (F := F)
def b_v132 (X : Blk F) : FVec F S640x128 .f32 :=
  k0_pay20 (b_v14 X) (View.ld X.sv r_S1x1x128_S1x1x128_0_0_0)
def b_v137 (X : Blk F) : FVec F S640x1 .f32 :=
  k0_pay21 (b_v14 X) (View.ld X.sv r_S1x1x128_S1x1x128_0_0_0)
def b_v159 (X : Blk F) : IVec S640x1 32 :=
  k0_pay22 (b_v14 X) (View.ld X.sv r_S1x1x128_S1x1x128_0_0_0)
def b_v161 (X : Blk F) : IVec S640x1 32 :=
  k0_pay23 (b_v14 X) (View.ld X.sv r_S1x1x128_S1x1x128_0_0_0)
def b_v164 (X : Blk F) : FVec F S640x1 .f32 :=
  k0_pay24 (b_v14 X) (View.ld X.sv r_S1x1x128_S1x1x128_0_0_0)
def b_v205 (X : Blk F) : FVec F S640x1 .f32 :=
  k0_pay26 (b_v137 X) (b_v159 X) (b_v161 X) (b_v164 X)
def b_v209 (X : Blk F) : IVec S640x1 32 :=
  k0_pay27 (b_v137 X) (b_v159 X) (b_v161 X) (b_v164 X)
def b_v238 (X : Blk F) : FVec F S288x256 .f32 :=
  k0_pay30 (b_v4 X) (View.ld X.nw r_S1x288x7168_S1x288x7168_0_0_0) (View.ld X.csc r_S1x2016x1_S1x288x1_0_640_0)
def b_v243 (X : Blk F) : FVec F S288x128 .f32 :=
  k0_pay31 (b_v4 X) (View.ld X.nw r_S1x288x7168_S1x288x7168_0_0_0) (View.ld X.csc r_S1x2016x1_S1x288x1_0_640_0) (View.ld X.sk r_S1x1x128_S1x1x128_0_0_0)
def b_v246 (X : Blk F) : FVec F S288x1 .f32 :=
  k0_pay32 (b_v4 X) (View.ld X.nw r_S1x288x7168_S1x288x7168_0_0_0) (View.ld X.csc r_S1x2016x1_S1x288x1_0_640_0) (View.ld X.sk r_S1x1x128_S1x1x128_0_0_0)
def b_v248 (X : Blk F) : FVec F S288x1 .f32 :=
  k0_pay33 (b_v246 X) (Scalar.ofBits (F := F) .f32 0x3B124925#32)
def b_v291 (X : Blk F) : IVec S288x1 32 :=
  k0_pay34 (b_v246 X) (Scalar.ofBits (F := F) .f32 0x3B124925#32)
def b_v292 (X : Blk F) : IVec S288x1 32 :=
  k0_pay35
def b_v316 (X : Blk F) : FVec F S288x1 .f32 :=
  k0_pay37 (b_v248 X) (b_v291 X) (b_v292 X)
def b_v328 (X : Blk F) : FVec F S288x128 .fp8e4m3 :=
  k0_pay38 (b_v243 X) (b_v248 X) (b_v291 X) (b_v292 X)
def b_v333 (a : BitVec 32) : IVec S1x128 1 := k0_pay40 a lanes
def b_v356 (X : Blk F) : FVec F S288x128 .f32 :=
  k0_pay43 (b_v238 X) (View.ld X.sv r_S1x1x128_S1x1x128_0_0_0)
def b_v361 (X : Blk F) : FVec F S288x1 .f32 :=
  k0_pay44 (b_v238 X) (View.ld X.sv r_S1x1x128_S1x1x128_0_0_0)
def b_v376 (X : Blk F) : IVec S288x1 32 :=
  k0_pay45 (b_v238 X) (View.ld X.sv r_S1x1x128_S1x1x128_0_0_0)
def b_v420 (X : Blk F) : IVec S288x1 32 :=
  k0_pay46 (b_v361 X) (b_v376 X)
def b_v422 (X : Blk F) : IVec S288x1 1 :=
  k0_pay47 (b_v361 X) (b_v376 X)
def b_v429 (X : Blk F) : FVec F S288x1 .f32 :=
  k0_pay49 (F := F) (b_v420 X) (b_v422 X)
def b_v458 (X : Blk F) : FVec F S832x256 .f32 :=
  k0_pay52 (b_v4 X) (View.ld X.mm r_S1x832x7168_S1x832x7168_0_0_0)
def b_v462 (X : Blk F) : FVec F S832x256 .f32 :=
  k0_pay53 (b_v458 X) (View.ld X.csc r_S1x2016x1_S1x832x1_0_928_0)
def b_v467 (X : Blk F) : FVec F S832x128 .f32 :=
  k0_pay54 (b_v458 X) (View.ld X.csc r_S1x2016x1_S1x832x1_0_928_0) (View.ld X.sk r_S1x1x128_S1x1x128_0_0_0)
def b_v472 (X : Blk F) : FVec F S832x1 .f32 :=
  k0_pay55 (b_v458 X) (View.ld X.csc r_S1x2016x1_S1x832x1_0_928_0) (View.ld X.sk r_S1x1x128_S1x1x128_0_0_0)
def b_v501 (X : Blk F) : IVec S832x1 32 :=
  k0_pay56 (b_v458 X) (View.ld X.csc r_S1x2016x1_S1x832x1_0_928_0) (View.ld X.sk r_S1x1x128_S1x1x128_0_0_0)
def b_v503 (X : Blk F) : IVec S832x1 32 :=
  k0_pay57 (b_v458 X) (View.ld X.csc r_S1x2016x1_S1x832x1_0_928_0) (View.ld X.sk r_S1x1x128_S1x1x128_0_0_0)
def b_v540 (X : Blk F) : FVec F S832x1 .f32 :=
  k0_pay59 (b_v472 X) (b_v501 X) (b_v503 X) 23#32
def b_v547 (X : Blk F) : FVec F S832x128 .f32 :=
  k0_pay60 (b_v467 X) (b_v472 X) (b_v501 X) (b_v503 X) 23#32
def b_v548 (X : Blk F) : FVec F S832x128 .f32 :=
  k0_pay61 (F := F)
def b_v580 (X : Blk F) : FVec F S832x128 .f32 :=
  k0_pay66 (b_v462 X) (View.ld X.sv r_S1x1x128_S1x1x128_0_0_0)
def b_v585 (X : Blk F) : FVec F S832x1 .f32 :=
  k0_pay67 (b_v462 X) (View.ld X.sv r_S1x1x128_S1x1x128_0_0_0)
def b_v586 (X : Blk F) : IVec S832x1 32 :=
  k0_pay68
def b_v587 (X : Blk F) : IVec S832x1 32 :=
  k0_pay69
def b_v628 (X : Blk F) : IVec S832x1 32 :=
  k0_pay70 (b_v585 X) (b_v586 X) (b_v587 X)
def b_v630 (X : Blk F) : IVec S832x1 32 :=
  k0_pay71 (b_v585 X) (b_v586 X) (b_v587 X)
def b_v634 (X : Blk F) : IVec S832x1 1 :=
  k0_pay72 (b_v585 X) (b_v586 X) (b_v587 X)
def b_v653 (X : Blk F) : FVec F S832x1 .f32 :=
  k0_pay74 (b_v585 X) (b_v628 X) (b_v630 X) (b_v634 X)
def b_v676 (X : Blk F) (a : BitVec 32) (g : Vec F S2016x128 .f32) : FVec F S832x128 .f32 :=
  k0_pay76 a lanes (b_v585 X) (b_v628 X) (b_v630 X) (b_v634 X) (View.ld g r_S2016x128_S832x128_928_0)
def b_v686 (X : Blk F) : FVec F S256x256 .f32 :=
  k0_pay78 (b_v4 X) (View.ld X.xc r_S1x256x7168_S1x256x7168_0_0_0) (View.ld X.csc r_S1x2016x1_S1x256x1_0_1760_0)
def b_v691 (X : Blk F) : FVec F S256x128 .f32 :=
  k0_pay79 (b_v4 X) (View.ld X.xc r_S1x256x7168_S1x256x7168_0_0_0) (View.ld X.csc r_S1x2016x1_S1x256x1_0_1760_0) (View.ld X.sk r_S1x1x128_S1x1x128_0_0_0)
def b_v696 (X : Blk F) : FVec F S256x1 .f32 :=
  k0_pay80 (b_v4 X) (View.ld X.xc r_S1x256x7168_S1x256x7168_0_0_0) (View.ld X.csc r_S1x2016x1_S1x256x1_0_1760_0) (View.ld X.sk r_S1x1x128_S1x1x128_0_0_0)
def b_v711 (X : Blk F) : IVec S256x1 32 :=
  k0_pay81 (b_v4 X) (View.ld X.xc r_S1x256x7168_S1x256x7168_0_0_0) (View.ld X.csc r_S1x2016x1_S1x256x1_0_1760_0) (View.ld X.sk r_S1x1x128_S1x1x128_0_0_0)
def b_v713 (X : Blk F) : IVec S256x1 32 :=
  k0_pay82 (b_v4 X) (View.ld X.xc r_S1x256x7168_S1x256x7168_0_0_0) (View.ld X.csc r_S1x2016x1_S1x256x1_0_1760_0) (View.ld X.sk r_S1x1x128_S1x1x128_0_0_0)
def b_v715 (X : Blk F) : IVec S256x1 32 :=
  k0_pay83 (b_v4 X) (View.ld X.xc r_S1x256x7168_S1x256x7168_0_0_0) (View.ld X.csc r_S1x2016x1_S1x256x1_0_1760_0) (View.ld X.sk r_S1x1x128_S1x1x128_0_0_0)
def b_v759 (X : Blk F) : IVec S256x1 32 :=
  k0_pay84 (b_v696 X) (b_v711 X) (b_v713 X) (b_v715 X)
def b_v761 (X : Blk F) : IVec S256x1 32 :=
  k0_pay85 (b_v696 X) (b_v711 X) (b_v713 X) (b_v715 X)
def b_v800 (X : Blk F) : FVec F S256x128 .f32 :=
  (k0_pay91 (b_v686 X))
def b_v804 (X : Blk F) : FVec F S256x128 .f32 :=
  k0_pay92 (b_v800 X) (View.ld X.sv r_S1x1x128_S1x1x128_0_0_0)
def b_v809 (X : Blk F) : FVec F S256x1 .f32 :=
  k0_pay93 (b_v800 X) (View.ld X.sv r_S1x1x128_S1x1x128_0_0_0)
def b_v845 (X : Blk F) : IVec S256x1 32 :=
  k0_pay94 (b_v800 X) (View.ld X.sv r_S1x1x128_S1x1x128_0_0_0)
def b_v877 (X : Blk F) : FVec F S256x1 .f32 :=
  k0_pay96 (b_v809 X) (b_v845 X) 4#32
def b_v889 (X : Blk F) : FVec F S256x128 .fp8e4m3 :=
  k0_pay97 (b_v804 X) (b_v809 X) (b_v845 X) 4#32
/-- The key codes the step leaves. -/
def kOut (X : Blk F) : Vec F S1x2016x128 .fp8e4m3 := View.canon [⟨r_S1x2016x128_S1x256x128_0_1760_0, (k0_pay88 (b_v691 X) (b_v759 X))⟩,
    ⟨r_S1x2016x128_S1x832x128_0_928_0, (k0_pay63 (b_v547 X) (Scalar.ofBits (F := F) .f32 0x43E00000#32) (b_v548 X))⟩,
    ⟨r_S1x2016x128_S1x288x128_0_640_0, (k0_pay39 (b_v243 X) (b_v248 X) (b_v291 X) (b_v292 X))⟩,
    ⟨r_S1x2016x128_S1x640x128_0_0_0, (k0_pay15 (b_v19 X) (b_v81 X))⟩]
/-- The value codes. -/
def vOut (X : Blk F) : Vec F S1x2016x128 .fp8e4m3 := View.canon [⟨r_S1x2016x128_S1x256x128_0_1760_0, (k0_pay98 (b_v889 X))⟩,
    ⟨r_S1x2016x128_S1x832x128_0_928_0, (k0_pay75 (b_v580 X) (b_v585 X) (b_v628 X) (b_v630 X) (b_v634 X))⟩,
    ⟨r_S1x2016x128_S1x288x128_0_640_0, (k0_pay50 (b_v356 X) (b_v420 X) (b_v422 X))⟩,
    ⟨r_S1x2016x128_S1x640x128_0_0_0, (k0_pay28 (b_v132 X) (b_v209 X))⟩]
/-- The scaled scores, one column per query. -/
def sScr (X : Blk F) : Vec F S2016x256 .f32 := View.canon [⟨r_S2016x256_S256x256_1760_0, (k0_pay90 (b_v7 X) (b_v691 X) (b_v759 X) (b_v761 X))⟩,
    ⟨r_S2016x256_S832x256_928_0, (k0_pay65 (b_v7 X) (b_v540 X) (b_v547 X) (Scalar.ofBits (F := F) .f32 0x43E00000#32) (b_v548 X))⟩,
    ⟨r_S2016x256_S288x256_640_0, (k0_pay42 (b_v7 X) (b_v316 X) (b_v328 X))⟩,
    ⟨r_S2016x256_S640x256_0_0, (k0_pay19 (b_v92 X) (b_v120 X) (b_v121 X))⟩]
def b_v924 (X : Blk F) : FVec F S1x256 .f32 :=
  k0_pay101 (View.ld (sScr X) r_S2016x256_S2016x256_0_0)
def b_v928 (X : Blk F) : FVec F S2016x256 .bf16 :=
  k0_pay102 (b_v205 X) (b_v429 X) (b_v653 X) (b_v877 X) (View.ld (sScr X) r_S2016x256_S2016x256_0_0)
def b_v931 (X : Blk F) : FVec F S2016x128 .bf16 :=
  k0_pay103 (View.ld (vOut X) r_S1x2016x128_S1x2016x128_0_0_0)
/-- The key scales after the step: lane `a` is this step's, the others are what the scratch held. -/
def ksNew (X : Blk F) (a : BitVec 32) (g : Vec F S2016x128 .f32) : Vec F S2016x128 .f32 := View.canon [⟨r_S2016x128_S256x128_1760_0, (k0_pay89 a lanes (b_v761 X) (View.ld g r_S2016x128_S256x128_1760_0))⟩,
    ⟨r_S2016x128_S832x128_928_0, (k0_pay64 a lanes (b_v540 X) (View.ld g r_S2016x128_S832x128_928_0))⟩,
    ⟨r_S2016x128_S288x128_640_0, (k0_pay41 (b_v316 X) (b_v333 a) (View.ld g r_S2016x128_S288x128_640_0))⟩,
    ⟨r_S2016x128_S640x128_0_0, (k0_pay16 a lanes (b_v81 X) (View.ld g r_S2016x128_S640x128_0_0))⟩]
/-- The value scales after the step. -/
def vsNew (X : Blk F) (a : BitVec 32) (g : Vec F S2016x128 .f32) : Vec F S2016x128 .f32 := View.canon [⟨r_S2016x128_S256x128_1760_0, (k0_pay99 a lanes (b_v877 X) (View.ld g r_S2016x128_S256x128_1760_0))⟩,
    ⟨r_S2016x128_S832x128_928_0, (k0_pay77 (b_v676 X a g))⟩,
    ⟨r_S2016x128_S288x128_640_0, (k0_pay51 a lanes (b_v420 X) (b_v422 X) (View.ld g r_S2016x128_S288x128_640_0))⟩,
    ⟨r_S2016x128_S640x128_0_0, (k0_pay29 a lanes (b_v205 X) (View.ld g r_S2016x128_S640x128_0_0))⟩]
/-- The attention output of the step. -/
def oOut (X : Blk F) : Vec F S1x256x128 .bf16 := View.canon [⟨r_S1x256x128_S1x256x128_0_0_0, (k0_pay1 (b_v924 X) (b_v928 X) (b_v931 X))⟩]
/-- The key scales of all heads as written back, from the full scratch. -/
def kscOut (g : Vec F S2016x128 .f32) : Vec F S1x56x2016 .f32 := View.canon [⟨r_S1x56x2016_S1x56x2016_0_0_0, (k0_pay2 (View.ld g r_S2016x128_S2016x128_0_0))⟩]
/-- The value scales of all heads as written back. -/
def vscOut (g : Vec F S2016x128 .f32) : Vec F S1x56x2016 .f32 := View.canon [⟨r_S1x56x2016_S1x56x2016_0_0_0, (k0_pay3 (View.ld g r_S2016x128_S2016x128_0_0))⟩]

/-! ## The stores tile what they write -/

theorem row_cases (y : ℕ) (h : y < 2016) : y < 640 ∨ (640 ≤ y ∧ y < 928) ∨ (928 ≤ y ∧ y < 1760) ∨ (1760 ≤ y ∧ y < 2016) := by omega

theorem cover_codes {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (y : S1x2016x128.Idx) :
    ∃ pc ∈ ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)), y ∈ pc.1.set := by
  rcases row_cases (y 1).val (show (y 1).val < 2016 from (y 1).isLt) with h | h | h | h
  · refine ⟨_, .tail _ (.tail _ (.tail _ (.head _))), (Rect.mem_set_unit (inb := inb_S1x2016x128_S1x640x128_0_0_0)).2 fun a => ?_⟩
    match a with
    | ⟨0, _⟩ => exact ⟨Nat.zero_le _, (y 0).isLt⟩
    | ⟨1, _⟩ => exact ⟨Nat.zero_le _, h⟩
    | ⟨2, _⟩ => exact ⟨Nat.zero_le _, (y 2).isLt⟩
  · refine ⟨_, .tail _ (.tail _ (.head _)), (Rect.mem_set_unit (inb := inb_S1x2016x128_S1x288x128_0_640_0)).2 fun a => ?_⟩
    match a with
    | ⟨0, _⟩ => exact ⟨Nat.zero_le _, (y 0).isLt⟩
    | ⟨1, _⟩ => exact ⟨h.1, h.2⟩
    | ⟨2, _⟩ => exact ⟨Nat.zero_le _, (y 2).isLt⟩
  · refine ⟨_, .tail _ (.head _), (Rect.mem_set_unit (inb := inb_S1x2016x128_S1x832x128_0_928_0)).2 fun a => ?_⟩
    match a with
    | ⟨0, _⟩ => exact ⟨Nat.zero_le _, (y 0).isLt⟩
    | ⟨1, _⟩ => exact ⟨h.1, h.2⟩
    | ⟨2, _⟩ => exact ⟨Nat.zero_le _, (y 2).isLt⟩
  · refine ⟨_, .head _, (Rect.mem_set_unit (inb := inb_S1x2016x128_S1x256x128_0_1760_0)).2 fun a => ?_⟩
    match a with
    | ⟨0, _⟩ => exact ⟨Nat.zero_le _, (y 0).isLt⟩
    | ⟨1, _⟩ => exact ⟨h.1, h.2⟩
    | ⟨2, _⟩ => exact ⟨Nat.zero_le _, (y 2).isLt⟩

theorem cover_scr {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (y : S2016x256.Idx) :
    ∃ pc ∈ ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)), y ∈ pc.1.set := by
  rcases row_cases (y 0).val (show (y 0).val < 2016 from (y 0).isLt) with h | h | h | h
  · refine ⟨_, .tail _ (.tail _ (.tail _ (.head _))), (Rect.mem_set_unit (inb := inb_S2016x256_S640x256_0_0)).2 fun a => ?_⟩
    match a with
    | ⟨0, _⟩ => exact ⟨Nat.zero_le _, h⟩
    | ⟨1, _⟩ => exact ⟨Nat.zero_le _, (y 1).isLt⟩
  · refine ⟨_, .tail _ (.tail _ (.head _)), (Rect.mem_set_unit (inb := inb_S2016x256_S288x256_640_0)).2 fun a => ?_⟩
    match a with
    | ⟨0, _⟩ => exact ⟨h.1, h.2⟩
    | ⟨1, _⟩ => exact ⟨Nat.zero_le _, (y 1).isLt⟩
  · refine ⟨_, .tail _ (.head _), (Rect.mem_set_unit (inb := inb_S2016x256_S832x256_928_0)).2 fun a => ?_⟩
    match a with
    | ⟨0, _⟩ => exact ⟨h.1, h.2⟩
    | ⟨1, _⟩ => exact ⟨Nat.zero_le _, (y 1).isLt⟩
  · refine ⟨_, .head _, (Rect.mem_set_unit (inb := inb_S2016x256_S256x256_1760_0)).2 fun a => ?_⟩
    match a with
    | ⟨0, _⟩ => exact ⟨h.1, h.2⟩
    | ⟨1, _⟩ => exact ⟨Nat.zero_le _, (y 1).isLt⟩

theorem cover_scales {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (y : S2016x128.Idx) :
    ∃ pc ∈ ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)), y ∈ pc.1.set := by
  rcases row_cases (y 0).val (show (y 0).val < 2016 from (y 0).isLt) with h | h | h | h
  · refine ⟨_, .tail _ (.tail _ (.tail _ (.head _))), (Rect.mem_set_unit (inb := inb_S2016x128_S640x128_0_0)).2 fun a => ?_⟩
    match a with
    | ⟨0, _⟩ => exact ⟨Nat.zero_le _, h⟩
    | ⟨1, _⟩ => exact ⟨Nat.zero_le _, (y 1).isLt⟩
  · refine ⟨_, .tail _ (.tail _ (.head _)), (Rect.mem_set_unit (inb := inb_S2016x128_S288x128_640_0)).2 fun a => ?_⟩
    match a with
    | ⟨0, _⟩ => exact ⟨h.1, h.2⟩
    | ⟨1, _⟩ => exact ⟨Nat.zero_le _, (y 1).isLt⟩
  · refine ⟨_, .tail _ (.head _), (Rect.mem_set_unit (inb := inb_S2016x128_S832x128_928_0)).2 fun a => ?_⟩
    match a with
    | ⟨0, _⟩ => exact ⟨h.1, h.2⟩
    | ⟨1, _⟩ => exact ⟨Nat.zero_le _, (y 1).isLt⟩
  · refine ⟨_, .head _, (Rect.mem_set_unit (inb := inb_S2016x128_S256x128_1760_0)).2 fun a => ?_⟩
    match a with
    | ⟨0, _⟩ => exact ⟨h.1, h.2⟩
    | ⟨1, _⟩ => exact ⟨Nat.zero_le _, (y 1).isLt⟩

theorem cover_ksc {e : EltTy} (p : r_S1x56x2016_S1x56x2016_0_0_0.shape.Idx → Elt F e) (y : S1x56x2016.Idx) :
    ∃ pc ∈ ([⟨r_S1x56x2016_S1x56x2016_0_0_0, p⟩] : List (View.Piece (Elt F) S1x56x2016 e)), y ∈ pc.1.set := by
  refine ⟨⟨r_S1x56x2016_S1x56x2016_0_0_0, p⟩, List.mem_singleton.2 rfl, (Rect.mem_set_unit (inb := inb_S1x56x2016_S1x56x2016_0_0_0)).2 fun a => ?_⟩
  match a with
  | ⟨0, _⟩ => exact ⟨Nat.zero_le _, (y 0).isLt.trans_le (Nat.le_add_left _ _)⟩
  | ⟨1, _⟩ => exact ⟨Nat.zero_le _, (y 1).isLt.trans_le (Nat.le_add_left _ _)⟩
  | ⟨2, _⟩ => exact ⟨Nat.zero_le _, (y 2).isLt.trans_le (Nat.le_add_left _ _)⟩

theorem cover_o {e : EltTy} (p : r_S1x256x128_S1x256x128_0_0_0.shape.Idx → Elt F e) (y : S1x256x128.Idx) :
    ∃ pc ∈ ([⟨r_S1x256x128_S1x256x128_0_0_0, p⟩] : List (View.Piece (Elt F) S1x256x128 e)), y ∈ pc.1.set := by
  refine ⟨⟨r_S1x256x128_S1x256x128_0_0_0, p⟩, List.mem_singleton.2 rfl, (Rect.mem_set_unit (inb := inb_S1x256x128_S1x256x128_0_0_0)).2 fun a => ?_⟩
  match a with
  | ⟨0, _⟩ => exact ⟨Nat.zero_le _, (y 0).isLt.trans_le (Nat.le_add_left _ _)⟩
  | ⟨1, _⟩ => exact ⟨Nat.zero_le _, (y 1).isLt.trans_le (Nat.le_add_left _ _)⟩
  | ⟨2, _⟩ => exact ⟨Nat.zero_le _, (y 2).isLt.trans_le (Nat.le_add_left _ _)⟩

theorem kscOut_of (p g : Vec F S2016x128 .f32) (h : p = View.ld g r_S2016x128_S2016x128_0_0) :
    View.canon [⟨r_S1x56x2016_S1x56x2016_0_0_0, k0_pay2 p⟩] = kscOut g := by subst h; rfl

theorem vscOut_of (p g : Vec F S2016x128 .f32) (h : p = View.ld g r_S2016x128_S2016x128_0_0) :
    View.canon [⟨r_S1x56x2016_S1x56x2016_0_0_0, k0_pay3 p⟩] = vscOut g := by subst h; rfl

end Cert.Kernel.Step

end
-- ==== Proof.KStep.lean ====
/- The run of the attention kernel's body: what it leaves in each staged block and scratch buffer. -/
module

public import proofs.«01_k».proof.Proof.KDefs
public import proofs.«01_k».proof.Proof.Gen.Kernel.Frame
public import proofs.«01_k».proof.Proof.Gen.Kernel.Skeleton

@[expose] public section

set_option maxRecDepth 16384

noncomputable section

namespace Cert.Kernel.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The run of the body -/

set_option maxHeartbeats 4000000 in
theorem sound_kernel (c : Dev nD) (E : Set ℕ) (i : grid0.Coords) (arg2 : Memref sig .tc .vmem S1x640x7168 .fp8e4m3) (harg2 : arg2.IsWhole) (arg3 : Memref sig .tc .vmem S1x288x7168 .fp8e4m3) (harg3 : arg3.IsWhole) (arg4 : Memref sig .tc .vmem S1x832x7168 .fp8e4m3) (harg4 : arg4.IsWhole) (arg5 : Memref sig .tc .vmem S1x256x7168 .fp8e4m3) (harg5 : arg5.IsWhole) (arg6 : Memref sig .tc .vmem S1x2016x1 .f32) (harg6 : arg6.IsWhole) (arg7 : Memref sig .tc .vmem S7168x128 .fp8e4m3) (harg7 : arg7.IsWhole) (arg8 : Memref sig .tc .vmem S7168x128 .fp8e4m3) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x256x128 .bf16) (harg11 : arg11.IsWhole) (arg12 : Memref sig .tc .vmem S1x2016x128 .fp8e4m3) (harg12 : arg12.IsWhole) (arg13 : Memref sig .tc .vmem S1x2016x128 .fp8e4m3) (harg13 : arg13.IsWhole) (arg14 : Memref sig .tc .vmem S1x56x2016 .f32) (harg14 : arg14.IsWhole) (arg15 : Memref sig .tc .vmem S1x56x2016 .f32) (harg15 : arg15.IsWhole) (arg16 : Memref sig .tc .vmem S1x256x128 .bf16) (harg16 : arg16.IsWhole) (arg17 : Memref sig .tc .vmem S2016x256 .f32) (harg17 : arg17.IsWhole) (arg18 : Memref sig .tc .vmem S2016x128 .f32) (harg18 : arg18.IsWhole) (arg19 : Memref sig .tc .vmem S2016x128 .f32) (harg19 : arg19.IsWhole)
    (X : Blk F) (d14 d15 : Vec F S1x56x2016 .f32) (g18 g19 : Vec F S2016x128 .f32) (K : PUnit → sProp 𝕄) :
    iprop(owns (c : Thread nD τ) arg2 fullShare X.cm
      ∗ owns (c : Thread nD τ) arg3 fullShare X.nw
      ∗ owns (c : Thread nD τ) arg4 fullShare X.mm
      ∗ owns (c : Thread nD τ) arg5 fullShare X.xc
      ∗ owns (c : Thread nD τ) arg6 fullShare X.csc
      ∗ owns (c : Thread nD τ) arg7 fullShare X.wk
      ∗ owns (c : Thread nD τ) arg8 fullShare X.wv
      ∗ owns (c : Thread nD τ) arg9 fullShare X.sk
      ∗ owns (c : Thread nD τ) arg10 fullShare X.sv
      ∗ owns (c : Thread nD τ) arg11 fullShare X.q
      ∗ (∃ d, owns (c : Thread nD τ) arg12 fullShare d)
      ∗ (∃ d, owns (c : Thread nD τ) arg13 fullShare d)
      ∗ owns (c : Thread nD τ) arg14 fullShare d14
      ∗ owns (c : Thread nD τ) arg15 fullShare d15
      ∗ (∃ d, owns (c : Thread nD τ) arg16 fullShare d)
      ∗ (∃ d, owns (c : Thread nD τ) arg17 fullShare d)
      ∗ owns (c : Thread nD τ) arg18 fullShare g18
      ∗ owns (c : Thread nD τ) arg19 fullShare g19
        ∗ (iprop(owns (c : Thread nD τ) arg2 fullShare X.cm
      ∗ owns (c : Thread nD τ) arg3 fullShare X.nw
      ∗ owns (c : Thread nD τ) arg4 fullShare X.mm
      ∗ owns (c : Thread nD τ) arg5 fullShare X.xc
      ∗ owns (c : Thread nD τ) arg6 fullShare X.csc
      ∗ owns (c : Thread nD τ) arg7 fullShare X.wk
      ∗ owns (c : Thread nD τ) arg8 fullShare X.wv
      ∗ owns (c : Thread nD τ) arg9 fullShare X.sk
      ∗ owns (c : Thread nD τ) arg10 fullShare X.sv
      ∗ owns (c : Thread nD τ) arg11 fullShare X.q
      ∗ owns (c : Thread nD τ) arg12 fullShare (kOut X)
      ∗ owns (c : Thread nD τ) arg13 fullShare (vOut X)
      ∗ owns (c : Thread nD τ) arg14 fullShare (if k0_cond1 i = 1#1 then kscOut (ksNew X (BitVec.ofNat 32 (i 1).val) g18) else d14)
      ∗ owns (c : Thread nD τ) arg15 fullShare (if k0_cond1 i = 1#1 then vscOut (vsNew X (BitVec.ofNat 32 (i 1).val) g19) else d15)
      ∗ owns (c : Thread nD τ) arg16 fullShare (oOut X)
      ∗ (∃ d, owns (c : Thread nD τ) arg17 fullShare d)
      ∗ owns (c : Thread nD τ) arg18 fullShare (ksNew X (BitVec.ofNat 32 (i 1).val) g18)
      ∗ owns (c : Thread nD τ) arg19 fullShare (vsNew X (BitVec.ofNat 32 (i 1).val) g19)) -∗ K ()))
      ⊢ wp frame (wpE (defs₀ (F := F)) Variants.none c none) E (cc0_kv_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_kv_attn_eq_skeleton]; unfold cc0_kv_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%d16, %f16, -, H16⟩, ⟨%d17, %f17, -, H17⟩, ⟨%f18, %hf18, H18⟩, ⟨%f19, %hf19, H19⟩, Hk⟩
  obtain ⟨cm, nw, mm, xc, csc, wk, wv, sk, sv, q⟩ := X
  dsimp only at hf2 hf3 hf4 hf5 hf6 hf7 hf8 hf9 hf10 hf11
  subst hf2 hf3 hf4 hf5 hf6 hf7 hf8 hf9 hf10 hf11 hf14 hf15 hf18 hf19
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover_codes (F := F) _ _ _ _)).trans ?_
    rfl
  isplitl [H13]
  · iexists _; isplitr
    swap; · iexact H13
    ipureintro
    refine (View.read_writes_eq_canon _ _ _ (cover_codes (F := F) _ _ _ _)).trans ?_
    rfl
  isplitl [H14]
  · iexists _; isplitr
    swap; · iexact H14
    ipureintro
    by_cases hc : k0_cond1 i = 1#1
    · rw [dif_pos hc, if_pos hc]
      refine (View.read_writes_eq_canon _ _ _ (cover_ksc (F := F) _)).trans ?_
      refine kscOut_of _ _ ?_
      refine (View.readCov_eq_canon' _ _ _).trans ?_
      refine congrArg (fun g => View.ld g r_S2016x128_S2016x128_0_0) (?_ : View.canon _ = ksNew _ _ _)
      rfl
    · rw [dif_neg hc, if_neg hc]
  isplitl [H15]
  · iexists _; isplitr
    swap; · iexact H15
    ipureintro
    by_cases hc : k0_cond1 i = 1#1
    · rw [dif_pos hc, if_pos hc]
      refine (View.read_writes_eq_canon _ _ _ (cover_ksc (F := F) _)).trans ?_
      refine vscOut_of _ _ ?_
      refine (View.readCov_eq_canon' _ _ _).trans ?_
      refine congrArg (fun g => View.ld g r_S2016x128_S2016x128_0_0) (?_ : View.canon _ = vsNew _ _ _)
      rfl
    · rw [dif_neg hc, if_neg hc]
  isplitl [H16]
  · iexists _; isplitr
    swap; · iexact H16
    ipureintro
    refine (View.read_writes_eq_canon _ _ _ (cover_o (F := F) _)).trans ?_
    refine congrArg (fun p => View.canon [⟨r_S1x256x128_S1x256x128_0_0_0, p⟩]) ?_
    refine congr (congr (congrArg k0_pay1 ?_) ?_) ?_
    · refine congrArg k0_pay101 ?_
      refine (View.readCov_eq_canon' _ _ _).trans ?_
      refine congrArg (fun g => View.ld g r_S2016x256_S2016x256_0_0) (?_ : View.canon _ = sScr _)
      rfl
    · refine congrArg (k0_pay102 _ _ _ _) ?_
      refine (View.readCov_eq_canon' _ _ _).trans ?_
      refine congrArg (fun g => View.ld g r_S2016x256_S2016x256_0_0) (?_ : View.canon _ = sScr _)
      rfl
    · refine congrArg k0_pay103 ?_
      refine (View.readCov_eq_canon' _ _ _).trans ?_
      refine congrArg (fun g => View.ld g r_S1x2016x128_S1x2016x128_0_0_0) (?_ : View.canon _ = vOut _)
      rfl
  isplitl [H17]
  · iexists _; iexists _; isplitr
    swap; · iexact H17
    ipureintro; rfl
  isplitl [H18]
  · iexists _; isplitr
    swap; · iexact H18
    ipureintro
    refine (View.read_writes_eq_canon _ _ _ (cover_scales (F := F) _ _ _ _)).trans ?_
    rfl
  iexists _; isplitr
  swap; · iexact H19
  ipureintro
  refine (View.read_writes_eq_canon _ _ _ (cover_scales (F := F) _ _ _ _)).trans ?_
  rfl

end Cert.Kernel.Step

end
-- ==== Proof.KScale.lean ====
/- The two scale scratches, one lane per head: what a step leaves at each row and lane, over any float instance. -/
module

public import proofs.«01_k».proof.Proof.KDefs
public import Idealize.ShloMosaic.Lib.PointwiseCore

@[expose] public section

noncomputable section

namespace Cert.Kernel.Step

open Idealize.ShloMosaic
open Cert.Kernel.Gen

variable {F : FTy → Type} [FloatOps F]

theorem not_mem_unit {s : Shape} {off size : Fin s.rank → Nat} {inb : ∀ a, off a + size a ≤ s.size a} {y : s.Idx} (a : Fin s.rank)
    (h : ¬ (off a ≤ (y a).val ∧ (y a).val < off a + size a)) : y ∉ (Rect.unit off size inb).set :=
  fun hm => h (Rect.mem_set_unit.1 hm a)

theorem select_eq_word {α : Type} (x a : BitVec 32) (p q : α) :
    Scalar.select (IntOp.cmpi CmpIPredicate.eq x a) p q = if x = a then p else q := by
  by_cases h : x = a
  · rw [if_pos h]; subst h; simp [Scalar.select, IntOp.cmpi]
  · rw [if_neg h]
    have hb : (x == a) = false := by simpa using h
    simp [Scalar.select, IntOp.cmpi, hb]

/-! ## A buffer written in four row segments, read at a row -/

theorem canon_emb {s : Shape} {e : EltTy} (r : Rect s) (w : r.shape.Idx → Elt F e) (L : List (View.Piece (Elt F) s e)) (y : s.Idx)
    (x : r.shape.Idx) (h : ∀ a, (y a).val = r.off a + r.stride a * (x a).val) : View.canon (⟨r, w⟩ :: L) y = w x := by
  have hy : y = r.emb x := funext fun a => Fin.ext (h a)
  rw [hy]; exact View.canon_cons_emb (Val := Elt F) _ _ _ _

theorem canon_skip {s : Shape} {e : EltTy} {off size : Fin s.rank → Nat} {inb : ∀ a, off a + size a ≤ s.size a}
    (w : (Rect.unit off size inb).shape.Idx → Elt F e) (L : List (View.Piece (Elt F) s e)) (y : s.Idx) (a : Fin s.rank)
    (h : (y a).val < off a) : View.canon (⟨Rect.unit off size inb, w⟩ :: L) y = View.canon L y :=
  View.canon_cons_of_not_mem (Val := Elt F) _ _ (not_mem_unit (inb := inb) a fun hm => absurd hm.1 (Nat.not_le.2 h))

theorem canon_scales_0 {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (r : Fin 640) (l : Fin 128) :
    View.canon ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)) (ix2 ⟨0 + r.val, by omega⟩ l) = p0 (ix2 r l) := by
  refine (canon_skip (inb := inb_S2016x128_S256x128_1760_0) _ _ _ 0 (by show 0 + r.val < 1760; omega)).trans ?_
  refine (canon_skip (inb := inb_S2016x128_S832x128_928_0) _ _ _ 0 (by show 0 + r.val < 928; omega)).trans ?_
  refine (canon_skip (inb := inb_S2016x128_S288x128_640_0) _ _ _ 0 (by show 0 + r.val < 640; omega)).trans ?_
  exact canon_emb r_S2016x128_S640x128_0_0 _ _ _ (ix2 r l) fun a => match a with
    | ⟨0, _⟩ => by show 0 + r.val = 0 + 1 * r.val; omega
    | ⟨1, _⟩ => by show l.val = 0 + 1 * l.val; omega

theorem canon_scales_1 {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (r : Fin 288) (l : Fin 128) :
    View.canon ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)) (ix2 ⟨640 + r.val, by omega⟩ l) = p1 (ix2 r l) := by
  refine (canon_skip (inb := inb_S2016x128_S256x128_1760_0) _ _ _ 0 (by show 640 + r.val < 1760; omega)).trans ?_
  refine (canon_skip (inb := inb_S2016x128_S832x128_928_0) _ _ _ 0 (by show 640 + r.val < 928; omega)).trans ?_
  exact canon_emb r_S2016x128_S288x128_640_0 _ _ _ (ix2 r l) fun a => match a with
    | ⟨0, _⟩ => by show 640 + r.val = 640 + 1 * r.val; omega
    | ⟨1, _⟩ => by show l.val = 0 + 1 * l.val; omega

theorem canon_scales_2 {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (r : Fin 832) (l : Fin 128) :
    View.canon ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)) (ix2 ⟨928 + r.val, by omega⟩ l) = p2 (ix2 r l) := by
  refine (canon_skip (inb := inb_S2016x128_S256x128_1760_0) _ _ _ 0 (by show 928 + r.val < 1760; omega)).trans ?_
  exact canon_emb r_S2016x128_S832x128_928_0 _ _ _ (ix2 r l) fun a => match a with
    | ⟨0, _⟩ => by show 928 + r.val = 928 + 1 * r.val; omega
    | ⟨1, _⟩ => by show l.val = 0 + 1 * l.val; omega

theorem canon_scales_3 {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (r : Fin 256) (l : Fin 128) :
    View.canon ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)) (ix2 ⟨1760 + r.val, by omega⟩ l) = p3 (ix2 r l) := by
  exact canon_emb r_S2016x128_S256x128_1760_0 _ _ _ (ix2 r l) fun a => match a with
    | ⟨0, _⟩ => by show 1760 + r.val = 1760 + 1 * r.val; omega
    | ⟨1, _⟩ => by show l.val = 0 + 1 * l.val; omega

theorem canon_scr_0 {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (r : Fin 640) (l : Fin 256) :
    View.canon ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)) (ix2 ⟨0 + r.val, by omega⟩ l) = p0 (ix2 r l) := by
  refine (canon_skip (inb := inb_S2016x256_S256x256_1760_0) _ _ _ 0 (by show 0 + r.val < 1760; omega)).trans ?_
  refine (canon_skip (inb := inb_S2016x256_S832x256_928_0) _ _ _ 0 (by show 0 + r.val < 928; omega)).trans ?_
  refine (canon_skip (inb := inb_S2016x256_S288x256_640_0) _ _ _ 0 (by show 0 + r.val < 640; omega)).trans ?_
  exact canon_emb r_S2016x256_S640x256_0_0 _ _ _ (ix2 r l) fun a => match a with
    | ⟨0, _⟩ => by show 0 + r.val = 0 + 1 * r.val; omega
    | ⟨1, _⟩ => by show l.val = 0 + 1 * l.val; omega

theorem canon_scr_1 {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (r : Fin 288) (l : Fin 256) :
    View.canon ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)) (ix2 ⟨640 + r.val, by omega⟩ l) = p1 (ix2 r l) := by
  refine (canon_skip (inb := inb_S2016x256_S256x256_1760_0) _ _ _ 0 (by show 640 + r.val < 1760; omega)).trans ?_
  refine (canon_skip (inb := inb_S2016x256_S832x256_928_0) _ _ _ 0 (by show 640 + r.val < 928; omega)).trans ?_
  exact canon_emb r_S2016x256_S288x256_640_0 _ _ _ (ix2 r l) fun a => match a with
    | ⟨0, _⟩ => by show 640 + r.val = 640 + 1 * r.val; omega
    | ⟨1, _⟩ => by show l.val = 0 + 1 * l.val; omega

theorem canon_scr_2 {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (r : Fin 832) (l : Fin 256) :
    View.canon ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)) (ix2 ⟨928 + r.val, by omega⟩ l) = p2 (ix2 r l) := by
  refine (canon_skip (inb := inb_S2016x256_S256x256_1760_0) _ _ _ 0 (by show 928 + r.val < 1760; omega)).trans ?_
  exact canon_emb r_S2016x256_S832x256_928_0 _ _ _ (ix2 r l) fun a => match a with
    | ⟨0, _⟩ => by show 928 + r.val = 928 + 1 * r.val; omega
    | ⟨1, _⟩ => by show l.val = 0 + 1 * l.val; omega

theorem canon_scr_3 {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (r : Fin 256) (l : Fin 256) :
    View.canon ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)) (ix2 ⟨1760 + r.val, by omega⟩ l) = p3 (ix2 r l) := by
  exact canon_emb r_S2016x256_S256x256_1760_0 _ _ _ (ix2 r l) fun a => match a with
    | ⟨0, _⟩ => by show 1760 + r.val = 1760 + 1 * r.val; omega
    | ⟨1, _⟩ => by show l.val = 0 + 1 * l.val; omega

theorem canon_codes_0 {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (r : Fin 640) (l : Fin 128) :
    View.canon ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)) (ix3 0 ⟨0 + r.val, by omega⟩ l) = p0 (ix3 0 r l) := by
  refine (canon_skip (inb := inb_S1x2016x128_S1x256x128_0_1760_0) _ _ _ 1 (by show 0 + r.val < 1760; omega)).trans ?_
  refine (canon_skip (inb := inb_S1x2016x128_S1x832x128_0_928_0) _ _ _ 1 (by show 0 + r.val < 928; omega)).trans ?_
  refine (canon_skip (inb := inb_S1x2016x128_S1x288x128_0_640_0) _ _ _ 1 (by show 0 + r.val < 640; omega)).trans ?_
  exact canon_emb r_S1x2016x128_S1x640x128_0_0_0 _ _ _ (ix3 0 r l) fun a => match a with
    | ⟨0, _⟩ => rfl
    | ⟨1, _⟩ => by show 0 + r.val = 0 + 1 * r.val; omega
    | ⟨2, _⟩ => by show l.val = 0 + 1 * l.val; omega

theorem canon_codes_1 {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (r : Fin 288) (l : Fin 128) :
    View.canon ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)) (ix3 0 ⟨640 + r.val, by omega⟩ l) = p1 (ix3 0 r l) := by
  refine (canon_skip (inb := inb_S1x2016x128_S1x256x128_0_1760_0) _ _ _ 1 (by show 640 + r.val < 1760; omega)).trans ?_
  refine (canon_skip (inb := inb_S1x2016x128_S1x832x128_0_928_0) _ _ _ 1 (by show 640 + r.val < 928; omega)).trans ?_
  exact canon_emb r_S1x2016x128_S1x288x128_0_640_0 _ _ _ (ix3 0 r l) fun a => match a with
    | ⟨0, _⟩ => rfl
    | ⟨1, _⟩ => by show 640 + r.val = 640 + 1 * r.val; omega
    | ⟨2, _⟩ => by show l.val = 0 + 1 * l.val; omega

theorem canon_codes_2 {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (r : Fin 832) (l : Fin 128) :
    View.canon ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)) (ix3 0 ⟨928 + r.val, by omega⟩ l) = p2 (ix3 0 r l) := by
  refine (canon_skip (inb := inb_S1x2016x128_S1x256x128_0_1760_0) _ _ _ 1 (by show 928 + r.val < 1760; omega)).trans ?_
  exact canon_emb r_S1x2016x128_S1x832x128_0_928_0 _ _ _ (ix3 0 r l) fun a => match a with
    | ⟨0, _⟩ => rfl
    | ⟨1, _⟩ => by show 928 + r.val = 928 + 1 * r.val; omega
    | ⟨2, _⟩ => by show l.val = 0 + 1 * l.val; omega

theorem canon_codes_3 {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (r : Fin 256) (l : Fin 128) :
    View.canon ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)) (ix3 0 ⟨1760 + r.val, by omega⟩ l) = p3 (ix3 0 r l) := by
  exact canon_emb r_S1x2016x128_S1x256x128_0_1760_0 _ _ _ (ix3 0 r l) fun a => match a with
    | ⟨0, _⟩ => rfl
    | ⟨1, _⟩ => by show 1760 + r.val = 1760 + 1 * r.val; omega
    | ⟨2, _⟩ => by show l.val = 0 + 1 * l.val; omega

/-! ## One scale segment -/

theorem k16_at (a : BitVec 32) (v : IVec S640x1 32) (old : Vec F S640x128 .f32) (r : Fin 640) (l : Fin 128) :
    k0_pay16 a lanes v old (ix2 r l) = if BitVec.ofNat 32 l.val = a then k0_pay13 (F := F) v (ix2 r 0) else old (ix2 r l) := by
  pointwise [k0_pay16, k0_pay40, lanes]
  exact select_eq_word _ _ _ _

theorem k41_at (a : BitVec 32) (v : FVec F S288x1 .f32) (old : Vec F S288x128 .f32) (r : Fin 288) (l : Fin 128) :
    k0_pay41 v (k0_pay40 a lanes) old (ix2 r l) = if BitVec.ofNat 32 l.val = a then v (ix2 r 0) else old (ix2 r l) := by
  pointwise [k0_pay41, k0_pay40, lanes]
  exact select_eq_word _ _ _ _

theorem k64_at (a : BitVec 32) (v : FVec F S832x1 .f32) (old : Vec F S832x128 .f32) (r : Fin 832) (l : Fin 128) :
    k0_pay64 a lanes v old (ix2 r l) = if BitVec.ofNat 32 l.val = a then v (ix2 r 0) else old (ix2 r l) := by
  pointwise [k0_pay64, k0_pay40, lanes]
  exact select_eq_word _ _ _ _

theorem k89_at (a : BitVec 32) (v : IVec S256x1 32) (old : Vec F S256x128 .f32) (r : Fin 256) (l : Fin 128) :
    k0_pay89 a lanes v old (ix2 r l) = if BitVec.ofNat 32 l.val = a then k0_pay86 (F := F) v (ix2 r 0) else old (ix2 r l) := by
  pointwise [k0_pay89, k0_pay40, lanes]
  exact select_eq_word _ _ _ _

theorem k29_at (a : BitVec 32) (v : FVec F S640x1 .f32) (old : Vec F S640x128 .f32) (r : Fin 640) (l : Fin 128) :
    k0_pay29 a lanes v old (ix2 r l) = if BitVec.ofNat 32 l.val = a then v (ix2 r 0) else old (ix2 r l) := by
  pointwise [k0_pay29, k0_pay40, lanes]
  exact select_eq_word _ _ _ _

theorem k51_at (a : BitVec 32) (v : IVec S288x1 32) (w : IVec S288x1 1) (old : Vec F S288x128 .f32) (r : Fin 288) (l : Fin 128) :
    k0_pay51 a lanes v w old (ix2 r l) = if BitVec.ofNat 32 l.val = a then k0_pay49 (F := F) v w (ix2 r 0) else old (ix2 r l) := by
  pointwise [k0_pay51, k0_pay40, lanes]
  exact select_eq_word _ _ _ _

theorem k76_at (a : BitVec 32) (s : FVec F S832x1 .f32) (v w : IVec S832x1 32) (b : IVec S832x1 1) (old : Vec F S832x128 .f32) (r : Fin 832) (l : Fin 128) :
    k0_pay77 (k0_pay76 a lanes s v w b old) (ix2 r l) = if BitVec.ofNat 32 l.val = a then k0_pay74 s v w b (ix2 r 0) else old (ix2 r l) := by
  pointwise [k0_pay76, k0_pay77, k0_pay40, lanes]
  exact select_eq_word _ _ _ _

theorem k99_at (a : BitVec 32) (v : FVec F S256x1 .f32) (old : Vec F S256x128 .f32) (r : Fin 256) (l : Fin 128) :
    k0_pay99 a lanes v old (ix2 r l) = if BitVec.ofNat 32 l.val = a then v (ix2 r 0) else old (ix2 r l) := by
  pointwise [k0_pay99, k0_pay40, lanes]
  exact select_eq_word _ _ _ _

/-- The key scale of a context row of this step. -/
def ksCol (X : Blk F) (r : Fin 2016) : F .f32 :=
  if h0 : r.val < 640 then k0_pay13 (F := F) (b_v81 X) (ix2 ⟨r.val, h0⟩ 0)
  else if h1 : r.val < 928 then b_v316 X (ix2 ⟨r.val - 640, by omega⟩ 0)
  else if h2 : r.val < 1760 then b_v540 X (ix2 ⟨r.val - 928, by omega⟩ 0)
  else k0_pay86 (F := F) (b_v761 X) (ix2 ⟨r.val - 1760, by omega⟩ 0)

/-- The value scale of a context row of this step. -/
def vsCol (X : Blk F) (r : Fin 2016) : F .f32 :=
  if h0 : r.val < 640 then b_v205 X (ix2 ⟨r.val, h0⟩ 0)
  else if h1 : r.val < 928 then k0_pay49 (F := F) (b_v420 X) (b_v422 X) (ix2 ⟨r.val - 640, by omega⟩ 0)
  else if h2 : r.val < 1760 then k0_pay74 (b_v585 X) (b_v628 X) (b_v630 X) (b_v634 X) (ix2 ⟨r.val - 928, by omega⟩ 0)
  else b_v877 X (ix2 ⟨r.val - 1760, by omega⟩ 0)

theorem ksCol_0 (X : Blk F) (r : Fin 640) : ksCol X ⟨0 + r.val, by omega⟩ = k0_pay13 (F := F) (b_v81 X) (ix2 r 0) := by
  unfold ksCol
  rw [dif_pos (by show 0 + r.val < 640; omega)]
  exact congrArg (fun t : Fin 640 => k0_pay13 (F := F) (b_v81 X) (ix2 t 0)) (Fin.ext (by show 0 + r.val = r.val; omega))
theorem ksCol_1 (X : Blk F) (r : Fin 288) : ksCol X ⟨640 + r.val, by omega⟩ = b_v316 X (ix2 r 0) := by
  unfold ksCol
  rw [dif_neg (by show ¬ (640 + r.val < 640); omega)]
  rw [dif_pos (by show 640 + r.val < 928; omega)]
  exact congrArg (fun t : Fin 288 => b_v316 X (ix2 t 0)) (Fin.ext (by show 640 + r.val - 640 = r.val; omega))
theorem ksCol_2 (X : Blk F) (r : Fin 832) : ksCol X ⟨928 + r.val, by omega⟩ = b_v540 X (ix2 r 0) := by
  unfold ksCol
  rw [dif_neg (by show ¬ (928 + r.val < 640); omega)]
  rw [dif_neg (by show ¬ (928 + r.val < 928); omega)]
  rw [dif_pos (by show 928 + r.val < 1760; omega)]
  exact congrArg (fun t : Fin 832 => b_v540 X (ix2 t 0)) (Fin.ext (by show 928 + r.val - 928 = r.val; omega))
theorem ksCol_3 (X : Blk F) (r : Fin 256) : ksCol X ⟨1760 + r.val, by omega⟩ = k0_pay86 (F := F) (b_v761 X) (ix2 r 0) := by
  unfold ksCol
  rw [dif_neg (by show ¬ (1760 + r.val < 640); omega)]
  rw [dif_neg (by show ¬ (1760 + r.val < 928); omega)]
  rw [dif_neg (by show ¬ (1760 + r.val < 1760); omega)]
  exact congrArg (fun t : Fin 256 => k0_pay86 (F := F) (b_v761 X) (ix2 t 0)) (Fin.ext (by show 1760 + r.val - 1760 = r.val; omega))

theorem vsCol_0 (X : Blk F) (r : Fin 640) : vsCol X ⟨0 + r.val, by omega⟩ = b_v205 X (ix2 r 0) := by
  unfold vsCol
  rw [dif_pos (by show 0 + r.val < 640; omega)]
  exact congrArg (fun t : Fin 640 => b_v205 X (ix2 t 0)) (Fin.ext (by show 0 + r.val = r.val; omega))
theorem vsCol_1 (X : Blk F) (r : Fin 288) : vsCol X ⟨640 + r.val, by omega⟩ = k0_pay49 (F := F) (b_v420 X) (b_v422 X) (ix2 r 0) := by
  unfold vsCol
  rw [dif_neg (by show ¬ (640 + r.val < 640); omega)]
  rw [dif_pos (by show 640 + r.val < 928; omega)]
  exact congrArg (fun t : Fin 288 => k0_pay49 (F := F) (b_v420 X) (b_v422 X) (ix2 t 0)) (Fin.ext (by show 640 + r.val - 640 = r.val; omega))
theorem vsCol_2 (X : Blk F) (r : Fin 832) : vsCol X ⟨928 + r.val, by omega⟩ = k0_pay74 (b_v585 X) (b_v628 X) (b_v630 X) (b_v634 X) (ix2 r 0) := by
  unfold vsCol
  rw [dif_neg (by show ¬ (928 + r.val < 640); omega)]
  rw [dif_neg (by show ¬ (928 + r.val < 928); omega)]
  rw [dif_pos (by show 928 + r.val < 1760; omega)]
  exact congrArg (fun t : Fin 832 => k0_pay74 (b_v585 X) (b_v628 X) (b_v630 X) (b_v634 X) (ix2 t 0)) (Fin.ext (by show 928 + r.val - 928 = r.val; omega))
theorem vsCol_3 (X : Blk F) (r : Fin 256) : vsCol X ⟨1760 + r.val, by omega⟩ = b_v877 X (ix2 r 0) := by
  unfold vsCol
  rw [dif_neg (by show ¬ (1760 + r.val < 640); omega)]
  rw [dif_neg (by show ¬ (1760 + r.val < 928); omega)]
  rw [dif_neg (by show ¬ (1760 + r.val < 1760); omega)]
  exact congrArg (fun t : Fin 256 => b_v877 X (ix2 t 0)) (Fin.ext (by show 1760 + r.val - 1760 = r.val; omega))

theorem ld_scales_0 (g : Vec F S2016x128 .f32) (r : Fin 640) (l : Fin 128) :
    View.ld g r_S2016x128_S640x128_0_0 (ix2 r l) = g (ix2 ⟨0 + r.val, by omega⟩ l) := by
  refine congrArg g (funext fun a => ?_)
  match a with
  | ⟨0, _⟩ => exact Fin.ext (by show 0 + 1 * r.val = 0 + r.val; omega)
  | ⟨1, _⟩ => exact Fin.ext (by show 0 + 1 * l.val = l.val; omega)
theorem ld_scales_1 (g : Vec F S2016x128 .f32) (r : Fin 288) (l : Fin 128) :
    View.ld g r_S2016x128_S288x128_640_0 (ix2 r l) = g (ix2 ⟨640 + r.val, by omega⟩ l) := by
  refine congrArg g (funext fun a => ?_)
  match a with
  | ⟨0, _⟩ => exact Fin.ext (by show 640 + 1 * r.val = 640 + r.val; omega)
  | ⟨1, _⟩ => exact Fin.ext (by show 0 + 1 * l.val = l.val; omega)
theorem ld_scales_2 (g : Vec F S2016x128 .f32) (r : Fin 832) (l : Fin 128) :
    View.ld g r_S2016x128_S832x128_928_0 (ix2 r l) = g (ix2 ⟨928 + r.val, by omega⟩ l) := by
  refine congrArg g (funext fun a => ?_)
  match a with
  | ⟨0, _⟩ => exact Fin.ext (by show 928 + 1 * r.val = 928 + r.val; omega)
  | ⟨1, _⟩ => exact Fin.ext (by show 0 + 1 * l.val = l.val; omega)
theorem ld_scales_3 (g : Vec F S2016x128 .f32) (r : Fin 256) (l : Fin 128) :
    View.ld g r_S2016x128_S256x128_1760_0 (ix2 r l) = g (ix2 ⟨1760 + r.val, by omega⟩ l) := by
  refine congrArg g (funext fun a => ?_)
  match a with
  | ⟨0, _⟩ => exact Fin.ext (by show 1760 + 1 * r.val = 1760 + r.val; omega)
  | ⟨1, _⟩ => exact Fin.ext (by show 0 + 1 * l.val = l.val; omega)

 /-- A statement about every context row, segment by segment. -/
theorem row_elim {P : Fin 2016 → Prop} (h0 : ∀ q : Fin 640, P ⟨0 + q.val, by omega⟩) (h1 : ∀ q : Fin 288, P ⟨640 + q.val, by omega⟩)
    (h2 : ∀ q : Fin 832, P ⟨928 + q.val, by omega⟩) (h3 : ∀ q : Fin 256, P ⟨1760 + q.val, by omega⟩) (r : Fin 2016) : P r := by
  rcases row_cases r.val r.isLt with h | h | h | h
  · have := h0 ⟨r.val, h⟩; simpa using this
  · have := h1 ⟨r.val - 640, by omega⟩; simpa [Nat.add_sub_cancel' h.1] using this
  · have := h2 ⟨r.val - 928, by omega⟩; simpa [Nat.add_sub_cancel' h.1] using this
  · have := h3 ⟨r.val - 1760, by omega⟩; simpa [Nat.add_sub_cancel' h.1] using this

theorem ksNew_at (X : Blk F) (a : BitVec 32) (g : Vec F S2016x128 .f32) (r : Fin 2016) (l : Fin 128) :
    ksNew X a g (ix2 r l) = if BitVec.ofNat 32 l.val = a then ksCol X r else g (ix2 r l) := by
  refine row_elim (P := fun r => ksNew X a g (ix2 r l) = if BitVec.ofNat 32 l.val = a then ksCol X r else g (ix2 r l)) ?_ ?_ ?_ ?_ r <;> intro q
  · rw [ksCol_0, ← ld_scales_0 g]; exact (canon_scales_0 _ _ _ _ q l).trans (k16_at _ _ _ _ _)
  · rw [ksCol_1, ← ld_scales_1 g]; exact (canon_scales_1 _ _ _ _ q l).trans (k41_at _ _ _ _ _)
  · rw [ksCol_2, ← ld_scales_2 g]; exact (canon_scales_2 _ _ _ _ q l).trans (k64_at _ _ _ _ _)
  · rw [ksCol_3, ← ld_scales_3 g]; exact (canon_scales_3 _ _ _ _ q l).trans (k89_at _ _ _ _ _)

theorem vsNew_at (X : Blk F) (a : BitVec 32) (g : Vec F S2016x128 .f32) (r : Fin 2016) (l : Fin 128) :
    vsNew X a g (ix2 r l) = if BitVec.ofNat 32 l.val = a then vsCol X r else g (ix2 r l) := by
  refine row_elim (P := fun r => vsNew X a g (ix2 r l) = if BitVec.ofNat 32 l.val = a then vsCol X r else g (ix2 r l)) ?_ ?_ ?_ ?_ r <;> intro q
  · rw [vsCol_0, ← ld_scales_0 g]; exact (canon_scales_0 _ _ _ _ q l).trans (k29_at _ _ _ _ _)
  · rw [vsCol_1, ← ld_scales_1 g]; exact (canon_scales_1 _ _ _ _ q l).trans (k51_at _ _ _ _ _ _)
  · rw [vsCol_2, ← ld_scales_2 g]; exact (canon_scales_2 _ _ _ _ q l).trans (k76_at _ _ _ _ _ _ _ _)
  · rw [vsCol_3, ← ld_scales_3 g]; exact (canon_scales_3 _ _ _ _ q l).trans (k99_at _ _ _ _ _)

/-! ## The scales written back -/

theorem kscOut_at (g : Vec F S2016x128 .f32) (h : Fin 56) (r : Fin 2016) :
    kscOut g (ix3 0 h r) = g (ix2 r ⟨h.val, by omega⟩) := by
  have hy : (ix3 0 h r : S1x56x2016.Idx) = r_S1x56x2016_S1x56x2016_0_0_0.emb (ix3 0 h r) := by
    funext a
    match a with
    | ⟨0, _⟩ => rfl
    | ⟨1, _⟩ => exact Fin.ext (by show h.val = 0 + 1 * h.val; omega)
    | ⟨2, _⟩ => exact Fin.ext (by show r.val = 0 + 1 * r.val; omega)
  unfold kscOut
  rw [hy]
  refine (View.canon_cons_emb (Val := Elt F) _ _ _ _).trans ?_
  pointwise [k0_pay2]

end Cert.Kernel.Step

end
-- ==== Proof.KFrame.lean ====
/- The attention kernel's pipeline: its proof data, with the contents of the two scale scratches tracked from step to
   step (one lane per head of the batch element in hand), the body obligation, and the launch. -/
module

public import proofs.«01_k».proof.Proof.KStep
public import proofs.«01_k».proof.Proof.KScale
public import proofs.«01_k».proof.Proof.Gen.Kernel.Frame
public import Idealize.ShloMosaic.Lib.Claim

@[expose] public section

set_option maxRecDepth 16384

noncomputable section

namespace Cert.Kernel.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of a step and the scales of a batch element -/

/-- The blocks staged at point `t`. -/
def blkAt (c : Dev nD) (t : Fin cfg0.N) : Blk F := ⟨iblk m c 0 t, iblk m c 1 t, iblk m c 2 t, iblk m c 3 t, iblk m c 4 t, iblk m c 5 t, iblk m c 6 t, iblk m c 7 t, iblk m c 8 t, iblk m c 9 t⟩

theorem cfgN : cfg0.N = 336 := N_0

/-- The blocks staged at the point numbered `n`. -/
def blkN (c : Dev nD) (n : ℕ) : Blk F :=
  if h : n < cfg0.N then blkAt m c ⟨n, h⟩ else blkAt m c ⟨0, by rw [cfgN]; omega⟩

theorem blkN_val (c : Dev nD) (t : Fin cfg0.N) (n : ℕ) (h : n = t.val) : blkN m c n = blkAt m c t := by
  subst h; unfold blkN; rw [dif_pos t.isLt]

/-- The key scales of batch element `b`: row by row, one lane per head. -/
def ksAll (c : Dev nD) (b : ℕ) : Vec F S2016x128 .f32 := fun y => ksCol (blkN m c (56 * b + (y 1).val)) (y 0)
/-- The value scales of batch element `b`. -/
def vsAll (c : Dev nD) (b : ℕ) : Vec F S2016x128 .f32 := fun y => vsCol (blkN m c (56 * b + (y 1).val)) (y 0)

/-- A scale scratch before point `t` holds the scales of the heads already met. -/
def Good (S : ℕ → Vec F S2016x128 .f32) (t : ℕ) (g : Vec F S2016x128 .f32) : Prop :=
  ∀ (r : Fin 2016) (l : Fin 128), l.val < t % 56 → g (ix2 r l) = S (t / 56) (ix2 r l)

theorem good_step (S : ℕ → Vec F S2016x128 .f32) (t : ℕ) (g g' : Vec F S2016x128 .f32) (hg : Good S t g)
    (h : ∀ (r : Fin 2016) (l : Fin 128), g' (ix2 r l) = if BitVec.ofNat 32 l.val = BitVec.ofNat 32 (t % 56) then S (t / 56) (ix2 r l) else g (ix2 r l))
    (r : Fin 2016) (l : Fin 128) (hl : l.val < t % 56 + 1) : g' (ix2 r l) = S (t / 56) (ix2 r l) := by
  rw [h r l]
  by_cases he : l.val = t % 56
  · rw [if_pos (by rw [he])]
  · rw [if_neg (fun hb => he (by have := congrArg BitVec.toNat hb; simp only [BitVec.toNat_ofNat] at this; omega))]
    exact hg r l (by omega)

theorem good_succ (S : ℕ → Vec F S2016x128 .f32) (t : ℕ) (g' : Vec F S2016x128 .f32)
    (h : ∀ (r : Fin 2016) (l : Fin 128), l.val < t % 56 + 1 → g' (ix2 r l) = S (t / 56) (ix2 r l)) : Good S (t + 1) g' := by
  intro r l hl
  by_cases h55 : t % 56 = 55
  · omega
  · rw [show (t + 1) / 56 = t / 56 by omega]; exact h r l (by omega)

theorem lane_val (t : Fin cfg0.N) : (grid0.coords t 1).val = t.val % 56 := by
  have h := Pipeline.Grid.coords_val (G := grid0) t 1 (S := 1) (B := 56) (by decide) (by decide)
  rw [h, Nat.div_one]

theorem cond_iff (t : Fin cfg0.N) : k0_cond1 (grid0.coords t) = 1#1 ↔ t.val % 56 = 55 := by
  have h := lane_val t
  have hlt : t.val % 56 < 56 := Nat.mod_lt _ (by omega)
  unfold k0_cond1
  rw [h]
  generalize t.val % 56 = n at hlt
  revert n
  decide

theorem ks_step (c : Dev nD) (t : Fin cfg0.N) (g : Vec F S2016x128 .f32) (r : Fin 2016) (l : Fin 128) :
    ksNew (blkAt m c t) (BitVec.ofNat 32 (grid0.coords t 1).val) g (ix2 r l)
      = if BitVec.ofNat 32 l.val = BitVec.ofNat 32 (t.val % 56) then ksAll m c (t.val / 56) (ix2 r l) else g (ix2 r l) := by
  rw [ksNew_at, lane_val]
  by_cases he : l.val = t.val % 56
  · rw [if_pos (by rw [he]), if_pos (by rw [he])]
    exact congrArg (fun X => ksCol X r) (blkN_val m c t _ (by show 56 * (t.val / 56) + l.val = t.val; omega)).symm
  · have hb : ¬ BitVec.ofNat 32 l.val = BitVec.ofNat 32 (t.val % 56) := fun hb => he (by
      have := congrArg BitVec.toNat hb; simp only [BitVec.toNat_ofNat] at this; omega)
    rw [if_neg hb, if_neg hb]

theorem vs_step (c : Dev nD) (t : Fin cfg0.N) (g : Vec F S2016x128 .f32) (r : Fin 2016) (l : Fin 128) :
    vsNew (blkAt m c t) (BitVec.ofNat 32 (grid0.coords t 1).val) g (ix2 r l)
      = if BitVec.ofNat 32 l.val = BitVec.ofNat 32 (t.val % 56) then vsAll m c (t.val / 56) (ix2 r l) else g (ix2 r l) := by
  rw [vsNew_at, lane_val]
  by_cases he : l.val = t.val % 56
  · rw [if_pos (by rw [he]), if_pos (by rw [he])]
    exact congrArg (fun X => vsCol X r) (blkN_val m c t _ (by show 56 * (t.val / 56) + l.val = t.val; omega)).symm
  · have hb : ¬ BitVec.ofNat 32 l.val = BitVec.ofNat 32 (t.val % 56) := fun hb => he (by
      have := congrArg BitVec.toNat hb; simp only [BitVec.toNat_ofNat] at this; omega)
    rw [if_neg hb, if_neg hb]

theorem kscOut_congr (g g' : Vec F S2016x128 .f32) (h : ∀ (r : Fin 2016) (l : Fin 128), l.val < 56 → g (ix2 r l) = g' (ix2 r l)) :
    kscOut g = kscOut g' := by
  funext y
  have h0 : y 0 = (0 : Fin 1) := Subsingleton.elim (α := Fin 1) _ _
  have hy : y = ix3 0 (y 1) (y 2) := by rw [← h0]; exact eq_ix3 y
  rw [hy]
  refine (kscOut_at g (y 1) (y 2)).trans ((h _ _ ?_).trans (kscOut_at g' (y 1) (y 2)).symm)
  exact (y 1).isLt

theorem vscOut_congr (g g' : Vec F S2016x128 .f32) (h : ∀ (r : Fin 2016) (l : Fin 128), l.val < 56 → g (ix2 r l) = g' (ix2 r l)) :
    vscOut g = vscOut g' := kscOut_congr g g' h

/-! ## The pipeline's proof data -/

/-- Between points: the scores scratch at anything, the scale scratches holding the scales met so far, and the
    generator register. -/
def Inv (c : Dev nD) (t : ℕ) : sProp 𝕄 :=
  iprop(∃ g18 : Vec F S2016x128 .f32, ∃ g19 : Vec F S2016x128 .f32, ⌜Good (ksAll m c) t g18 ∧ Good (vsAll m c) t g19⌝
    ∗ (∃ d, owns (c : Thread nD τ) (Memref.whole cc0_scratch0) fullShare d)
    ∗ owns (c : Thread nD τ) (Memref.whole cc0_scratch1) fullShare g18
    ∗ owns (c : Thread nD τ) (Memref.whole cc0_scratch2) fullShare g19
    ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => kOut (blkAt m c t)
    | ⟨11, _⟩ => vOut (blkAt m c t)
    | ⟨12, _⟩ => kscOut (ksAll m c (t.val / 56))
    | ⟨13, _⟩ => vscOut (vsAll m c (t.val / 56))
    | ⟨14, _⟩ => oOut (blkAt m c t)
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = kOut (blkAt m c t) := by dsimp only [dats]
theorem after0_11 (c : Dev nD) (t : Fin cfg0.N) : (dats m 0 c).after 11 t = vOut (blkAt m c t) := by dsimp only [dats]
theorem after0_12 (c : Dev nD) (t : Fin cfg0.N) : (dats m 0 c).after 12 t = kscOut (ksAll m c (t.val / 56)) := by dsimp only [dats]
theorem after0_13 (c : Dev nD) (t : Fin cfg0.N) : (dats m 0 c).after 13 t = vscOut (vsAll m c (t.val / 56)) := by dsimp only [dats]
theorem after0_14 (c : Dev nD) (t : Fin cfg0.N) : (dats m 0 c).after 14 t = oOut (blkAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (match !(k0_cond1 (grid0.coords t) == 1#1) with
        | true => (match (cfg0.win 12).flush t with
          | false => iprop(∃ d, owns (c : Thread nD τ) (st0_12 t) fullShare ((dats m 0 c).before 12 t d))
          | true => owns (c : Thread nD τ) (st0_12 t) fullShare ((dats m 0 c).after 12 t))
        | false => owns (c : Thread nD τ) (st0_12 t) fullShare ((dats m 0 c).after 12 t))
    ∗ (match !(k0_cond1 (grid0.coords t) == 1#1) with
        | true => (match (cfg0.win 13).flush t with
          | false => iprop(∃ d, owns (c : Thread nD τ) (st0_13 t) fullShare ((dats m 0 c).before 13 t d))
          | true => owns (c : Thread nD τ) (st0_13 t) fullShare ((dats m 0 c).after 13 t))
        | false => owns (c : Thread nD τ) (st0_13 t) fullShare ((dats m 0 c).after 13 t))
    ∗ owns (c : Thread nD τ) (st0_14 t) fullShare ((dats m 0 c).after 14 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  unfold Inv
  iintro ⟨⟨%g18, %g19, %hg, H17, H18, H19, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain ⟨hk, hv⟩ := hg
  have hk' := good_step (ksAll m c) t.val g18 _ hk (ks_step m c t g18)
  have hv' := good_step (vsAll m c) t.val g19 _ hv (vs_step m c t g19)
  iapply (sound_kernel c Set.univ _ _ _ _ _ _ _ _ _ _ _ _ _ _ _ _ _ _ _ _ _ _ _ _ _ _ _ _ _ _ _ _ _ _ _ _ _ (blkAt m c t) ((dats m 0 c).before 12 t d12) ((dats m 0 c).before 13 t d13) g18 g19 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexists _; iexact H14
  isplitl [H17]; · iexact H17
  isplitl [H18]; · iexact H18
  isplitl [H19]; · iexact H19
  iintro ⟨H0, H1, H2, H3, H4, H5, H6, H7, H8, H9, H10, H11, H12, H13, H14, H17, H18, H19⟩
  isplitl [H17 H18 H19 Hp]
  · iexists _; iexists _
    isplitr
    swap
    · isplitl [H17]; · iexact H17
      isplitl [H18]; · iexact H18
      isplitl [H19]; · iexact H19
      iexact Hp
    · ipureintro
      exact ⟨good_succ _ _ _ hk', good_succ _ _ _ hv'⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  by_cases hc : k0_cond1 (grid0.coords t) = 1#1
  · have h55 : t.val % 56 = 55 := (cond_iff t).1 hc
    have e12 := kscOut_congr _ (ksAll m c (t.val / 56)) fun r l hl => hk' r l (by omega)
    have e13 := vscOut_congr _ (vsAll m c (t.val / 56)) fun r l hl => hv' r l (by omega)
    rw [if_pos hc, if_pos hc, e12, e13]
    simp only [hc, beq_self_eq_true, Bool.not_true]
    isplitl [H12]; · iexact H12
    isplitl [H13]; · iexact H13
    iexact H14
  · have h55 : ¬ t.val % 56 = 55 := fun h => hc ((cond_iff t).2 h)
    have f12 : (cfg0.win 12).flush t = false := Bool.eq_false_iff.2 fun h => h55 ((flush0_12 t).1 h)
    have f13 : (cfg0.win 13).flush t = false := Bool.eq_false_iff.2 fun h => h55 ((flush0_13 t).1 h)
    have hb : (k0_cond1 (grid0.coords t) == 1#1) = false := by simpa using hc
    rw [if_neg hc, if_neg hc]
    simp only [hb, f12, f13, Bool.not_false]
    isplitl [H12]; · iexists _; iexact H12
    isplitl [H13]; · iexists _; iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem inv_in (c : Dev nD) : Pipeline.ΦA spec0 c ⊢ (dats (F := F) m 0 c).Φ 0 := by
  show Pipeline.ΦA spec0 c ⊢ Inv m c 0
  unfold Pipeline.ΦA Inv
  rw [scopedRest0_eq]
  simp only [owns_whole]
  iintro ⟨⟨H17, ⟨%g18, H18⟩, ⟨%g19, H19⟩⟩, Hp⟩
  iexists g18; iexists g19
  isplitr
  · ipureintro
    exact ⟨fun r l h => absurd h (Nat.not_lt_zero _), fun r l h => absurd h (Nat.not_lt_zero _)⟩
  isplitl [H17]; · iexact H17
  isplitl [H18]; · iexact H18
  isplitl [H19]; · iexact H19
  iexact Hp

theorem inv_out (c : Dev nD) : (dats (F := F) m 0 c).Φ (Fin.last cfg0.N) ⊢ Pipeline.ΦA spec0 c := by
  show Inv m c (Fin.last cfg0.N).val ⊢ Pipeline.ΦA spec0 c
  unfold Pipeline.ΦA Inv
  rw [scopedRest0_eq]
  simp only [owns_whole]
  iintro ⟨%g18, %g19, -, H17, H18, H19, Hp⟩
  isplitr [Hp]
  · isplitl [H17]; · iexact H17
    isplitl [H18]
    · iexists g18; iexact H18
    iexists g19; iexact H19
  iexact Hp

set_option backward.isDefEq.respectTransparency.types false in
set_option maxHeartbeats 800000 in
/-- The launch: every weakly fair execution of @main terminates, with every array of the pipeline at what the proof
    data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := inv_in m) (hout := inv_out m)
    (Q' := fun r => (Pipeline.FramePost cfgs (dats m) 0 (V m)) r ∧ r.2.sem = fun _ => 0) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame, at any float instance. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Step

end
-- ==== Proof.KIDefs.lean ====
/- What one grid step of the attention kernel computes, as functions of the blocks staged for it, and the run of its
   body: the code windows, the output window and the three scratch buffers after the step, in terms of the staged
   blocks and of what the two scale scratches held before it. -/
module

public import proofs.«01_k».proof.Proof.Gen.KernelIdeal.Frame
public import proofs.«01_k».proof.Proof.Gen.KernelIdeal.Skeleton

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The blocks staged for one grid step: the four context pieces, their scales, the key and the value columns of the
    weight with their scales, and the queries. -/
structure Blk (F : FTy → Type) [FloatOps F] where
  cm : Vec F S1x640x7168 .fp8e4m3
  nw : Vec F S1x288x7168 .fp8e4m3
  mm : Vec F S1x832x7168 .fp8e4m3
  xc : Vec F S1x256x7168 .fp8e4m3
  csc : Vec F S1x2016x1 .f32
  wk : Vec F S7168x128 .fp8e4m3
  wv : Vec F S7168x128 .fp8e4m3
  sk : Vec F S1x1x128 .f32
  sv : Vec F S1x1x128 .f32
  q : Vec F S1x256x128 .bf16

/-! ## The rectangles the body loads and stores -/

abbrev r_S7168x128_S7168x128_0_0 : Rect S7168x128 := Rect.unit (s := S7168x128) ![0, 0] S7168x128.size inb_S7168x128_S7168x128_0_0
abbrev r_S1x256x128_S1x256x128_0_0_0 : Rect S1x256x128 := Rect.unit (s := S1x256x128) ![0, 0, 0] S1x256x128.size inb_S1x256x128_S1x256x128_0_0_0
abbrev r_S1x640x7168_S1x640x7168_0_0_0 : Rect S1x640x7168 := Rect.unit (s := S1x640x7168) ![0, 0, 0] S1x640x7168.size inb_S1x640x7168_S1x640x7168_0_0_0
abbrev r_S1x2016x1_S1x640x1_0_0_0 : Rect S1x2016x1 := Rect.unit (s := S1x2016x1) ![0, 0, 0] S1x640x1.size inb_S1x2016x1_S1x640x1_0_0_0
abbrev r_S1x1x128_S1x1x128_0_0_0 : Rect S1x1x128 := Rect.unit (s := S1x1x128) ![0, 0, 0] S1x1x128.size inb_S1x1x128_S1x1x128_0_0_0
abbrev r_S1x2016x128_S1x640x128_0_0_0 : Rect S1x2016x128 := Rect.unit (s := S1x2016x128) ![0, 0, 0] S1x640x128.size inb_S1x2016x128_S1x640x128_0_0_0
abbrev r_S2016x128_S640x128_0_0 : Rect S2016x128 := Rect.unit (s := S2016x128) ![0, 0] S640x128.size inb_S2016x128_S640x128_0_0
abbrev r_S2016x256_S640x256_0_0 : Rect S2016x256 := Rect.unit (s := S2016x256) ![0, 0] S640x256.size inb_S2016x256_S640x256_0_0
abbrev r_S1x288x7168_S1x288x7168_0_0_0 : Rect S1x288x7168 := Rect.unit (s := S1x288x7168) ![0, 0, 0] S1x288x7168.size inb_S1x288x7168_S1x288x7168_0_0_0
abbrev r_S1x2016x1_S1x288x1_0_640_0 : Rect S1x2016x1 := Rect.unit (s := S1x2016x1) ![0, 640, 0] S1x288x1.size inb_S1x2016x1_S1x288x1_0_640_0
abbrev r_S1x2016x128_S1x288x128_0_640_0 : Rect S1x2016x128 := Rect.unit (s := S1x2016x128) ![0, 640, 0] S1x288x128.size inb_S1x2016x128_S1x288x128_0_640_0
abbrev r_S2016x128_S288x128_640_0 : Rect S2016x128 := Rect.unit (s := S2016x128) ![640, 0] S288x128.size inb_S2016x128_S288x128_640_0
abbrev r_S2016x256_S288x256_640_0 : Rect S2016x256 := Rect.unit (s := S2016x256) ![640, 0] S288x256.size inb_S2016x256_S288x256_640_0
abbrev r_S1x832x7168_S1x832x7168_0_0_0 : Rect S1x832x7168 := Rect.unit (s := S1x832x7168) ![0, 0, 0] S1x832x7168.size inb_S1x832x7168_S1x832x7168_0_0_0
abbrev r_S1x2016x1_S1x832x1_0_928_0 : Rect S1x2016x1 := Rect.unit (s := S1x2016x1) ![0, 928, 0] S1x832x1.size inb_S1x2016x1_S1x832x1_0_928_0
abbrev r_S1x2016x128_S1x832x128_0_928_0 : Rect S1x2016x128 := Rect.unit (s := S1x2016x128) ![0, 928, 0] S1x832x128.size inb_S1x2016x128_S1x832x128_0_928_0
abbrev r_S2016x128_S832x128_928_0 : Rect S2016x128 := Rect.unit (s := S2016x128) ![928, 0] S832x128.size inb_S2016x128_S832x128_928_0
abbrev r_S2016x256_S832x256_928_0 : Rect S2016x256 := Rect.unit (s := S2016x256) ![928, 0] S832x256.size inb_S2016x256_S832x256_928_0
abbrev r_S1x256x7168_S1x256x7168_0_0_0 : Rect S1x256x7168 := Rect.unit (s := S1x256x7168) ![0, 0, 0] S1x256x7168.size inb_S1x256x7168_S1x256x7168_0_0_0
abbrev r_S1x2016x1_S1x256x1_0_1760_0 : Rect S1x2016x1 := Rect.unit (s := S1x2016x1) ![0, 1760, 0] S1x256x1.size inb_S1x2016x1_S1x256x1_0_1760_0
abbrev r_S1x2016x128_S1x256x128_0_1760_0 : Rect S1x2016x128 := Rect.unit (s := S1x2016x128) ![0, 1760, 0] S1x256x128.size inb_S1x2016x128_S1x256x128_0_1760_0
abbrev r_S2016x128_S256x128_1760_0 : Rect S2016x128 := Rect.unit (s := S2016x128) ![1760, 0] S256x128.size inb_S2016x128_S256x128_1760_0
abbrev r_S2016x256_S256x256_1760_0 : Rect S2016x256 := Rect.unit (s := S2016x256) ![1760, 0] S256x256.size inb_S2016x256_S256x256_1760_0
abbrev r_S2016x256_S2016x256_0_0 : Rect S2016x256 := Rect.unit (s := S2016x256) ![0, 0] S2016x256.size inb_S2016x256_S2016x256_0_0
abbrev r_S1x2016x128_S1x2016x128_0_0_0 : Rect S1x2016x128 := Rect.unit (s := S1x2016x128) ![0, 0, 0] S1x2016x128.size inb_S1x2016x128_S1x2016x128_0_0_0
abbrev r_S2016x128_S2016x128_0_0 : Rect S2016x128 := Rect.unit (s := S2016x128) ![0, 0] S2016x128.size inb_S2016x128_S2016x128_0_0
abbrev r_S1x56x2016_S1x56x2016_0_0_0 : Rect S1x56x2016 := Rect.unit (s := S1x56x2016) ![0, 0, 0] S1x56x2016.size inb_S1x56x2016_S1x56x2016_0_0_0

/-! ## The values of one step -/

/-- The lane numbers. -/
def lanes : IVec S1x128 32 := iota .tc S1x128 32 [1] iota_S1x128_d1_w32
def b_v4 (X : Blk F) : FVec F S7168x256 .fp8e4m3 :=
  k0_pay4 (View.ld X.wk r_S7168x128_S7168x128_0_0) (View.ld X.wv r_S7168x128_S7168x128_0_0)
def b_v7 (X : Blk F) : FVec F S256x128 .bf16 :=
  k0_pay5 (View.ld X.q r_S1x256x128_S1x256x128_0_0_0)
def b_v14 (X : Blk F) : FVec F S640x256 .f32 :=
  k0_pay6 (View.ld X.wk r_S7168x128_S7168x128_0_0) (View.ld X.wv r_S7168x128_S7168x128_0_0) (View.ld X.cm r_S1x640x7168_S1x640x7168_0_0_0) (View.ld X.csc r_S1x2016x1_S1x640x1_0_0_0)
def b_v19 (X : Blk F) : FVec F S640x128 .f32 :=
  k0_pay7 (View.ld X.wk r_S7168x128_S7168x128_0_0) (View.ld X.wv r_S7168x128_S7168x128_0_0) (View.ld X.cm r_S1x640x7168_S1x640x7168_0_0_0) (View.ld X.csc r_S1x2016x1_S1x640x1_0_0_0) (View.ld X.sk r_S1x1x128_S1x1x128_0_0_0)
def b_v24 (X : Blk F) : FVec F S640x1 .f32 :=
  k0_pay8 (View.ld X.wk r_S7168x128_S7168x128_0_0) (View.ld X.wv r_S7168x128_S7168x128_0_0) (View.ld X.cm r_S1x640x7168_S1x640x7168_0_0_0) (View.ld X.csc r_S1x2016x1_S1x640x1_0_0_0) (View.ld X.sk r_S1x1x128_S1x1x128_0_0_0)
def b_v32 (X : Blk F) : IVec S640x1 32 :=
  k0_pay9 (View.ld X.wk r_S7168x128_S7168x128_0_0) (View.ld X.wv r_S7168x128_S7168x128_0_0) (View.ld X.cm r_S1x640x7168_S1x640x7168_0_0_0) (View.ld X.csc r_S1x2016x1_S1x640x1_0_0_0) (View.ld X.sk r_S1x1x128_S1x1x128_0_0_0)
def b_v34 (X : Blk F) : IVec S640x1 32 :=
  k0_pay10 (View.ld X.wk r_S7168x128_S7168x128_0_0) (View.ld X.wv r_S7168x128_S7168x128_0_0) (View.ld X.cm r_S1x640x7168_S1x640x7168_0_0_0) (View.ld X.csc r_S1x2016x1_S1x640x1_0_0_0) (View.ld X.sk r_S1x1x128_S1x1x128_0_0_0)
def b_v81 (X : Blk F) : IVec S640x1 32 :=
  (k0_pay11 (b_v24 X) (b_v32 X) (b_v34 X))
def b_v92 (X : Blk F) : FVec F S640x1 .f32 :=
  k0_pay13 (F := F) (b_v81 X)
def b_v120 (X : Blk F) : FVec F S640x256 .f32 :=
  k0_pay17 (b_v7 X) (b_v19 X) (b_v81 X)
def b_v121 (X : Blk F) : FVec F S640x1 .f32 :=
  k0_pay18 (F := F)
def b_v132 (X : Blk F) : FVec F S640x128 .f32 :=
  k0_pay20 (b_v14 X) (View.ld X.sv r_S1x1x128_S1x1x128_0_0_0)
def b_v137 (X : Blk F) : FVec F S640x1 .f32 :=
  k0_pay21 (b_v14 X) (View.ld X.sv r_S1x1x128_S1x1x128_0_0_0)
def b_v159 (X : Blk F) : IVec S640x1 32 :=
  k0_pay22 (b_v14 X) (View.ld X.sv r_S1x1x128_S1x1x128_0_0_0)
def b_v161 (X : Blk F) : IVec S640x1 32 :=
  k0_pay23 (b_v14 X) (View.ld X.sv r_S1x1x128_S1x1x128_0_0_0)
def b_v164 (X : Blk F) : FVec F S640x1 .f32 :=
  k0_pay24 (b_v14 X) (View.ld X.sv r_S1x1x128_S1x1x128_0_0_0)
def b_v205 (X : Blk F) : FVec F S640x1 .f32 :=
  k0_pay26 (b_v137 X) (b_v159 X) (b_v161 X) (b_v164 X)
def b_v209 (X : Blk F) : IVec S640x1 32 :=
  k0_pay27 (b_v137 X) (b_v159 X) (b_v161 X) (b_v164 X)
def b_v238 (X : Blk F) : FVec F S288x256 .f32 :=
  k0_pay30 (b_v4 X) (View.ld X.nw r_S1x288x7168_S1x288x7168_0_0_0) (View.ld X.csc r_S1x2016x1_S1x288x1_0_640_0)
def b_v243 (X : Blk F) : FVec F S288x128 .f32 :=
  k0_pay31 (b_v4 X) (View.ld X.nw r_S1x288x7168_S1x288x7168_0_0_0) (View.ld X.csc r_S1x2016x1_S1x288x1_0_640_0) (View.ld X.sk r_S1x1x128_S1x1x128_0_0_0)
def b_v246 (X : Blk F) : FVec F S288x1 .f32 :=
  k0_pay32 (b_v4 X) (View.ld X.nw r_S1x288x7168_S1x288x7168_0_0_0) (View.ld X.csc r_S1x2016x1_S1x288x1_0_640_0) (View.ld X.sk r_S1x1x128_S1x1x128_0_0_0)
def b_v248 (X : Blk F) : FVec F S288x1 .f32 :=
  k0_pay33 (b_v246 X) (Scalar.ofBits (F := F) .f32 0x3B124925#32)
def b_v291 (X : Blk F) : IVec S288x1 32 :=
  k0_pay34 (b_v246 X) (Scalar.ofBits (F := F) .f32 0x3B124925#32)
def b_v292 (X : Blk F) : IVec S288x1 32 :=
  k0_pay35
def b_v316 (X : Blk F) : FVec F S288x1 .f32 :=
  k0_pay37 (b_v248 X) (b_v291 X) (b_v292 X)
def b_v328 (X : Blk F) : FVec F S288x128 .fp8e4m3 :=
  k0_pay38 (b_v243 X) (b_v248 X) (b_v291 X) (b_v292 X)
def b_v333 (a : BitVec 32) : IVec S1x128 1 := k0_pay40 a lanes
def b_v356 (X : Blk F) : FVec F S288x128 .f32 :=
  k0_pay43 (b_v238 X) (View.ld X.sv r_S1x1x128_S1x1x128_0_0_0)
def b_v361 (X : Blk F) : FVec F S288x1 .f32 :=
  k0_pay44 (b_v238 X) (View.ld X.sv r_S1x1x128_S1x1x128_0_0_0)
def b_v376 (X : Blk F) : IVec S288x1 32 :=
  k0_pay45 (b_v238 X) (View.ld X.sv r_S1x1x128_S1x1x128_0_0_0)
def b_v420 (X : Blk F) : IVec S288x1 32 :=
  k0_pay46 (b_v361 X) (b_v376 X)
def b_v422 (X : Blk F) : IVec S288x1 1 :=
  k0_pay47 (b_v361 X) (b_v376 X)
def b_v429 (X : Blk F) : FVec F S288x1 .f32 :=
  k0_pay49 (F := F) (b_v420 X) (b_v422 X)
def b_v458 (X : Blk F) : FVec F S832x256 .f32 :=
  k0_pay52 (b_v4 X) (View.ld X.mm r_S1x832x7168_S1x832x7168_0_0_0)
def b_v462 (X : Blk F) : FVec F S832x256 .f32 :=
  k0_pay53 (b_v458 X) (View.ld X.csc r_S1x2016x1_S1x832x1_0_928_0)
def b_v467 (X : Blk F) : FVec F S832x128 .f32 :=
  k0_pay54 (b_v458 X) (View.ld X.csc r_S1x2016x1_S1x832x1_0_928_0) (View.ld X.sk r_S1x1x128_S1x1x128_0_0_0)
def b_v472 (X : Blk F) : FVec F S832x1 .f32 :=
  k0_pay55 (b_v458 X) (View.ld X.csc r_S1x2016x1_S1x832x1_0_928_0) (View.ld X.sk r_S1x1x128_S1x1x128_0_0_0)
def b_v501 (X : Blk F) : IVec S832x1 32 :=
  k0_pay56 (b_v458 X) (View.ld X.csc r_S1x2016x1_S1x832x1_0_928_0) (View.ld X.sk r_S1x1x128_S1x1x128_0_0_0)
def b_v503 (X : Blk F) : IVec S832x1 32 :=
  k0_pay57 (b_v458 X) (View.ld X.csc r_S1x2016x1_S1x832x1_0_928_0) (View.ld X.sk r_S1x1x128_S1x1x128_0_0_0)
def b_v540 (X : Blk F) : FVec F S832x1 .f32 :=
  k0_pay59 (b_v472 X) (b_v501 X) (b_v503 X) 23#32
def b_v547 (X : Blk F) : FVec F S832x128 .f32 :=
  k0_pay60 (b_v467 X) (b_v472 X) (b_v501 X) (b_v503 X) 23#32
def b_v548 (X : Blk F) : FVec F S832x128 .f32 :=
  k0_pay61 (F := F)
def b_v580 (X : Blk F) : FVec F S832x128 .f32 :=
  k0_pay66 (b_v462 X) (View.ld X.sv r_S1x1x128_S1x1x128_0_0_0)
def b_v585 (X : Blk F) : FVec F S832x1 .f32 :=
  k0_pay67 (b_v462 X) (View.ld X.sv r_S1x1x128_S1x1x128_0_0_0)
def b_v586 (X : Blk F) : IVec S832x1 32 :=
  k0_pay68
def b_v587 (X : Blk F) : IVec S832x1 32 :=
  k0_pay69
def b_v628 (X : Blk F) : IVec S832x1 32 :=
  k0_pay70 (b_v585 X) (b_v586 X) (b_v587 X)
def b_v630 (X : Blk F) : IVec S832x1 32 :=
  k0_pay71 (b_v585 X) (b_v586 X) (b_v587 X)
def b_v634 (X : Blk F) : IVec S832x1 1 :=
  k0_pay72 (b_v585 X) (b_v586 X) (b_v587 X)
def b_v653 (X : Blk F) : FVec F S832x1 .f32 :=
  k0_pay74 (b_v585 X) (b_v628 X) (b_v630 X) (b_v634 X)
def b_v676 (X : Blk F) (a : BitVec 32) (g : Vec F S2016x128 .f32) : FVec F S832x128 .f32 :=
  k0_pay76 a lanes (b_v585 X) (b_v628 X) (b_v630 X) (b_v634 X) (View.ld g r_S2016x128_S832x128_928_0)
def b_v686 (X : Blk F) : FVec F S256x256 .f32 :=
  k0_pay78 (b_v4 X) (View.ld X.xc r_S1x256x7168_S1x256x7168_0_0_0) (View.ld X.csc r_S1x2016x1_S1x256x1_0_1760_0)
def b_v691 (X : Blk F) : FVec F S256x128 .f32 :=
  k0_pay79 (b_v4 X) (View.ld X.xc r_S1x256x7168_S1x256x7168_0_0_0) (View.ld X.csc r_S1x2016x1_S1x256x1_0_1760_0) (View.ld X.sk r_S1x1x128_S1x1x128_0_0_0)
def b_v696 (X : Blk F) : FVec F S256x1 .f32 :=
  k0_pay80 (b_v4 X) (View.ld X.xc r_S1x256x7168_S1x256x7168_0_0_0) (View.ld X.csc r_S1x2016x1_S1x256x1_0_1760_0) (View.ld X.sk r_S1x1x128_S1x1x128_0_0_0)
def b_v711 (X : Blk F) : IVec S256x1 32 :=
  k0_pay81 (b_v4 X) (View.ld X.xc r_S1x256x7168_S1x256x7168_0_0_0) (View.ld X.csc r_S1x2016x1_S1x256x1_0_1760_0) (View.ld X.sk r_S1x1x128_S1x1x128_0_0_0)
def b_v713 (X : Blk F) : IVec S256x1 32 :=
  k0_pay82 (b_v4 X) (View.ld X.xc r_S1x256x7168_S1x256x7168_0_0_0) (View.ld X.csc r_S1x2016x1_S1x256x1_0_1760_0) (View.ld X.sk r_S1x1x128_S1x1x128_0_0_0)
def b_v715 (X : Blk F) : IVec S256x1 32 :=
  k0_pay83 (b_v4 X) (View.ld X.xc r_S1x256x7168_S1x256x7168_0_0_0) (View.ld X.csc r_S1x2016x1_S1x256x1_0_1760_0) (View.ld X.sk r_S1x1x128_S1x1x128_0_0_0)
def b_v759 (X : Blk F) : IVec S256x1 32 :=
  k0_pay84 (b_v696 X) (b_v711 X) (b_v713 X) (b_v715 X)
def b_v761 (X : Blk F) : IVec S256x1 32 :=
  k0_pay85 (b_v696 X) (b_v711 X) (b_v713 X) (b_v715 X)
def b_v800 (X : Blk F) : FVec F S256x128 .f32 :=
  (k0_pay91 (b_v686 X))
def b_v804 (X : Blk F) : FVec F S256x128 .f32 :=
  k0_pay92 (b_v800 X) (View.ld X.sv r_S1x1x128_S1x1x128_0_0_0)
def b_v809 (X : Blk F) : FVec F S256x1 .f32 :=
  k0_pay93 (b_v800 X) (View.ld X.sv r_S1x1x128_S1x1x128_0_0_0)
def b_v845 (X : Blk F) : IVec S256x1 32 :=
  k0_pay94 (b_v800 X) (View.ld X.sv r_S1x1x128_S1x1x128_0_0_0)
def b_v877 (X : Blk F) : FVec F S256x1 .f32 :=
  k0_pay96 (b_v809 X) (b_v845 X) 4#32
def b_v889 (X : Blk F) : FVec F S256x128 .fp8e4m3 :=
  k0_pay97 (b_v804 X) (b_v809 X) (b_v845 X) 4#32
/-- The key codes the step leaves. -/
def kOut (X : Blk F) : Vec F S1x2016x128 .fp8e4m3 := View.canon [⟨r_S1x2016x128_S1x256x128_0_1760_0, (k0_pay88 (b_v691 X) (b_v759 X))⟩,
    ⟨r_S1x2016x128_S1x832x128_0_928_0, (k0_pay63 (b_v547 X) (Scalar.ofBits (F := F) .f32 0x43E00000#32) (b_v548 X))⟩,
    ⟨r_S1x2016x128_S1x288x128_0_640_0, (k0_pay39 (b_v243 X) (b_v248 X) (b_v291 X) (b_v292 X))⟩,
    ⟨r_S1x2016x128_S1x640x128_0_0_0, (k0_pay15 (b_v19 X) (b_v81 X))⟩]
/-- The value codes. -/
def vOut (X : Blk F) : Vec F S1x2016x128 .fp8e4m3 := View.canon [⟨r_S1x2016x128_S1x256x128_0_1760_0, (k0_pay98 (b_v889 X))⟩,
    ⟨r_S1x2016x128_S1x832x128_0_928_0, (k0_pay75 (b_v580 X) (b_v585 X) (b_v628 X) (b_v630 X) (b_v634 X))⟩,
    ⟨r_S1x2016x128_S1x288x128_0_640_0, (k0_pay50 (b_v356 X) (b_v420 X) (b_v422 X))⟩,
    ⟨r_S1x2016x128_S1x640x128_0_0_0, (k0_pay28 (b_v132 X) (b_v209 X))⟩]
/-- The scaled scores, one column per query. -/
def sScr (X : Blk F) : Vec F S2016x256 .f32 := View.canon [⟨r_S2016x256_S256x256_1760_0, (k0_pay90 (b_v7 X) (b_v691 X) (b_v759 X) (b_v761 X))⟩,
    ⟨r_S2016x256_S832x256_928_0, (k0_pay65 (b_v7 X) (b_v540 X) (b_v547 X) (Scalar.ofBits (F := F) .f32 0x43E00000#32) (b_v548 X))⟩,
    ⟨r_S2016x256_S288x256_640_0, (k0_pay42 (b_v7 X) (b_v316 X) (b_v328 X))⟩,
    ⟨r_S2016x256_S640x256_0_0, (k0_pay19 (b_v92 X) (b_v120 X) (b_v121 X))⟩]
def b_v924 (X : Blk F) : FVec F S1x256 .f32 :=
  k0_pay101 (View.ld (sScr X) r_S2016x256_S2016x256_0_0)
def b_v928 (X : Blk F) : FVec F S2016x256 .bf16 :=
  k0_pay102 (b_v205 X) (b_v429 X) (b_v653 X) (b_v877 X) (View.ld (sScr X) r_S2016x256_S2016x256_0_0)
def b_v931 (X : Blk F) : FVec F S2016x128 .bf16 :=
  k0_pay103 (View.ld (vOut X) r_S1x2016x128_S1x2016x128_0_0_0)
/-- The key scales after the step: lane `a` is this step's, the others are what the scratch held. -/
def ksNew (X : Blk F) (a : BitVec 32) (g : Vec F S2016x128 .f32) : Vec F S2016x128 .f32 := View.canon [⟨r_S2016x128_S256x128_1760_0, (k0_pay89 a lanes (b_v761 X) (View.ld g r_S2016x128_S256x128_1760_0))⟩,
    ⟨r_S2016x128_S832x128_928_0, (k0_pay64 a lanes (b_v540 X) (View.ld g r_S2016x128_S832x128_928_0))⟩,
    ⟨r_S2016x128_S288x128_640_0, (k0_pay41 (b_v316 X) (b_v333 a) (View.ld g r_S2016x128_S288x128_640_0))⟩,
    ⟨r_S2016x128_S640x128_0_0, (k0_pay16 a lanes (b_v81 X) (View.ld g r_S2016x128_S640x128_0_0))⟩]
/-- The value scales after the step. -/
def vsNew (X : Blk F) (a : BitVec 32) (g : Vec F S2016x128 .f32) : Vec F S2016x128 .f32 := View.canon [⟨r_S2016x128_S256x128_1760_0, (k0_pay99 a lanes (b_v877 X) (View.ld g r_S2016x128_S256x128_1760_0))⟩,
    ⟨r_S2016x128_S832x128_928_0, (k0_pay77 (b_v676 X a g))⟩,
    ⟨r_S2016x128_S288x128_640_0, (k0_pay51 a lanes (b_v420 X) (b_v422 X) (View.ld g r_S2016x128_S288x128_640_0))⟩,
    ⟨r_S2016x128_S640x128_0_0, (k0_pay29 a lanes (b_v205 X) (View.ld g r_S2016x128_S640x128_0_0))⟩]
/-- The attention output of the step. -/
def oOut (X : Blk F) : Vec F S1x256x128 .bf16 := View.canon [⟨r_S1x256x128_S1x256x128_0_0_0, (k0_pay1 (b_v924 X) (b_v928 X) (b_v931 X))⟩]
/-- The key scales of all heads as written back, from the full scratch. -/
def kscOut (g : Vec F S2016x128 .f32) : Vec F S1x56x2016 .f32 := View.canon [⟨r_S1x56x2016_S1x56x2016_0_0_0, (k0_pay2 (View.ld g r_S2016x128_S2016x128_0_0))⟩]
/-- The value scales of all heads as written back. -/
def vscOut (g : Vec F S2016x128 .f32) : Vec F S1x56x2016 .f32 := View.canon [⟨r_S1x56x2016_S1x56x2016_0_0_0, (k0_pay3 (View.ld g r_S2016x128_S2016x128_0_0))⟩]

/-! ## The stores tile what they write -/

theorem row_cases (y : ℕ) (h : y < 2016) : y < 640 ∨ (640 ≤ y ∧ y < 928) ∨ (928 ≤ y ∧ y < 1760) ∨ (1760 ≤ y ∧ y < 2016) := by omega

theorem cover_codes {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (y : S1x2016x128.Idx) :
    ∃ pc ∈ ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)), y ∈ pc.1.set := by
  rcases row_cases (y 1).val (show (y 1).val < 2016 from (y 1).isLt) with h | h | h | h
  · refine ⟨_, .tail _ (.tail _ (.tail _ (.head _))), (Rect.mem_set_unit (inb := inb_S1x2016x128_S1x640x128_0_0_0)).2 fun a => ?_⟩
    match a with
    | ⟨0, _⟩ => exact ⟨Nat.zero_le _, (y 0).isLt⟩
    | ⟨1, _⟩ => exact ⟨Nat.zero_le _, h⟩
    | ⟨2, _⟩ => exact ⟨Nat.zero_le _, (y 2).isLt⟩
  · refine ⟨_, .tail _ (.tail _ (.head _)), (Rect.mem_set_unit (inb := inb_S1x2016x128_S1x288x128_0_640_0)).2 fun a => ?_⟩
    match a with
    | ⟨0, _⟩ => exact ⟨Nat.zero_le _, (y 0).isLt⟩
    | ⟨1, _⟩ => exact ⟨h.1, h.2⟩
    | ⟨2, _⟩ => exact ⟨Nat.zero_le _, (y 2).isLt⟩
  · refine ⟨_, .tail _ (.head _), (Rect.mem_set_unit (inb := inb_S1x2016x128_S1x832x128_0_928_0)).2 fun a => ?_⟩
    match a with
    | ⟨0, _⟩ => exact ⟨Nat.zero_le _, (y 0).isLt⟩
    | ⟨1, _⟩ => exact ⟨h.1, h.2⟩
    | ⟨2, _⟩ => exact ⟨Nat.zero_le _, (y 2).isLt⟩
  · refine ⟨_, .head _, (Rect.mem_set_unit (inb := inb_S1x2016x128_S1x256x128_0_1760_0)).2 fun a => ?_⟩
    match a with
    | ⟨0, _⟩ => exact ⟨Nat.zero_le _, (y 0).isLt⟩
    | ⟨1, _⟩ => exact ⟨h.1, h.2⟩
    | ⟨2, _⟩ => exact ⟨Nat.zero_le _, (y 2).isLt⟩

theorem cover_scr {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (y : S2016x256.Idx) :
    ∃ pc ∈ ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)), y ∈ pc.1.set := by
  rcases row_cases (y 0).val (show (y 0).val < 2016 from (y 0).isLt) with h | h | h | h
  · refine ⟨_, .tail _ (.tail _ (.tail _ (.head _))), (Rect.mem_set_unit (inb := inb_S2016x256_S640x256_0_0)).2 fun a => ?_⟩
    match a with
    | ⟨0, _⟩ => exact ⟨Nat.zero_le _, h⟩
    | ⟨1, _⟩ => exact ⟨Nat.zero_le _, (y 1).isLt⟩
  · refine ⟨_, .tail _ (.tail _ (.head _)), (Rect.mem_set_unit (inb := inb_S2016x256_S288x256_640_0)).2 fun a => ?_⟩
    match a with
    | ⟨0, _⟩ => exact ⟨h.1, h.2⟩
    | ⟨1, _⟩ => exact ⟨Nat.zero_le _, (y 1).isLt⟩
  · refine ⟨_, .tail _ (.head _), (Rect.mem_set_unit (inb := inb_S2016x256_S832x256_928_0)).2 fun a => ?_⟩
    match a with
    | ⟨0, _⟩ => exact ⟨h.1, h.2⟩
    | ⟨1, _⟩ => exact ⟨Nat.zero_le _, (y 1).isLt⟩
  · refine ⟨_, .head _, (Rect.mem_set_unit (inb := inb_S2016x256_S256x256_1760_0)).2 fun a => ?_⟩
    match a with
    | ⟨0, _⟩ => exact ⟨h.1, h.2⟩
    | ⟨1, _⟩ => exact ⟨Nat.zero_le _, (y 1).isLt⟩

theorem cover_scales {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (y : S2016x128.Idx) :
    ∃ pc ∈ ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)), y ∈ pc.1.set := by
  rcases row_cases (y 0).val (show (y 0).val < 2016 from (y 0).isLt) with h | h | h | h
  · refine ⟨_, .tail _ (.tail _ (.tail _ (.head _))), (Rect.mem_set_unit (inb := inb_S2016x128_S640x128_0_0)).2 fun a => ?_⟩
    match a with
    | ⟨0, _⟩ => exact ⟨Nat.zero_le _, h⟩
    | ⟨1, _⟩ => exact ⟨Nat.zero_le _, (y 1).isLt⟩
  · refine ⟨_, .tail _ (.tail _ (.head _)), (Rect.mem_set_unit (inb := inb_S2016x128_S288x128_640_0)).2 fun a => ?_⟩
    match a with
    | ⟨0, _⟩ => exact ⟨h.1, h.2⟩
    | ⟨1, _⟩ => exact ⟨Nat.zero_le _, (y 1).isLt⟩
  · refine ⟨_, .tail _ (.head _), (Rect.mem_set_unit (inb := inb_S2016x128_S832x128_928_0)).2 fun a => ?_⟩
    match a with
    | ⟨0, _⟩ => exact ⟨h.1, h.2⟩
    | ⟨1, _⟩ => exact ⟨Nat.zero_le _, (y 1).isLt⟩
  · refine ⟨_, .head _, (Rect.mem_set_unit (inb := inb_S2016x128_S256x128_1760_0)).2 fun a => ?_⟩
    match a with
    | ⟨0, _⟩ => exact ⟨h.1, h.2⟩
    | ⟨1, _⟩ => exact ⟨Nat.zero_le _, (y 1).isLt⟩

theorem cover_ksc {e : EltTy} (p : r_S1x56x2016_S1x56x2016_0_0_0.shape.Idx → Elt F e) (y : S1x56x2016.Idx) :
    ∃ pc ∈ ([⟨r_S1x56x2016_S1x56x2016_0_0_0, p⟩] : List (View.Piece (Elt F) S1x56x2016 e)), y ∈ pc.1.set := by
  refine ⟨⟨r_S1x56x2016_S1x56x2016_0_0_0, p⟩, List.mem_singleton.2 rfl, (Rect.mem_set_unit (inb := inb_S1x56x2016_S1x56x2016_0_0_0)).2 fun a => ?_⟩
  match a with
  | ⟨0, _⟩ => exact ⟨Nat.zero_le _, (y 0).isLt.trans_le (Nat.le_add_left _ _)⟩
  | ⟨1, _⟩ => exact ⟨Nat.zero_le _, (y 1).isLt.trans_le (Nat.le_add_left _ _)⟩
  | ⟨2, _⟩ => exact ⟨Nat.zero_le _, (y 2).isLt.trans_le (Nat.le_add_left _ _)⟩

theorem cover_o {e : EltTy} (p : r_S1x256x128_S1x256x128_0_0_0.shape.Idx → Elt F e) (y : S1x256x128.Idx) :
    ∃ pc ∈ ([⟨r_S1x256x128_S1x256x128_0_0_0, p⟩] : List (View.Piece (Elt F) S1x256x128 e)), y ∈ pc.1.set := by
  refine ⟨⟨r_S1x256x128_S1x256x128_0_0_0, p⟩, List.mem_singleton.2 rfl, (Rect.mem_set_unit (inb := inb_S1x256x128_S1x256x128_0_0_0)).2 fun a => ?_⟩
  match a with
  | ⟨0, _⟩ => exact ⟨Nat.zero_le _, (y 0).isLt.trans_le (Nat.le_add_left _ _)⟩
  | ⟨1, _⟩ => exact ⟨Nat.zero_le _, (y 1).isLt.trans_le (Nat.le_add_left _ _)⟩
  | ⟨2, _⟩ => exact ⟨Nat.zero_le _, (y 2).isLt.trans_le (Nat.le_add_left _ _)⟩

theorem kscOut_of (p g : Vec F S2016x128 .f32) (h : p = View.ld g r_S2016x128_S2016x128_0_0) :
    View.canon [⟨r_S1x56x2016_S1x56x2016_0_0_0, k0_pay2 p⟩] = kscOut g := by subst h; rfl

theorem vscOut_of (p g : Vec F S2016x128 .f32) (h : p = View.ld g r_S2016x128_S2016x128_0_0) :
    View.canon [⟨r_S1x56x2016_S1x56x2016_0_0_0, k0_pay3 p⟩] = vscOut g := by subst h; rfl

end Cert.KernelIdeal.Step

end
-- ==== Proof.KIStep.lean ====
/- The run of the attention kernel's body: what it leaves in each staged block and scratch buffer. -/
module

public import proofs.«01_k».proof.Proof.KIDefs
public import proofs.«01_k».proof.Proof.Gen.KernelIdeal.Frame
public import proofs.«01_k».proof.Proof.Gen.KernelIdeal.Skeleton

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The run of the body -/

set_option maxHeartbeats 4000000 in
theorem sound_kernel (c : Dev nD) (E : Set ℕ) (i : grid0.Coords) (arg2 : Memref sig .tc .vmem S1x640x7168 .fp8e4m3) (harg2 : arg2.IsWhole) (arg3 : Memref sig .tc .vmem S1x288x7168 .fp8e4m3) (harg3 : arg3.IsWhole) (arg4 : Memref sig .tc .vmem S1x832x7168 .fp8e4m3) (harg4 : arg4.IsWhole) (arg5 : Memref sig .tc .vmem S1x256x7168 .fp8e4m3) (harg5 : arg5.IsWhole) (arg6 : Memref sig .tc .vmem S1x2016x1 .f32) (harg6 : arg6.IsWhole) (arg7 : Memref sig .tc .vmem S7168x128 .fp8e4m3) (harg7 : arg7.IsWhole) (arg8 : Memref sig .tc .vmem S7168x128 .fp8e4m3) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x256x128 .bf16) (harg11 : arg11.IsWhole) (arg12 : Memref sig .tc .vmem S1x2016x128 .fp8e4m3) (harg12 : arg12.IsWhole) (arg13 : Memref sig .tc .vmem S1x2016x128 .fp8e4m3) (harg13 : arg13.IsWhole) (arg14 : Memref sig .tc .vmem S1x56x2016 .f32) (harg14 : arg14.IsWhole) (arg15 : Memref sig .tc .vmem S1x56x2016 .f32) (harg15 : arg15.IsWhole) (arg16 : Memref sig .tc .vmem S1x256x128 .bf16) (harg16 : arg16.IsWhole) (arg17 : Memref sig .tc .vmem S2016x256 .f32) (harg17 : arg17.IsWhole) (arg18 : Memref sig .tc .vmem S2016x128 .f32) (harg18 : arg18.IsWhole) (arg19 : Memref sig .tc .vmem S2016x128 .f32) (harg19 : arg19.IsWhole)
    (X : Blk F) (d14 d15 : Vec F S1x56x2016 .f32) (g18 g19 : Vec F S2016x128 .f32) (K : PUnit → sProp 𝕄) :
    iprop(owns (c : Thread nD τ) arg2 fullShare X.cm
      ∗ owns (c : Thread nD τ) arg3 fullShare X.nw
      ∗ owns (c : Thread nD τ) arg4 fullShare X.mm
      ∗ owns (c : Thread nD τ) arg5 fullShare X.xc
      ∗ owns (c : Thread nD τ) arg6 fullShare X.csc
      ∗ owns (c : Thread nD τ) arg7 fullShare X.wk
      ∗ owns (c : Thread nD τ) arg8 fullShare X.wv
      ∗ owns (c : Thread nD τ) arg9 fullShare X.sk
      ∗ owns (c : Thread nD τ) arg10 fullShare X.sv
      ∗ owns (c : Thread nD τ) arg11 fullShare X.q
      ∗ (∃ d, owns (c : Thread nD τ) arg12 fullShare d)
      ∗ (∃ d, owns (c : Thread nD τ) arg13 fullShare d)
      ∗ owns (c : Thread nD τ) arg14 fullShare d14
      ∗ owns (c : Thread nD τ) arg15 fullShare d15
      ∗ (∃ d, owns (c : Thread nD τ) arg16 fullShare d)
      ∗ (∃ d, owns (c : Thread nD τ) arg17 fullShare d)
      ∗ owns (c : Thread nD τ) arg18 fullShare g18
      ∗ owns (c : Thread nD τ) arg19 fullShare g19
        ∗ (iprop(owns (c : Thread nD τ) arg2 fullShare X.cm
      ∗ owns (c : Thread nD τ) arg3 fullShare X.nw
      ∗ owns (c : Thread nD τ) arg4 fullShare X.mm
      ∗ owns (c : Thread nD τ) arg5 fullShare X.xc
      ∗ owns (c : Thread nD τ) arg6 fullShare X.csc
      ∗ owns (c : Thread nD τ) arg7 fullShare X.wk
      ∗ owns (c : Thread nD τ) arg8 fullShare X.wv
      ∗ owns (c : Thread nD τ) arg9 fullShare X.sk
      ∗ owns (c : Thread nD τ) arg10 fullShare X.sv
      ∗ owns (c : Thread nD τ) arg11 fullShare X.q
      ∗ owns (c : Thread nD τ) arg12 fullShare (kOut X)
      ∗ owns (c : Thread nD τ) arg13 fullShare (vOut X)
      ∗ owns (c : Thread nD τ) arg14 fullShare (if k0_cond1 i = 1#1 then kscOut (ksNew X (BitVec.ofNat 32 (i 1).val) g18) else d14)
      ∗ owns (c : Thread nD τ) arg15 fullShare (if k0_cond1 i = 1#1 then vscOut (vsNew X (BitVec.ofNat 32 (i 1).val) g19) else d15)
      ∗ owns (c : Thread nD τ) arg16 fullShare (oOut X)
      ∗ (∃ d, owns (c : Thread nD τ) arg17 fullShare d)
      ∗ owns (c : Thread nD τ) arg18 fullShare (ksNew X (BitVec.ofNat 32 (i 1).val) g18)
      ∗ owns (c : Thread nD τ) arg19 fullShare (vsNew X (BitVec.ofNat 32 (i 1).val) g19)) -∗ K ()))
      ⊢ wp frame (wpE (defs₀ (F := F)) Variants.none c none) E (cc0_kv_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_kv_attn_eq_skeleton]; unfold cc0_kv_attn_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%f14, %hf14, H14⟩, ⟨%f15, %hf15, H15⟩, ⟨%d16, %f16, -, H16⟩, ⟨%d17, %f17, -, H17⟩, ⟨%f18, %hf18, H18⟩, ⟨%f19, %hf19, H19⟩, Hk⟩
  obtain ⟨cm, nw, mm, xc, csc, wk, wv, sk, sv, q⟩ := X
  dsimp only at hf2 hf3 hf4 hf5 hf6 hf7 hf8 hf9 hf10 hf11
  subst hf2 hf3 hf4 hf5 hf6 hf7 hf8 hf9 hf10 hf11 hf14 hf15 hf18 hf19
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover_codes (F := F) _ _ _ _)).trans ?_
    rfl
  isplitl [H13]
  · iexists _; isplitr
    swap; · iexact H13
    ipureintro
    refine (View.read_writes_eq_canon _ _ _ (cover_codes (F := F) _ _ _ _)).trans ?_
    rfl
  isplitl [H14]
  · iexists _; isplitr
    swap; · iexact H14
    ipureintro
    by_cases hc : k0_cond1 i = 1#1
    · rw [dif_pos hc, if_pos hc]
      refine (View.read_writes_eq_canon _ _ _ (cover_ksc (F := F) _)).trans ?_
      refine kscOut_of _ _ ?_
      refine (View.readCov_eq_canon' _ _ _).trans ?_
      refine congrArg (fun g => View.ld g r_S2016x128_S2016x128_0_0) (?_ : View.canon _ = ksNew _ _ _)
      rfl
    · rw [dif_neg hc, if_neg hc]
  isplitl [H15]
  · iexists _; isplitr
    swap; · iexact H15
    ipureintro
    by_cases hc : k0_cond1 i = 1#1
    · rw [dif_pos hc, if_pos hc]
      refine (View.read_writes_eq_canon _ _ _ (cover_ksc (F := F) _)).trans ?_
      refine vscOut_of _ _ ?_
      refine (View.readCov_eq_canon' _ _ _).trans ?_
      refine congrArg (fun g => View.ld g r_S2016x128_S2016x128_0_0) (?_ : View.canon _ = vsNew _ _ _)
      rfl
    · rw [dif_neg hc, if_neg hc]
  isplitl [H16]
  · iexists _; isplitr
    swap; · iexact H16
    ipureintro
    refine (View.read_writes_eq_canon _ _ _ (cover_o (F := F) _)).trans ?_
    refine congrArg (fun p => View.canon [⟨r_S1x256x128_S1x256x128_0_0_0, p⟩]) ?_
    refine congr (congr (congrArg k0_pay1 ?_) ?_) ?_
    · refine congrArg k0_pay101 ?_
      refine (View.readCov_eq_canon' _ _ _).trans ?_
      refine congrArg (fun g => View.ld g r_S2016x256_S2016x256_0_0) (?_ : View.canon _ = sScr _)
      rfl
    · refine congrArg (k0_pay102 _ _ _ _) ?_
      refine (View.readCov_eq_canon' _ _ _).trans ?_
      refine congrArg (fun g => View.ld g r_S2016x256_S2016x256_0_0) (?_ : View.canon _ = sScr _)
      rfl
    · refine congrArg k0_pay103 ?_
      refine (View.readCov_eq_canon' _ _ _).trans ?_
      refine congrArg (fun g => View.ld g r_S1x2016x128_S1x2016x128_0_0_0) (?_ : View.canon _ = vOut _)
      rfl
  isplitl [H17]
  · iexists _; iexists _; isplitr
    swap; · iexact H17
    ipureintro; rfl
  isplitl [H18]
  · iexists _; isplitr
    swap; · iexact H18
    ipureintro
    refine (View.read_writes_eq_canon _ _ _ (cover_scales (F := F) _ _ _ _)).trans ?_
    rfl
  iexists _; isplitr
  swap; · iexact H19
  ipureintro
  refine (View.read_writes_eq_canon _ _ _ (cover_scales (F := F) _ _ _ _)).trans ?_
  rfl

end Cert.KernelIdeal.Step

end
-- ==== Proof.KIScale.lean ====
/- The two scale scratches, one lane per head: what a step leaves at each row and lane, over any float instance. -/
module

public import proofs.«01_k».proof.Proof.KIDefs
public import Idealize.ShloMosaic.Lib.PointwiseCore

@[expose] public section

noncomputable section

namespace Cert.KernelIdeal.Step

open Idealize.ShloMosaic
open Cert.KernelIdeal.Gen

variable {F : FTy → Type} [FloatOps F]

theorem not_mem_unit {s : Shape} {off size : Fin s.rank → Nat} {inb : ∀ a, off a + size a ≤ s.size a} {y : s.Idx} (a : Fin s.rank)
    (h : ¬ (off a ≤ (y a).val ∧ (y a).val < off a + size a)) : y ∉ (Rect.unit off size inb).set :=
  fun hm => h (Rect.mem_set_unit.1 hm a)

theorem select_eq_word {α : Type} (x a : BitVec 32) (p q : α) :
    Scalar.select (IntOp.cmpi CmpIPredicate.eq x a) p q = if x = a then p else q := by
  by_cases h : x = a
  · rw [if_pos h]; subst h; simp [Scalar.select, IntOp.cmpi]
  · rw [if_neg h]
    have hb : (x == a) = false := by simpa using h
    simp [Scalar.select, IntOp.cmpi, hb]

/-! ## A buffer written in four row segments, read at a row -/

theorem canon_emb {s : Shape} {e : EltTy} (r : Rect s) (w : r.shape.Idx → Elt F e) (L : List (View.Piece (Elt F) s e)) (y : s.Idx)
    (x : r.shape.Idx) (h : ∀ a, (y a).val = r.off a + r.stride a * (x a).val) : View.canon (⟨r, w⟩ :: L) y = w x := by
  have hy : y = r.emb x := funext fun a => Fin.ext (h a)
  rw [hy]; exact View.canon_cons_emb (Val := Elt F) _ _ _ _

theorem canon_skip {s : Shape} {e : EltTy} {off size : Fin s.rank → Nat} {inb : ∀ a, off a + size a ≤ s.size a}
    (w : (Rect.unit off size inb).shape.Idx → Elt F e) (L : List (View.Piece (Elt F) s e)) (y : s.Idx) (a : Fin s.rank)
    (h : (y a).val < off a) : View.canon (⟨Rect.unit off size inb, w⟩ :: L) y = View.canon L y :=
  View.canon_cons_of_not_mem (Val := Elt F) _ _ (not_mem_unit (inb := inb) a fun hm => absurd hm.1 (Nat.not_le.2 h))

theorem canon_scales_0 {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (r : Fin 640) (l : Fin 128) :
    View.canon ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)) (ix2 ⟨0 + r.val, by omega⟩ l) = p0 (ix2 r l) := by
  refine (canon_skip (inb := inb_S2016x128_S256x128_1760_0) _ _ _ 0 (by show 0 + r.val < 1760; omega)).trans ?_
  refine (canon_skip (inb := inb_S2016x128_S832x128_928_0) _ _ _ 0 (by show 0 + r.val < 928; omega)).trans ?_
  refine (canon_skip (inb := inb_S2016x128_S288x128_640_0) _ _ _ 0 (by show 0 + r.val < 640; omega)).trans ?_
  exact canon_emb r_S2016x128_S640x128_0_0 _ _ _ (ix2 r l) fun a => match a with
    | ⟨0, _⟩ => by show 0 + r.val = 0 + 1 * r.val; omega
    | ⟨1, _⟩ => by show l.val = 0 + 1 * l.val; omega

theorem canon_scales_1 {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (r : Fin 288) (l : Fin 128) :
    View.canon ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)) (ix2 ⟨640 + r.val, by omega⟩ l) = p1 (ix2 r l) := by
  refine (canon_skip (inb := inb_S2016x128_S256x128_1760_0) _ _ _ 0 (by show 640 + r.val < 1760; omega)).trans ?_
  refine (canon_skip (inb := inb_S2016x128_S832x128_928_0) _ _ _ 0 (by show 640 + r.val < 928; omega)).trans ?_
  exact canon_emb r_S2016x128_S288x128_640_0 _ _ _ (ix2 r l) fun a => match a with
    | ⟨0, _⟩ => by show 640 + r.val = 640 + 1 * r.val; omega
    | ⟨1, _⟩ => by show l.val = 0 + 1 * l.val; omega

theorem canon_scales_2 {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (r : Fin 832) (l : Fin 128) :
    View.canon ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)) (ix2 ⟨928 + r.val, by omega⟩ l) = p2 (ix2 r l) := by
  refine (canon_skip (inb := inb_S2016x128_S256x128_1760_0) _ _ _ 0 (by show 928 + r.val < 1760; omega)).trans ?_
  exact canon_emb r_S2016x128_S832x128_928_0 _ _ _ (ix2 r l) fun a => match a with
    | ⟨0, _⟩ => by show 928 + r.val = 928 + 1 * r.val; omega
    | ⟨1, _⟩ => by show l.val = 0 + 1 * l.val; omega

theorem canon_scales_3 {e : EltTy} (p0 : r_S2016x128_S640x128_0_0.shape.Idx → Elt F e) (p1 : r_S2016x128_S288x128_640_0.shape.Idx → Elt F e) (p2 : r_S2016x128_S832x128_928_0.shape.Idx → Elt F e) (p3 : r_S2016x128_S256x128_1760_0.shape.Idx → Elt F e) (r : Fin 256) (l : Fin 128) :
    View.canon ([⟨r_S2016x128_S256x128_1760_0, p3⟩, ⟨r_S2016x128_S832x128_928_0, p2⟩, ⟨r_S2016x128_S288x128_640_0, p1⟩, ⟨r_S2016x128_S640x128_0_0, p0⟩] : List (View.Piece (Elt F) S2016x128 e)) (ix2 ⟨1760 + r.val, by omega⟩ l) = p3 (ix2 r l) := by
  exact canon_emb r_S2016x128_S256x128_1760_0 _ _ _ (ix2 r l) fun a => match a with
    | ⟨0, _⟩ => by show 1760 + r.val = 1760 + 1 * r.val; omega
    | ⟨1, _⟩ => by show l.val = 0 + 1 * l.val; omega

theorem canon_scr_0 {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (r : Fin 640) (l : Fin 256) :
    View.canon ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)) (ix2 ⟨0 + r.val, by omega⟩ l) = p0 (ix2 r l) := by
  refine (canon_skip (inb := inb_S2016x256_S256x256_1760_0) _ _ _ 0 (by show 0 + r.val < 1760; omega)).trans ?_
  refine (canon_skip (inb := inb_S2016x256_S832x256_928_0) _ _ _ 0 (by show 0 + r.val < 928; omega)).trans ?_
  refine (canon_skip (inb := inb_S2016x256_S288x256_640_0) _ _ _ 0 (by show 0 + r.val < 640; omega)).trans ?_
  exact canon_emb r_S2016x256_S640x256_0_0 _ _ _ (ix2 r l) fun a => match a with
    | ⟨0, _⟩ => by show 0 + r.val = 0 + 1 * r.val; omega
    | ⟨1, _⟩ => by show l.val = 0 + 1 * l.val; omega

theorem canon_scr_1 {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (r : Fin 288) (l : Fin 256) :
    View.canon ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)) (ix2 ⟨640 + r.val, by omega⟩ l) = p1 (ix2 r l) := by
  refine (canon_skip (inb := inb_S2016x256_S256x256_1760_0) _ _ _ 0 (by show 640 + r.val < 1760; omega)).trans ?_
  refine (canon_skip (inb := inb_S2016x256_S832x256_928_0) _ _ _ 0 (by show 640 + r.val < 928; omega)).trans ?_
  exact canon_emb r_S2016x256_S288x256_640_0 _ _ _ (ix2 r l) fun a => match a with
    | ⟨0, _⟩ => by show 640 + r.val = 640 + 1 * r.val; omega
    | ⟨1, _⟩ => by show l.val = 0 + 1 * l.val; omega

theorem canon_scr_2 {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (r : Fin 832) (l : Fin 256) :
    View.canon ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)) (ix2 ⟨928 + r.val, by omega⟩ l) = p2 (ix2 r l) := by
  refine (canon_skip (inb := inb_S2016x256_S256x256_1760_0) _ _ _ 0 (by show 928 + r.val < 1760; omega)).trans ?_
  exact canon_emb r_S2016x256_S832x256_928_0 _ _ _ (ix2 r l) fun a => match a with
    | ⟨0, _⟩ => by show 928 + r.val = 928 + 1 * r.val; omega
    | ⟨1, _⟩ => by show l.val = 0 + 1 * l.val; omega

theorem canon_scr_3 {e : EltTy} (p0 : r_S2016x256_S640x256_0_0.shape.Idx → Elt F e) (p1 : r_S2016x256_S288x256_640_0.shape.Idx → Elt F e) (p2 : r_S2016x256_S832x256_928_0.shape.Idx → Elt F e) (p3 : r_S2016x256_S256x256_1760_0.shape.Idx → Elt F e) (r : Fin 256) (l : Fin 256) :
    View.canon ([⟨r_S2016x256_S256x256_1760_0, p3⟩, ⟨r_S2016x256_S832x256_928_0, p2⟩, ⟨r_S2016x256_S288x256_640_0, p1⟩, ⟨r_S2016x256_S640x256_0_0, p0⟩] : List (View.Piece (Elt F) S2016x256 e)) (ix2 ⟨1760 + r.val, by omega⟩ l) = p3 (ix2 r l) := by
  exact canon_emb r_S2016x256_S256x256_1760_0 _ _ _ (ix2 r l) fun a => match a with
    | ⟨0, _⟩ => by show 1760 + r.val = 1760 + 1 * r.val; omega
    | ⟨1, _⟩ => by show l.val = 0 + 1 * l.val; omega

theorem canon_codes_0 {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (r : Fin 640) (l : Fin 128) :
    View.canon ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)) (ix3 0 ⟨0 + r.val, by omega⟩ l) = p0 (ix3 0 r l) := by
  refine (canon_skip (inb := inb_S1x2016x128_S1x256x128_0_1760_0) _ _ _ 1 (by show 0 + r.val < 1760; omega)).trans ?_
  refine (canon_skip (inb := inb_S1x2016x128_S1x832x128_0_928_0) _ _ _ 1 (by show 0 + r.val < 928; omega)).trans ?_
  refine (canon_skip (inb := inb_S1x2016x128_S1x288x128_0_640_0) _ _ _ 1 (by show 0 + r.val < 640; omega)).trans ?_
  exact canon_emb r_S1x2016x128_S1x640x128_0_0_0 _ _ _ (ix3 0 r l) fun a => match a with
    | ⟨0, _⟩ => rfl
    | ⟨1, _⟩ => by show 0 + r.val = 0 + 1 * r.val; omega
    | ⟨2, _⟩ => by show l.val = 0 + 1 * l.val; omega

theorem canon_codes_1 {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (r : Fin 288) (l : Fin 128) :
    View.canon ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)) (ix3 0 ⟨640 + r.val, by omega⟩ l) = p1 (ix3 0 r l) := by
  refine (canon_skip (inb := inb_S1x2016x128_S1x256x128_0_1760_0) _ _ _ 1 (by show 640 + r.val < 1760; omega)).trans ?_
  refine (canon_skip (inb := inb_S1x2016x128_S1x832x128_0_928_0) _ _ _ 1 (by show 640 + r.val < 928; omega)).trans ?_
  exact canon_emb r_S1x2016x128_S1x288x128_0_640_0 _ _ _ (ix3 0 r l) fun a => match a with
    | ⟨0, _⟩ => rfl
    | ⟨1, _⟩ => by show 640 + r.val = 640 + 1 * r.val; omega
    | ⟨2, _⟩ => by show l.val = 0 + 1 * l.val; omega

theorem canon_codes_2 {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (r : Fin 832) (l : Fin 128) :
    View.canon ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)) (ix3 0 ⟨928 + r.val, by omega⟩ l) = p2 (ix3 0 r l) := by
  refine (canon_skip (inb := inb_S1x2016x128_S1x256x128_0_1760_0) _ _ _ 1 (by show 928 + r.val < 1760; omega)).trans ?_
  exact canon_emb r_S1x2016x128_S1x832x128_0_928_0 _ _ _ (ix3 0 r l) fun a => match a with
    | ⟨0, _⟩ => rfl
    | ⟨1, _⟩ => by show 928 + r.val = 928 + 1 * r.val; omega
    | ⟨2, _⟩ => by show l.val = 0 + 1 * l.val; omega

theorem canon_codes_3 {e : EltTy} (p0 : r_S1x2016x128_S1x640x128_0_0_0.shape.Idx → Elt F e) (p1 : r_S1x2016x128_S1x288x128_0_640_0.shape.Idx → Elt F e) (p2 : r_S1x2016x128_S1x832x128_0_928_0.shape.Idx → Elt F e) (p3 : r_S1x2016x128_S1x256x128_0_1760_0.shape.Idx → Elt F e) (r : Fin 256) (l : Fin 128) :
    View.canon ([⟨r_S1x2016x128_S1x256x128_0_1760_0, p3⟩, ⟨r_S1x2016x128_S1x832x128_0_928_0, p2⟩, ⟨r_S1x2016x128_S1x288x128_0_640_0, p1⟩, ⟨r_S1x2016x128_S1x640x128_0_0_0, p0⟩] : List (View.Piece (Elt F) S1x2016x128 e)) (ix3 0 ⟨1760 + r.val, by omega⟩ l) = p3 (ix3 0 r l) := by
  exact canon_emb r_S1x2016x128_S1x256x128_0_1760_0 _ _ _ (ix3 0 r l) fun a => match a with
    | ⟨0, _⟩ => rfl
    | ⟨1, _⟩ => by show 1760 + r.val = 1760 + 1 * r.val; omega
    | ⟨2, _⟩ => by show l.val = 0 + 1 * l.val; omega

/-! ## One scale segment -/

theorem k16_at (a : BitVec 32) (v : IVec S640x1 32) (old : Vec F S640x128 .f32) (r : Fin 640) (l : Fin 128) :
    k0_pay16 a lanes v old (ix2 r l) = if BitVec.ofNat 32 l.val = a then k0_pay13 (F := F) v (ix2 r 0) else old (ix2 r l) := by
  pointwise [k0_pay16, k0_pay40, lanes]
  exact select_eq_word _ _ _ _

theorem k41_at (a : BitVec 32) (v : FVec F S288x1 .f32) (old : Vec F S288x128 .f32) (r : Fin 288) (l : Fin 128) :
    k0_pay41 v (k0_pay40 a lanes) old (ix2 r l) = if BitVec.ofNat 32 l.val = a then v (ix2 r 0) else old (ix2 r l) := by
  pointwise [k0_pay41, k0_pay40, lanes]
  exact select_eq_word _ _ _ _

theorem k64_at (a : BitVec 32) (v : FVec F S832x1 .f32) (old : Vec F S832x128 .f32) (r : Fin 832) (l : Fin 128) :
    k0_pay64 a lanes v old (ix2 r l) = if BitVec.ofNat 32 l.val = a then v (ix2 r 0) else old (ix2 r l) := by
  pointwise [k0_pay64, k0_pay40, lanes]
  exact select_eq_word _ _ _ _

theorem k89_at (a : BitVec 32) (v : IVec S256x1 32) (old : Vec F S256x128 .f32) (r : Fin 256) (l : Fin 128) :
    k0_pay89 a lanes v old (ix2 r l) = if BitVec.ofNat 32 l.val = a then k0_pay86 (F := F) v (ix2 r 0) else old (ix2 r l) := by
  pointwise [k0_pay89, k0_pay40, lanes]
  exact select_eq_word _ _ _ _

theorem k29_at (a : BitVec 32) (v : FVec F S640x1 .f32) (old : Vec F S640x128 .f32) (r : Fin 640) (l : Fin 128) :
    k0_pay29 a lanes v old (ix2 r l) = if BitVec.ofNat 32 l.val = a then v (ix2 r 0) else old (ix2 r l) := by
  pointwise [k0_pay29, k0_pay40, lanes]
  exact select_eq_word _ _ _ _

theorem k51_at (a : BitVec 32) (v : IVec S288x1 32) (w : IVec S288x1 1) (old : Vec F S288x128 .f32) (r : Fin 288) (l : Fin 128) :
    k0_pay51 a lanes v w old (ix2 r l) = if BitVec.ofNat 32 l.val = a then k0_pay49 (F := F) v w (ix2 r 0) else old (ix2 r l) := by
  pointwise [k0_pay51, k0_pay40, lanes]
  exact select_eq_word _ _ _ _

theorem k76_at (a : BitVec 32) (s : FVec F S832x1 .f32) (v w : IVec S832x1 32) (b : IVec S832x1 1) (old : Vec F S832x128 .f32) (r : Fin 832) (l : Fin 128) :
    k0_pay77 (k0_pay76 a lanes s v w b old) (ix2 r l) = if BitVec.ofNat 32 l.val = a then k0_pay74 s v w b (ix2 r 0) else old (ix2 r l) := by
  pointwise [k0_pay76, k0_pay77, k0_pay40, lanes]
  exact select_eq_word _ _ _ _

theorem k99_at (a : BitVec 32) (v : FVec F S256x1 .f32) (old : Vec F S256x128 .f32) (r : Fin 256) (l : Fin 128) :
    k0_pay99 a lanes v old (ix2 r l) = if BitVec.ofNat 32 l.val = a then v (ix2 r 0) else old (ix2 r l) := by
  pointwise [k0_pay99, k0_pay40, lanes]
  exact select_eq_word _ _ _ _

/-- The key scale of a context row of this step. -/
def ksCol (X : Blk F) (r : Fin 2016) : F .f32 :=
  if h0 : r.val < 640 then k0_pay13 (F := F) (b_v81 X) (ix2 ⟨r.val, h0⟩ 0)
  else if h1 : r.val < 928 then b_v316 X (ix2 ⟨r.val - 640, by omega⟩ 0)
  else if h2 : r.val < 1760 then b_v540 X (ix2 ⟨r.val - 928, by omega⟩ 0)
  else k0_pay86 (F := F) (b_v761 X) (ix2 ⟨r.val - 1760, by omega⟩ 0)

/-- The value scale of a context row of this step. -/
def vsCol (X : Blk F) (r : Fin 2016) : F .f32 :=
  if h0 : r.val < 640 then b_v205 X (ix2 ⟨r.val, h0⟩ 0)
  else if h1 : r.val < 928 then k0_pay49 (F := F) (b_v420 X) (b_v422 X) (ix2 ⟨r.val - 640, by omega⟩ 0)
  else if h2 : r.val < 1760 then k0_pay74 (b_v585 X) (b_v628 X) (b_v630 X) (b_v634 X) (ix2 ⟨r.val - 928, by omega⟩ 0)
  else b_v877 X (ix2 ⟨r.val - 1760, by omega⟩ 0)

theorem ksCol_0 (X : Blk F) (r : Fin 640) : ksCol X ⟨0 + r.val, by omega⟩ = k0_pay13 (F := F) (b_v81 X) (ix2 r 0) := by
  unfold ksCol
  rw [dif_pos (by show 0 + r.val < 640; omega)]
  exact congrArg (fun t : Fin 640 => k0_pay13 (F := F) (b_v81 X) (ix2 t 0)) (Fin.ext (by show 0 + r.val = r.val; omega))
theorem ksCol_1 (X : Blk F) (r : Fin 288) : ksCol X ⟨640 + r.val, by omega⟩ = b_v316 X (ix2 r 0) := by
  unfold ksCol
  rw [dif_neg (by show ¬ (640 + r.val < 640); omega)]
  rw [dif_pos (by show 640 + r.val < 928; omega)]
  exact congrArg (fun t : Fin 288 => b_v316 X (ix2 t 0)) (Fin.ext (by show 640 + r.val - 640 = r.val; omega))
theorem ksCol_2 (X : Blk F) (r : Fin 832) : ksCol X ⟨928 + r.val, by omega⟩ = b_v540 X (ix2 r 0) := by
  unfold ksCol
  rw [dif_neg (by show ¬ (928 + r.val < 640); omega)]
  rw [dif_neg (by show ¬ (928 + r.val < 928); omega)]
  rw [dif_pos (by show 928 + r.val < 1760; omega)]
  exact congrArg (fun t : Fin 832 => b_v540 X (ix2 t 0)) (Fin.ext (by show 928 + r.val - 928 = r.val; omega))
theorem ksCol_3 (X : Blk F) (r : Fin 256) : ksCol X ⟨1760 + r.val, by omega⟩ = k0_pay86 (F := F) (b_v761 X) (ix2 r 0) := by
  unfold ksCol
  rw [dif_neg (by show ¬ (1760 + r.val < 640); omega)]
  rw [dif_neg (by show ¬ (1760 + r.val < 928); omega)]
  rw [dif_neg (by show ¬ (1760 + r.val < 1760); omega)]
  exact congrArg (fun t : Fin 256 => k0_pay86 (F := F) (b_v761 X) (ix2 t 0)) (Fin.ext (by show 1760 + r.val - 1760 = r.val; omega))

theorem vsCol_0 (X : Blk F) (r : Fin 640) : vsCol X ⟨0 + r.val, by omega⟩ = b_v205 X (ix2 r 0) := by
  unfold vsCol
  rw [dif_pos (by show 0 + r.val < 640; omega)]
  exact congrArg (fun t : Fin 640 => b_v205 X (ix2 t 0)) (Fin.ext (by show 0 + r.val = r.val; omega))
theorem vsCol_1 (X : Blk F) (r : Fin 288) : vsCol X ⟨640 + r.val, by omega⟩ = k0_pay49 (F := F) (b_v420 X) (b_v422 X) (ix2 r 0) := by
  unfold vsCol
  rw [dif_neg (by show ¬ (640 + r.val < 640); omega)]
  rw [dif_pos (by show 640 + r.val < 928; omega)]
  exact congrArg (fun t : Fin 288 => k0_pay49 (F := F) (b_v420 X) (b_v422 X) (ix2 t 0)) (Fin.ext (by show 640 + r.val - 640 = r.val; omega))
theorem vsCol_2 (X : Blk F) (r : Fin 832) : vsCol X ⟨928 + r.val, by omega⟩ = k0_pay74 (b_v585 X) (b_v628 X) (b_v630 X) (b_v634 X) (ix2 r 0) := by
  unfold vsCol
  rw [dif_neg (by show ¬ (928 + r.val < 640); omega)]
  rw [dif_neg (by show ¬ (928 + r.val < 928); omega)]
  rw [dif_pos (by show 928 + r.val < 1760; omega)]
  exact congrArg (fun t : Fin 832 => k0_pay74 (b_v585 X) (b_v628 X) (b_v630 X) (b_v634 X) (ix2 t 0)) (Fin.ext (by show 928 + r.val - 928 = r.val; omega))
theorem vsCol_3 (X : Blk F) (r : Fin 256) : vsCol X ⟨1760 + r.val, by omega⟩ = b_v877 X (ix2 r 0) := by
  unfold vsCol
  rw [dif_neg (by show ¬ (1760 + r.val < 640); omega)]
  rw [dif_neg (by show ¬ (1760 + r.val < 928); omega)]
  rw [dif_neg (by show ¬ (1760 + r.val < 1760); omega)]
  exact congrArg (fun t : Fin 256 => b_v877 X (ix2 t 0)) (Fin.ext (by show 1760 + r.val - 1760 = r.val; omega))

theorem ld_scales_0 (g : Vec F S2016x128 .f32) (r : Fin 640) (l : Fin 128) :
    View.ld g r_S2016x128_S640x128_0_0 (ix2 r l) = g (ix2 ⟨0 + r.val, by omega⟩ l) := by
  refine congrArg g (funext fun a => ?_)
  match a with
  | ⟨0, _⟩ => exact Fin.ext (by show 0 + 1 * r.val = 0 + r.val; omega)
  | ⟨1, _⟩ => exact Fin.ext (by show 0 + 1 * l.val = l.val; omega)
theorem ld_scales_1 (g : Vec F S2016x128 .f32) (r : Fin 288) (l : Fin 128) :
    View.ld g r_S2016x128_S288x128_640_0 (ix2 r l) = g (ix2 ⟨640 + r.val, by omega⟩ l) := by
  refine congrArg g (funext fun a => ?_)
  match a with
  | ⟨0, _⟩ => exact Fin.ext (by show 640 + 1 * r.val = 640 + r.val; omega)
  | ⟨1, _⟩ => exact Fin.ext (by show 0 + 1 * l.val = l.val; omega)
theorem ld_scales_2 (g : Vec F S2016x128 .f32) (r : Fin 832) (l : Fin 128) :
    View.ld g r_S2016x128_S832x128_928_0 (ix2 r l) = g (ix2 ⟨928 + r.val, by omega⟩ l) := by
  refine congrArg g (funext fun a => ?_)
  match a with
  | ⟨0, _⟩ => exact Fin.ext (by show 928 + 1 * r.val = 928 + r.val; omega)
  | ⟨1, _⟩ => exact Fin.ext (by show 0 + 1 * l.val = l.val; omega)
theorem ld_scales_3 (g : Vec F S2016x128 .f32) (r : Fin 256) (l : Fin 128) :
    View.ld g r_S2016x128_S256x128_1760_0 (ix2 r l) = g (ix2 ⟨1760 + r.val, by omega⟩ l) := by
  refine congrArg g (funext fun a => ?_)
  match a with
  | ⟨0, _⟩ => exact Fin.ext (by show 1760 + 1 * r.val = 1760 + r.val; omega)
  | ⟨1, _⟩ => exact Fin.ext (by show 0 + 1 * l.val = l.val; omega)

 /-- A statement about every context row, segment by segment. -/
theorem row_elim {P : Fin 2016 → Prop} (h0 : ∀ q : Fin 640, P ⟨0 + q.val, by omega⟩) (h1 : ∀ q : Fin 288, P ⟨640 + q.val, by omega⟩)
    (h2 : ∀ q : Fin 832, P ⟨928 + q.val, by omega⟩) (h3 : ∀ q : Fin 256, P ⟨1760 + q.val, by omega⟩) (r : Fin 2016) : P r := by
  rcases row_cases r.val r.isLt with h | h | h | h
  · have := h0 ⟨r.val, h⟩; simpa using this
  · have := h1 ⟨r.val - 640, by omega⟩; simpa [Nat.add_sub_cancel' h.1] using this
  · have := h2 ⟨r.val - 928, by omega⟩; simpa [Nat.add_sub_cancel' h.1] using this
  · have := h3 ⟨r.val - 1760, by omega⟩; simpa [Nat.add_sub_cancel' h.1] using this

theorem ksNew_at (X : Blk F) (a : BitVec 32) (g : Vec F S2016x128 .f32) (r : Fin 2016) (l : Fin 128) :
    ksNew X a g (ix2 r l) = if BitVec.ofNat 32 l.val = a then ksCol X r else g (ix2 r l) := by
  refine row_elim (P := fun r => ksNew X a g (ix2 r l) = if BitVec.ofNat 32 l.val = a then ksCol X r else g (ix2 r l)) ?_ ?_ ?_ ?_ r <;> intro q
  · rw [ksCol_0, ← ld_scales_0 g]; exact (canon_scales_0 _ _ _ _ q l).trans (k16_at _ _ _ _ _)
  · rw [ksCol_1, ← ld_scales_1 g]; exact (canon_scales_1 _ _ _ _ q l).trans (k41_at _ _ _ _ _)
  · rw [ksCol_2, ← ld_scales_2 g]; exact (canon_scales_2 _ _ _ _ q l).trans (k64_at _ _ _ _ _)
  · rw [ksCol_3, ← ld_scales_3 g]; exact (canon_scales_3 _ _ _ _ q l).trans (k89_at _ _ _ _ _)

theorem vsNew_at (X : Blk F) (a : BitVec 32) (g : Vec F S2016x128 .f32) (r : Fin 2016) (l : Fin 128) :
    vsNew X a g (ix2 r l) = if BitVec.ofNat 32 l.val = a then vsCol X r else g (ix2 r l) := by
  refine row_elim (P := fun r => vsNew X a g (ix2 r l) = if BitVec.ofNat 32 l.val = a then vsCol X r else g (ix2 r l)) ?_ ?_ ?_ ?_ r <;> intro q
  · rw [vsCol_0, ← ld_scales_0 g]; exact (canon_scales_0 _ _ _ _ q l).trans (k29_at _ _ _ _ _)
  · rw [vsCol_1, ← ld_scales_1 g]; exact (canon_scales_1 _ _ _ _ q l).trans (k51_at _ _ _ _ _ _)
  · rw [vsCol_2, ← ld_scales_2 g]; exact (canon_scales_2 _ _ _ _ q l).trans (k76_at _ _ _ _ _ _ _ _)
  · rw [vsCol_3, ← ld_scales_3 g]; exact (canon_scales_3 _ _ _ _ q l).trans (k99_at _ _ _ _ _)

/-! ## The scales written back -/

theorem kscOut_at (g : Vec F S2016x128 .f32) (h : Fin 56) (r : Fin 2016) :
    kscOut g (ix3 0 h r) = g (ix2 r ⟨h.val, by omega⟩) := by
  have hy : (ix3 0 h r : S1x56x2016.Idx) = r_S1x56x2016_S1x56x2016_0_0_0.emb (ix3 0 h r) := by
    funext a
    match a with
    | ⟨0, _⟩ => rfl
    | ⟨1, _⟩ => exact Fin.ext (by show h.val = 0 + 1 * h.val; omega)
    | ⟨2, _⟩ => exact Fin.ext (by show r.val = 0 + 1 * r.val; omega)
  unfold kscOut
  rw [hy]
  refine (View.canon_cons_emb (Val := Elt F) _ _ _ _).trans ?_
  pointwise [k0_pay2]

end Cert.KernelIdeal.Step

end
-- ==== Proof.KIFrame.lean ====
/- The attention kernel's pipeline: its proof data, with the contents of the two scale scratches tracked from step to
   step (one lane per head of the batch element in hand), the body obligation, and the launch. -/
module

public import proofs.«01_k».proof.Proof.KIStep
public import proofs.«01_k».proof.Proof.KIScale
public import proofs.«01_k».proof.Proof.Gen.KernelIdeal.Frame
public import Idealize.ShloMosaic.Lib.Claim

@[expose] public section

set_option maxRecDepth 16384

noncomputable section

namespace Cert.KernelIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of a step and the scales of a batch element -/

/-- The blocks staged at point `t`. -/
def blkAt (c : Dev nD) (t : Fin cfg0.N) : Blk F := ⟨iblk m c 0 t, iblk m c 1 t, iblk m c 2 t, iblk m c 3 t, iblk m c 4 t, iblk m c 5 t, iblk m c 6 t, iblk m c 7 t, iblk m c 8 t, iblk m c 9 t⟩

theorem cfgN : cfg0.N = 336 := N_0

/-- The blocks staged at the point numbered `n`. -/
def blkN (c : Dev nD) (n : ℕ) : Blk F :=
  if h : n < cfg0.N then blkAt m c ⟨n, h⟩ else blkAt m c ⟨0, by rw [cfgN]; omega⟩

theorem blkN_val (c : Dev nD) (t : Fin cfg0.N) (n : ℕ) (h : n = t.val) : blkN m c n = blkAt m c t := by
  subst h; unfold blkN; rw [dif_pos t.isLt]

/-- The key scales of batch element `b`: row by row, one lane per head. -/
def ksAll (c : Dev nD) (b : ℕ) : Vec F S2016x128 .f32 := fun y => ksCol (blkN m c (56 * b + (y 1).val)) (y 0)
/-- The value scales of batch element `b`. -/
def vsAll (c : Dev nD) (b : ℕ) : Vec F S2016x128 .f32 := fun y => vsCol (blkN m c (56 * b + (y 1).val)) (y 0)

/-- A scale scratch before point `t` holds the scales of the heads already met. -/
def Good (S : ℕ → Vec F S2016x128 .f32) (t : ℕ) (g : Vec F S2016x128 .f32) : Prop :=
  ∀ (r : Fin 2016) (l : Fin 128), l.val < t % 56 → g (ix2 r l) = S (t / 56) (ix2 r l)

theorem good_step (S : ℕ → Vec F S2016x128 .f32) (t : ℕ) (g g' : Vec F S2016x128 .f32) (hg : Good S t g)
    (h : ∀ (r : Fin 2016) (l : Fin 128), g' (ix2 r l) = if BitVec.ofNat 32 l.val = BitVec.ofNat 32 (t % 56) then S (t / 56) (ix2 r l) else g (ix2 r l))
    (r : Fin 2016) (l : Fin 128) (hl : l.val < t % 56 + 1) : g' (ix2 r l) = S (t / 56) (ix2 r l) := by
  rw [h r l]
  by_cases he : l.val = t % 56
  · rw [if_pos (by rw [he])]
  · rw [if_neg (fun hb => he (by have := congrArg BitVec.toNat hb; simp only [BitVec.toNat_ofNat] at this; omega))]
    exact hg r l (by omega)

theorem good_succ (S : ℕ → Vec F S2016x128 .f32) (t : ℕ) (g' : Vec F S2016x128 .f32)
    (h : ∀ (r : Fin 2016) (l : Fin 128), l.val < t % 56 + 1 → g' (ix2 r l) = S (t / 56) (ix2 r l)) : Good S (t + 1) g' := by
  intro r l hl
  by_cases h55 : t % 56 = 55
  · omega
  · rw [show (t + 1) / 56 = t / 56 by omega]; exact h r l (by omega)

theorem lane_val (t : Fin cfg0.N) : (grid0.coords t 1).val = t.val % 56 := by
  have h := Pipeline.Grid.coords_val (G := grid0) t 1 (S := 1) (B := 56) (by decide) (by decide)
  rw [h, Nat.div_one]

theorem cond_iff (t : Fin cfg0.N) : k0_cond1 (grid0.coords t) = 1#1 ↔ t.val % 56 = 55 := by
  have h := lane_val t
  have hlt : t.val % 56 < 56 := Nat.mod_lt _ (by omega)
  unfold k0_cond1
  rw [h]
  generalize t.val % 56 = n at hlt
  revert n
  decide

theorem ks_step (c : Dev nD) (t : Fin cfg0.N) (g : Vec F S2016x128 .f32) (r : Fin 2016) (l : Fin 128) :
    ksNew (blkAt m c t) (BitVec.ofNat 32 (grid0.coords t 1).val) g (ix2 r l)
      = if BitVec.ofNat 32 l.val = BitVec.ofNat 32 (t.val % 56) then ksAll m c (t.val / 56) (ix2 r l) else g (ix2 r l) := by
  rw [ksNew_at, lane_val]
  by_cases he : l.val = t.val % 56
  · rw [if_pos (by rw [he]), if_pos (by rw [he])]
    exact congrArg (fun X => ksCol X r) (blkN_val m c t _ (by show 56 * (t.val / 56) + l.val = t.val; omega)).symm
  · have hb : ¬ BitVec.ofNat 32 l.val = BitVec.ofNat 32 (t.val % 56) := fun hb => he (by
      have := congrArg BitVec.toNat hb; simp only [BitVec.toNat_ofNat] at this; omega)
    rw [if_neg hb, if_neg hb]

theorem vs_step (c : Dev nD) (t : Fin cfg0.N) (g : Vec F S2016x128 .f32) (r : Fin 2016) (l : Fin 128) :
    vsNew (blkAt m c t) (BitVec.ofNat 32 (grid0.coords t 1).val) g (ix2 r l)
      = if BitVec.ofNat 32 l.val = BitVec.ofNat 32 (t.val % 56) then vsAll m c (t.val / 56) (ix2 r l) else g (ix2 r l) := by
  rw [vsNew_at, lane_val]
  by_cases he : l.val = t.val % 56
  · rw [if_pos (by rw [he]), if_pos (by rw [he])]
    exact congrArg (fun X => vsCol X r) (blkN_val m c t _ (by show 56 * (t.val / 56) + l.val = t.val; omega)).symm
  · have hb : ¬ BitVec.ofNat 32 l.val = BitVec.ofNat 32 (t.val % 56) := fun hb => he (by
      have := congrArg BitVec.toNat hb; simp only [BitVec.toNat_ofNat] at this; omega)
    rw [if_neg hb, if_neg hb]

theorem kscOut_congr (g g' : Vec F S2016x128 .f32) (h : ∀ (r : Fin 2016) (l : Fin 128), l.val < 56 → g (ix2 r l) = g' (ix2 r l)) :
    kscOut g = kscOut g' := by
  funext y
  have h0 : y 0 = (0 : Fin 1) := Subsingleton.elim (α := Fin 1) _ _
  have hy : y = ix3 0 (y 1) (y 2) := by rw [← h0]; exact eq_ix3 y
  rw [hy]
  refine (kscOut_at g (y 1) (y 2)).trans ((h _ _ ?_).trans (kscOut_at g' (y 1) (y 2)).symm)
  exact (y 1).isLt

theorem vscOut_congr (g g' : Vec F S2016x128 .f32) (h : ∀ (r : Fin 2016) (l : Fin 128), l.val < 56 → g (ix2 r l) = g' (ix2 r l)) :
    vscOut g = vscOut g' := kscOut_congr g g' h

/-! ## The pipeline's proof data -/

/-- Between points: the scores scratch at anything, the scale scratches holding the scales met so far, and the
    generator register. -/
def Inv (c : Dev nD) (t : ℕ) : sProp 𝕄 :=
  iprop(∃ g18 : Vec F S2016x128 .f32, ∃ g19 : Vec F S2016x128 .f32, ⌜Good (ksAll m c) t g18 ∧ Good (vsAll m c) t g19⌝
    ∗ (∃ d, owns (c : Thread nD τ) (Memref.whole cc0_scratch0) fullShare d)
    ∗ owns (c : Thread nD τ) (Memref.whole cc0_scratch1) fullShare g18
    ∗ owns (c : Thread nD τ) (Memref.whole cc0_scratch2) fullShare g19
    ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => kOut (blkAt m c t)
    | ⟨11, _⟩ => vOut (blkAt m c t)
    | ⟨12, _⟩ => kscOut (ksAll m c (t.val / 56))
    | ⟨13, _⟩ => vscOut (vsAll m c (t.val / 56))
    | ⟨14, _⟩ => oOut (blkAt m c t)
  Φ t := Inv m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = kOut (blkAt m c t) := by dsimp only [dats]
theorem after0_11 (c : Dev nD) (t : Fin cfg0.N) : (dats m 0 c).after 11 t = vOut (blkAt m c t) := by dsimp only [dats]
theorem after0_12 (c : Dev nD) (t : Fin cfg0.N) : (dats m 0 c).after 12 t = kscOut (ksAll m c (t.val / 56)) := by dsimp only [dats]
theorem after0_13 (c : Dev nD) (t : Fin cfg0.N) : (dats m 0 c).after 13 t = vscOut (vsAll m c (t.val / 56)) := by dsimp only [dats]
theorem after0_14 (c : Dev nD) (t : Fin cfg0.N) : (dats m 0 c).after 14 t = oOut (blkAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (match !(k0_cond1 (grid0.coords t) == 1#1) with
        | true => (match (cfg0.win 12).flush t with
          | false => iprop(∃ d, owns (c : Thread nD τ) (st0_12 t) fullShare ((dats m 0 c).before 12 t d))
          | true => owns (c : Thread nD τ) (st0_12 t) fullShare ((dats m 0 c).after 12 t))
        | false => owns (c : Thread nD τ) (st0_12 t) fullShare ((dats m 0 c).after 12 t))
    ∗ (match !(k0_cond1 (grid0.coords t) == 1#1) with
        | true => (match (cfg0.win 13).flush t with
          | false => iprop(∃ d, owns (c : Thread nD τ) (st0_13 t) fullShare ((dats m 0 c).before 13 t d))
          | true => owns (c : Thread nD τ) (st0_13 t) fullShare ((dats m 0 c).after 13 t))
        | false => owns (c : Thread nD τ) (st0_13 t) fullShare ((dats m 0 c).after 13 t))
    ∗ owns (c : Thread nD τ) (st0_14 t) fullShare ((dats m 0 c).after 14 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = Inv m c (t.val + 1) from rfl, show (dats m 0 c).Φ t.castSucc = Inv m c t.val from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  unfold Inv
  iintro ⟨⟨%g18, %g19, %hg, H17, H18, H19, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  obtain ⟨hk, hv⟩ := hg
  have hk' := good_step (ksAll m c) t.val g18 _ hk (ks_step m c t g18)
  have hv' := good_step (vsAll m c) t.val g19 _ hv (vs_step m c t g19)
  iapply (sound_kernel c Set.univ _ _ _ _ _ _ _ _ _ _ _ _ _ _ _ _ _ _ _ _ _ _ _ _ _ _ _ _ _ _ _ _ _ _ _ _ _ (blkAt m c t) ((dats m 0 c).before 12 t d12) ((dats m 0 c).before 13 t d13) g18 g19 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexact H12
  isplitl [H13]; · iexact H13
  isplitl [H14]; · iexists _; iexact H14
  isplitl [H17]; · iexact H17
  isplitl [H18]; · iexact H18
  isplitl [H19]; · iexact H19
  iintro ⟨H0, H1, H2, H3, H4, H5, H6, H7, H8, H9, H10, H11, H12, H13, H14, H17, H18, H19⟩
  isplitl [H17 H18 H19 Hp]
  · iexists _; iexists _
    isplitr
    swap
    · isplitl [H17]; · iexact H17
      isplitl [H18]; · iexact H18
      isplitl [H19]; · iexact H19
      iexact Hp
    · ipureintro
      exact ⟨good_succ _ _ _ hk', good_succ _ _ _ hv'⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  by_cases hc : k0_cond1 (grid0.coords t) = 1#1
  · have h55 : t.val % 56 = 55 := (cond_iff t).1 hc
    have e12 := kscOut_congr _ (ksAll m c (t.val / 56)) fun r l hl => hk' r l (by omega)
    have e13 := vscOut_congr _ (vsAll m c (t.val / 56)) fun r l hl => hv' r l (by omega)
    rw [if_pos hc, if_pos hc, e12, e13]
    simp only [hc, beq_self_eq_true, Bool.not_true]
    isplitl [H12]; · iexact H12
    isplitl [H13]; · iexact H13
    iexact H14
  · have h55 : ¬ t.val % 56 = 55 := fun h => hc ((cond_iff t).2 h)
    have f12 : (cfg0.win 12).flush t = false := Bool.eq_false_iff.2 fun h => h55 ((flush0_12 t).1 h)
    have f13 : (cfg0.win 13).flush t = false := Bool.eq_false_iff.2 fun h => h55 ((flush0_13 t).1 h)
    have hb : (k0_cond1 (grid0.coords t) == 1#1) = false := by simpa using hc
    rw [if_neg hc, if_neg hc]
    simp only [hb, f12, f13, Bool.not_false]
    isplitl [H12]; · iexists _; iexact H12
    isplitl [H13]; · iexists _; iexact H13
    iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem inv_in (c : Dev nD) : Pipeline.ΦA spec0 c ⊢ (dats (F := F) m 0 c).Φ 0 := by
  show Pipeline.ΦA spec0 c ⊢ Inv m c 0
  unfold Pipeline.ΦA Inv
  rw [scopedRest0_eq]
  simp only [owns_whole]
  iintro ⟨⟨H17, ⟨%g18, H18⟩, ⟨%g19, H19⟩⟩, Hp⟩
  iexists g18; iexists g19
  isplitr
  · ipureintro
    exact ⟨fun r l h => absurd h (Nat.not_lt_zero _), fun r l h => absurd h (Nat.not_lt_zero _)⟩
  isplitl [H17]; · iexact H17
  isplitl [H18]; · iexact H18
  isplitl [H19]; · iexact H19
  iexact Hp

theorem inv_out (c : Dev nD) : (dats (F := F) m 0 c).Φ (Fin.last cfg0.N) ⊢ Pipeline.ΦA spec0 c := by
  show Inv m c (Fin.last cfg0.N).val ⊢ Pipeline.ΦA spec0 c
  unfold Pipeline.ΦA Inv
  rw [scopedRest0_eq]
  simp only [owns_whole]
  iintro ⟨%g18, %g19, -, H17, H18, H19, Hp⟩
  isplitr [Hp]
  · isplitl [H17]; · iexact H17
    isplitl [H18]
    · iexists g18; iexact H18
    iexists g19; iexact H19
  iexact Hp

set_option backward.isDefEq.respectTransparency.types false in
set_option maxHeartbeats 800000 in
/-- The launch: every weakly fair execution of @main terminates, with every array of the pipeline at what the proof
    data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m) (hin := inv_in m) (hout := inv_out m)
    (Q' := fun r => (Pipeline.FramePost cfgs (dats m) 0 (V m)) r ∧ r.2.sem = fun _ => 0) (hQ' := fun _ h => h)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame, at any float instance. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Step

end
-- ==== Proof.KIBlk.lean ====
/- The blocks that the kernel stages at a step, read as entries of its arguments. -/
module

public import proofs.«01_k».proof.Proof.KIFrame
public import Idealize.ShloMosaic.Lib.Pipeline.ValueKit

@[expose] public section

noncomputable section

namespace Cert.KernelIdeal.Step

open Idealize.ShloMosaic Idealize.ShloMosaic.TcCoe Idealize.ShloMosaic.Tactic Idealize.SL.Sem
open Cert.KernelIdeal Cert.KernelIdeal.Gen

variable {F : FTy → Type} [FloatOps F]
variable (m : (ℓ : Loc nD τ sig) → Buf (Elt F) ℓ)

/-- Every window's block index at a point, by batch element and head. -/
theorem idx_all : ∀ t : Fin cfg0.N,
    win0_0.index t = ![t.val / 56, 0, 0] ∧ win0_1.index t = ![t.val / 56, 0, 0] ∧ win0_2.index t = ![t.val / 56, 1, 0] ∧
    win0_3.index t = ![t.val / 56, 0, 0] ∧ win0_4.index t = ![t.val / 56, 0, 0] ∧ win0_5.index t = ![0, t.val % 56] ∧
    win0_6.index t = ![0, 56 + t.val % 56] ∧ win0_7.index t = ![t.val % 56, 0, 0] ∧ win0_8.index t = ![56 + t.val % 56, 0, 0] ∧
    win0_9.index t = ![t.val / 56, 0, t.val % 56] ∧ win0_10.index t = ![t.val / 56, 0, t.val % 56] ∧
    win0_11.index t = ![t.val / 56, 0, t.val % 56] ∧ win0_12.index t = ![t.val / 56, 0, 0] ∧
    win0_13.index t = ![t.val / 56, 0, 0] ∧ win0_14.index t = ![t.val / 56, 0, t.val % 56] :=
  (by decide +kernel : ∀ t : Fin grid0.N, _)

theorem cm_at (c : Dev nD) (t : Fin cfg0.N) (b : Fin 6) (h : Fin 56) (e : t.val = 56 * b.val + h.val) (r : Fin 640) (x : Fin 7168) :
    (blkAt m c t).cm (ix3 0 r x) = m ((c : Thread nD τ).loc main_arg0) (ix3 b r x) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 0 t (ix3 0 r x) = _
  blk_ext [iblk, V_main_arg0, i0]

theorem nw_at (c : Dev nD) (t : Fin cfg0.N) (b : Fin 6) (h : Fin 56) (e : t.val = 56 * b.val + h.val) (r : Fin 288) (x : Fin 7168) :
    (blkAt m c t).nw (ix3 0 r x) = m ((c : Thread nD τ).loc main_arg1) (ix3 b r x) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 1 t (ix3 0 r x) = _
  blk_ext [iblk, V_main_arg1, i1]

theorem mm_at (c : Dev nD) (t : Fin cfg0.N) (b : Fin 6) (h : Fin 56) (e : t.val = 56 * b.val + h.val) (r : Fin 832) (x : Fin 7168) :
    (blkAt m c t).mm (ix3 0 r x) = m ((c : Thread nD τ).loc main_arg2) (ix3 b ⟨832 + r.val, by omega⟩ x) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 2 t (ix3 0 r x) = _
  blk_ext [iblk, V_main_arg2, i2]

theorem xc_at (c : Dev nD) (t : Fin cfg0.N) (b : Fin 6) (h : Fin 56) (e : t.val = 56 * b.val + h.val) (r : Fin 256) (x : Fin 7168) :
    (blkAt m c t).xc (ix3 0 r x) = m ((c : Thread nD τ).loc main_arg3) (ix3 b r x) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 3 t (ix3 0 r x) = _
  blk_ext [iblk, V_main_arg3, i3]

theorem csc_at (c : Dev nD) (t : Fin cfg0.N) (b : Fin 6) (h : Fin 56) (e : t.val = 56 * b.val + h.val) (r : Fin 2016) :
    (blkAt m c t).csc (ix3 0 r 0) = m ((c : Thread nD τ).loc main_arg4) (ix3 b r 0) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 4 t (ix3 0 r 0) = _
  blk_ext [iblk, V_main_arg4, i4]

theorem wk_at (c : Dev nD) (t : Fin cfg0.N) (b : Fin 6) (h : Fin 56) (e : t.val = 56 * b.val + h.val) (x : Fin 7168) (l : Fin 128) :
    (blkAt m c t).wk (ix2 x l) = m ((c : Thread nD τ).loc main_arg5) (ix4 x 0 h l) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 5 t (ix2 x l) = _
  blk_simp [iblk, i5]
  entry_read
  pointwise
  blk_ext [i5]

theorem wv_at (c : Dev nD) (t : Fin cfg0.N) (b : Fin 6) (h : Fin 56) (e : t.val = 56 * b.val + h.val) (x : Fin 7168) (l : Fin 128) :
    (blkAt m c t).wv (ix2 x l) = m ((c : Thread nD τ).loc main_arg5) (ix4 x 1 h l) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 6 t (ix2 x l) = _
  blk_simp [iblk, i6]
  entry_read
  pointwise
  blk_ext [i6]

theorem sk_at (c : Dev nD) (t : Fin cfg0.N) (b : Fin 6) (h : Fin 56) (e : t.val = 56 * b.val + h.val) (l : Fin 128) :
    (blkAt m c t).sk (ix3 0 0 l) = m ((c : Thread nD τ).loc main_arg6) (ix3 0 h l) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 7 t (ix3 0 0 l) = _
  blk_simp [iblk, i7]
  entry_read
  pointwise
  blk_ext [i7]

theorem sv_at (c : Dev nD) (t : Fin cfg0.N) (b : Fin 6) (h : Fin 56) (e : t.val = 56 * b.val + h.val) (l : Fin 128) :
    (blkAt m c t).sv (ix3 0 0 l) = m ((c : Thread nD τ).loc main_arg6) (ix3 1 h l) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 8 t (ix3 0 0 l) = _
  blk_simp [iblk, i8]
  entry_read
  pointwise
  blk_ext [i8]

theorem qBlk_at (c : Dev nD) (t : Fin cfg0.N) (b : Fin 6) (h : Fin 56) (e : t.val = 56 * b.val + h.val) (q : Fin 256) (l : Fin 128) :
    (blkAt m c t).q (ix3 0 q l) = m ((c : Thread nD τ).loc main_arg7) (ix3 b q ⟨h.val * 128 + l.val, by omega⟩) := by
  have e1 : t.val / 56 = b.val := by omega
  have e2 : t.val % 56 = h.val := by omega
  obtain ⟨i0, i1, i2, i3, i4, i5, i6, i7, i8, i9, -⟩ := idx_all t
  simp only [e1, e2] at i0 i1 i2 i3 i4 i5 i6 i7 i8 i9
  show iblk m c 9 t (ix3 0 q l) = _
  blk_ext [iblk, V_main_arg7, i9]

end Cert.KernelIdeal.Step

end
-- ==== Proof.Quant.lean ====
/- The quantiser's scale: a search for the exponent field of a number by comparisons with powers of two, and the plain formula
`2 ^ (⌊log x / log 2⌋ + 1)`, give the same scale and the same inverse at every extended real `x ≥ 0`. -/
module

public import Idealize.ShloMosaic.PureOps.Ideal
public import Idealize.ShloMosaic.Lib.Pointwise

@[expose] public section

noncomputable section

namespace Cert.Quant

open Idealize.ShloMosaic

/-- One step of the search for the exponent field: take the bit `b` if the power of two it makes is not above `x`. -/
def bitStep (x : Ideal .f32) (b e : BitVec 32) : BitVec 32 :=
  if Ideal.ofBits .f32 (IntOp.shli .vector (IntOp.addi e b) 23#32) ≤ x then IntOp.addi e b else e

theorem bitStep_at {s : Shape} (v : FVec Ideal s .f32) (e : IVec s 32) (b : BitVec 32) (j : s.Idx) :
    select (cmpf .oge v (bitcastToFloat .f32 (shli (addi e (broadcast s b)) (broadcast s 23#32)))) (addi e (broadcast s b)) e j
      = bitStep (v j) b (e j) := by
  unfold bitStep
  pointwise

/-- The exponent of `n`, as a number. -/
def pow2 (n : ℕ) : EReal := if n = 0 then 0 else if 255 ≤ n then ⊤ else (((2 : ℝ) ^ ((n : ℤ) - 127) : ℝ) : EReal)

theorem ofBits_shl (n : ℕ) (h : n ≤ 255) :
    Ideal.ofBits .f32 (IntOp.shli .vector (BitVec.ofNat 32 n) 23#32) = pow2 n := by
  have hex : ((BitVec.ofNat 32 n <<< 23).extractLsb' 23 8).toNat = n := by
    simp [BitVec.extractLsb'_toNat, Nat.shiftLeft_eq, Nat.shiftRight_eq_div_pow]; omega
  have hfr : ((BitVec.ofNat 32 n <<< 23).extractLsb' 0 23).toNat = 0 := by
    simp [BitVec.extractLsb'_toNat, Nat.shiftLeft_eq, Nat.shiftRight_eq_div_pow]
  have hneg : ((BitVec.ofNat 32 n <<< 23).extractLsb' 31 1 == 1#1) = false := by
    rw [beq_eq_false_iff_ne]; intro hh
    have := congrArg BitVec.toNat hh
    simp [BitVec.extractLsb'_toNat, Nat.shiftLeft_eq, Nat.shiftRight_eq_div_pow] at this; omega
  have hs : IntOp.shli .vector (BitVec.ofNat 32 n) 23#32 = BitVec.ofNat 32 n <<< 23 := by
    rfl
  rw [hs]
  simp only [Ideal.ofBits, Ideal.ieee]
  rw [hex, hfr, hneg]
  unfold pow2
  rcases Nat.eq_zero_or_pos n with h0 | h0
  · subst h0; simp
  · by_cases h255 : n = 255
    · subst h255; simp
    · have hn : ¬ n = 0 := by omega
      have hn' : ¬ 255 ≤ n := by omega
      simp only [hn, hn', h255, if_false, show ((2 : ℕ) ^ 8 - 1) = 255 from rfl]
      refine congrArg Real.toEReal ?_
      have e1 : ((n : ℤ) - (2 ^ (8 - 1) - 1) - (23 : ℕ)) = ((n : ℤ) - 127) + (-23) := by norm_num; ring
      rw [e1, zpow_add₀ (by norm_num)]
      norm_num
      ring

/-! ## The search finds the exponent -/

/-- The search, largest bit first. -/
def expField (x : Ideal .f32) : BitVec 32 :=
  bitStep x 1#32 (bitStep x 2#32 (bitStep x 4#32 (bitStep x 8#32 (bitStep x 16#32 (bitStep x 32#32 (bitStep x 64#32 (bitStep x 128#32 0#32)))))))

/-- `e` is a lower bound of the exponent of `x`, and the exponent is less than `w` above it. -/
def Within (x : EReal) (w : ℕ) (e : BitVec 32) : Prop :=
  ∃ n : ℕ, e = BitVec.ofNat 32 n ∧ n + w ≤ 256 ∧ pow2 n ≤ x ∧ (x < pow2 (n + w) ∨ n + w = 256)

theorem within_step {x : EReal} {b : ℕ} {e : BitVec 32} (hb : 0 < b) (h : Within x (b + b) e) : Within x b (bitStep x (BitVec.ofNat 32 b) e) := by
  obtain ⟨n, rfl, hn, hlo, hhi⟩ := h
  have hadd : IntOp.addi (BitVec.ofNat 32 n) (BitVec.ofNat 32 b) = BitVec.ofNat 32 (n + b) := by
    show BitVec.ofNat 32 n + BitVec.ofNat 32 b = _
    rw [BitVec.ofNat_add]
  unfold bitStep
  rw [hadd, ofBits_shl _ (by omega)]
  by_cases hx : pow2 (n + b) ≤ x
  · rw [if_pos hx]
    exact ⟨n + b, rfl, by omega, hx, by rwa [Nat.add_assoc]⟩
  · rw [if_neg hx]
    exact ⟨n, rfl, by omega, hlo, Or.inl (not_le.1 hx)⟩

theorem expField_spec {x : EReal} (hx : 0 ≤ x) :
    ∃ n : ℕ, expField x = BitVec.ofNat 32 n ∧ n ≤ 255 ∧ pow2 n ≤ x ∧ (x < pow2 (n + 1) ∨ n = 255) := by
  have h0 : Within x (128 + 128) 0#32 := ⟨0, rfl, by omega, by simpa [pow2] using hx, Or.inr rfl⟩
  have h1 : Within x 1 (expField x) :=
    within_step (b := 1) (by omega) (within_step (b := 2) (by omega) (within_step (b := 4) (by omega) (within_step (b := 8) (by omega)
      (within_step (b := 16) (by omega) (within_step (b := 32) (by omega) (within_step (b := 64) (by omega) (within_step (b := 128) (by omega) h0)))))))
  obtain ⟨n, h, hb, hc, hd⟩ := h1
  exact ⟨n, h, by omega, hc, hd.imp id (by omega)⟩

/-! ## Scale and inverse -/

/-- The exponent that the scale takes, from the exponent field. -/
def adj (w : BitVec 32) : BitVec 32 := Scalar.select (IntOp.cmpi .eq (IntOp.minsi w 252#32) 0#32) 126#32 (IntOp.minsi w 252#32)
/-- The scale, from the exponent field. -/
def kScale (w : BitVec 32) : EReal := Ideal.ofBits .f32 (IntOp.shli .vector (IntOp.addi (adj w) 1#32) 23#32)
/-- The inverse of the scale, from the exponent field. -/
def kInv (w : BitVec 32) : EReal := Ideal.ofBits .f32 (IntOp.shli .vector (IntOp.subi 253#32 (adj w)) 23#32)

/-- The exponent of the scale as the reference has it. -/
def rExp (x : EReal) : EReal :=
  if x < Ideal.ofBits .f32 8388608#32 then 0
  else min (Ideal.liftRound Int.floor (Ideal.div (Ideal.log x) (Scalar.log (F := Ideal) (Ideal.ofBits .f32 1073741824#32 : Ideal .f32))) + 1) (Ideal.ofBits .f32 1123811328#32)

/-- The adjusted exponent as a number. -/
def adjN (n : ℕ) : ℕ := if n = 0 then 126 else min n 252

theorem adj_ofNat : ∀ n : Fin 256, IntOp.addi (adj (BitVec.ofNat 32 n.val)) 1#32 = BitVec.ofNat 32 (adjN n.val + 1)
    ∧ IntOp.subi 253#32 (adj (BitVec.ofNat 32 n.val)) = BitVec.ofNat 32 (253 - adjN n.val) := by
  decide +kernel

theorem adjN_le (n : ℕ) : 1 ≤ adjN n ∧ adjN n ≤ 252 := by unfold adjN; split <;> omega

theorem pow2_real {n : ℕ} (h0 : n ≠ 0) (h1 : n ≤ 254) : pow2 n = (((2 : ℝ) ^ ((n : ℤ) - 127) : ℝ) : EReal) := by
  unfold pow2; rw [if_neg h0, if_neg (by omega)]

theorem ofBits_min : Ideal.ofBits .f32 8388608#32 = pow2 1 := ofBits_shl 1 (by omega)
theorem ofBits_two : Ideal.ofBits .f32 1073741824#32 = ((2 : ℝ) : EReal) := by
  have := ofBits_shl 128 (by omega)
  rw [pow2_real (by omega) (by omega)] at this
  norm_num at this
  exact this
theorem ofBits_126 : Ideal.ofBits .f32 1123811328#32 = ((126 : ℝ) : EReal) := by
  simp [Ideal.ofBits, Ideal.ieee]
  rw [← EReal.coe_mul]
  norm_num

theorem log_two : Scalar.log (F := Ideal) (Ideal.ofBits .f32 1073741824#32 : Ideal .f32) = ((Real.log 2 : ℝ) : EReal) := by
  rw [ofBits_two]
  rw [show Scalar.log (F := Ideal) (φ := .f32) ((2 : ℝ) : EReal) = Ideal.log ((2 : ℝ) : EReal) from rfl, Ideal.log_coe, if_neg (by norm_num)]

theorem rExp_real {r : ℝ} {k : ℤ} (hlo : (2 : ℝ) ^ k ≤ r) (hhi : r < (2 : ℝ) ^ (k + 1)) (hk : -126 ≤ k) : rExp (r : EReal) = ((min (k + 1 : ℝ) 126 : ℝ) : EReal) := by
  have hpos : (0 : ℝ) < r := lt_of_lt_of_le (zpow_pos (by norm_num) _) hlo
  have hl2 : (0 : ℝ) < Real.log 2 := Real.log_pos (by norm_num)
  have hfl : ⌊Real.log r * (Real.log 2)⁻¹⌋ = k := by
    rw [Int.floor_eq_iff]
    constructor
    · rw [← div_eq_mul_inv, le_div_iff₀ hl2, ← Real.log_zpow]
      exact Real.log_le_log (zpow_pos (by norm_num) _) hlo
    · rw [← div_eq_mul_inv, div_lt_iff₀ hl2]
      have := Real.log_lt_log hpos hhi
      rw [Real.log_zpow] at this
      push_cast at this
      exact this
  unfold rExp
  rw [if_neg, log_two, ofBits_126, Ideal.log_coe, if_neg (not_le.2 hpos)]
  · unfold Ideal.div
    rw [if_neg (by exact_mod_cast hl2.ne'), ← EReal.coe_inv, ← EReal.coe_mul, Ideal.liftRound_coe, hfl, show ((min (k + 1 : ℝ) 126 : ℝ) : EReal) = min ((k + 1 : ℝ) : EReal) ((126 : ℝ) : EReal) from EReal.coe_strictMono.monotone.map_min]
    norm_cast
  · rw [ofBits_min, pow2_real (by omega) (by omega), not_lt]
    exact_mod_cast le_trans (zpow_le_zpow_right₀ (by norm_num) (show ((1 : ℕ) : ℤ) - 127 ≤ k by omega)) hlo

theorem rExp_top : rExp ⊤ = ((126 : ℝ) : EReal) := by
  have hl2 : (0 : ℝ) < Real.log 2 := Real.log_pos (by norm_num)
  unfold rExp
  rw [if_neg (not_lt.2 le_top), log_two, ofBits_126, Ideal.log_top]
  unfold Ideal.div
  rw [if_neg (by exact_mod_cast hl2.ne'), ← EReal.coe_inv, EReal.top_mul_coe_of_pos (inv_pos.2 hl2), Ideal.liftRound_top]
  rw [show (⊤ : EReal) + 1 = ⊤ from rfl, min_eq_right le_top]

theorem rExp_eq {x : EReal} {n : ℕ} (hn : n ≤ 255) (hlo : pow2 n ≤ x) (hhi : x < pow2 (n + 1) ∨ n = 255) :
    rExp x = ((((adjN n : ℤ) - 126 : ℤ) : ℝ) : EReal) := by
  rcases Nat.eq_zero_or_pos n with rfl | h0
  · have hx : x < pow2 1 := hhi.resolve_right (by omega)
    unfold rExp
    rw [ofBits_min, if_pos hx]
    simp [adjN]
  · by_cases h255 : n = 255
    · subst h255
      have : x = ⊤ := top_le_iff.1 (by simpa [pow2] using hlo)
      rw [this, rExp_top]; norm_num [adjN]
    · have hx := hhi.resolve_right h255
      rw [pow2_real (by omega) (by omega)] at hlo
      have hxt : x ≠ ⊤ := ne_top_of_lt hx
      have hxb : x ≠ ⊥ := fun h => by rw [h] at hlo; exact absurd hlo (not_le.2 (EReal.bot_lt_coe _))
      lift x to ℝ using ⟨hxt, hxb⟩
      have hlo' : (2 : ℝ) ^ ((n : ℤ) - 127) ≤ x := by exact_mod_cast hlo
      have hadj : ((((adjN n : ℤ) - 126 : ℤ) : ℝ)) = min ((n : ℝ) - 126) 126 := by
        unfold adjN; rw [if_neg (by omega)]
        push_cast
        rw [← min_sub_sub_right]; norm_num
      by_cases h254 : n = 254
      · -- no upper bound of the kind: the exponent is at least the largest one
        subst h254
        rw [hadj]
        have h2 : (0:ℝ) < x := lt_of_lt_of_le (zpow_pos (by norm_num) _) hlo'
        obtain ⟨k, hk1, hk2⟩ := exists_mem_Ico_zpow (x := x) (y := (2:ℝ)) h2 (by norm_num)
        have hk : 127 ≤ k := by
          by_contra hc
          have : (2:ℝ) ^ (k + 1) ≤ (2:ℝ) ^ (127 : ℤ) := zpow_le_zpow_right₀ (by norm_num) (by omega)
          have h3 : (2 : ℝ) ^ (127 : ℤ) ≤ x := by simpa using hlo'
          exact absurd (lt_of_lt_of_le hk2 (this.trans h3)) (lt_irrefl _)
        rw [rExp_real hk1 hk2 (by omega)]
        have hkr : (127 : ℝ) ≤ k := by exact_mod_cast hk
        rw [min_eq_right (by linarith), min_eq_right (by norm_num)]
      · rw [pow2_real (by omega) (by omega)] at hx
        have hx' : x < (2 : ℝ) ^ (((n : ℤ) - 127) + 1) := by
          have : x < (2:ℝ) ^ (((n + 1 : ℕ) : ℤ) - 127) := by exact_mod_cast hx
          rwa [show (((n + 1 : ℕ) : ℤ) - 127) = ((n : ℤ) - 127) + 1 by push_cast; ring] at this
        rw [rExp_real hlo' hx' (by omega), hadj]
        congr 2
        push_cast; ring

theorem scale_eq {x : EReal} (hx : 0 ≤ x) : kScale (expField x) = Ideal.exp2 (rExp x) ∧ kInv (expField x) = Ideal.exp2 (0 - rExp x) := by
  obtain ⟨n, he, hn, hlo, hhi⟩ := expField_spec hx
  have h : _ = BitVec.ofNat 32 (adjN n + 1) ∧ _ = BitVec.ofNat 32 (253 - adjN n) := adj_ofNat ⟨n, by omega⟩
  obtain ⟨ha, hb⟩ := adjN_le n
  unfold kScale kInv
  rw [he, h.1, h.2, ofBits_shl _ (by omega), ofBits_shl _ (by omega), rExp_eq hn hlo hhi, pow2_real (by omega) (by omega),
    pow2_real (by omega) (by omega)]
  constructor
  · rw [Ideal.exp2_coe]
    refine congrArg Real.toEReal ?_
    show _ = (2:ℝ) ^ (_ : ℝ)
    rw [Real.rpow_intCast]
    congr 1
    push_cast; ring
  · rw [zero_sub, ← EReal.coe_neg, Ideal.exp2_coe]
    refine congrArg Real.toEReal ?_
    show _ = (2:ℝ) ^ (_ : ℝ)
    rw [← Int.cast_neg, Real.rpow_intCast]
    congr 1
    rw [Nat.cast_sub (by omega)]
    push_cast; ring

/-- The scaled maximum of the absolute values of a row. -/
def amaxC (v : Fin 128 → EReal) : EReal :=
  Finset.fold max (Ideal.ofBits .f32 4286578688#32) (fun x => FloatOps.absf (F := Ideal) (φ := .f32) (v x)) Finset.univ * Ideal.ofBits .f32 991054117#32
/-- A code: the value times the inverse scale, clipped. -/
def codeC (i v : EReal) : EReal := min (Ideal.ofBits .f32 1138753536#32) (max (Ideal.ofBits .f32 3286237184#32) (v * i))

/-! ## Attention of one head -/

/-- A score where the query `q` sees the row `r`, minus infinity elsewhere: rows 918 to 927 are padding, and the rows from
1760 on are those of the sequence, seen up to the query's own place. -/
def maskC (r q : ℕ) (s : EReal) : EReal :=
  Scalar.select (IntOp.andi (IntOp.ori (IntOp.cmpi CmpIPredicate.slt (BitVec.ofNat 32 r) 918#32) (IntOp.cmpi CmpIPredicate.sge (BitVec.ofNat 32 r) 928#32))
    (IntOp.cmpi CmpIPredicate.sle (IntOp.subi (BitVec.ofNat 32 r) 1760#32) (BitVec.ofNat 32 q))) s (Ideal.ofBits .f32 4286578688#32)

/-- The unnormalised probability of the row `r` for the query `q`. -/
def probC (s : Fin 2016 → EReal) (q : ℕ) (r : Fin 2016) : EReal :=
  Ideal.exp (maskC r.val q (s r) - Finset.fold max (Ideal.ofBits .f32 4286578688#32) (fun x : Fin 2016 => maskC x.val q (s x)) Finset.univ)

end Cert.Quant
end
-- ==== Proof.KIQuant.lean ====
/- The quantiser of one step, as whole-block expressions over a number of rows: the row maximum, the search for the
exponent field, the scale, the inverse and the codes; and that each of the eight copies in the body is these. -/
module

public import proofs.«01_k».proof.Proof.KIScale
public import proofs.«01_k».proof.Proof.Quant
public import Idealize.ShloMosaic.PureOps.Ideal
public import Idealize.ShloMosaic.Lib.Pointwise

@[expose] public section

noncomputable section

namespace Cert.KernelIdeal.Step

open Idealize.ShloMosaic
open Cert.KernelIdeal Cert.KernelIdeal.Gen Cert.Quant

/-- One step of the search, at every index. -/
def stepV {s : Shape} (v : FVec Ideal s .f32) (e : IVec s 32) (b : BitVec 32) : IVec s 32 :=
  select (cmpf .oge v (bitcastToFloat .f32 (shli (addi e (broadcast s b)) (broadcast s 23#32)))) (addi e (broadcast s b)) e

/-- The search at every index. -/
def searchV {s : Shape} (v : FVec Ideal s .f32) : IVec s 32 :=
  stepV v (stepV v (stepV v (stepV v (stepV v (stepV v (stepV v (stepV v (broadcast s 0#32) 128#32) 64#32) 32#32) 16#32) 8#32) 4#32) 2#32) 1#32

theorem stepV_at {s : Shape} (v : FVec Ideal s .f32) (e : IVec s 32) (b : BitVec 32) (j : s.Idx) : stepV v e b j = bitStep (v j) b (e j) := bitStep_at v e b j

theorem searchV_at {s : Shape} (v : FVec Ideal s .f32) (j : s.Idx) : searchV v j = expField (v j) := by
  unfold searchV expField
  simp only [stepV_at]
  rfl

/-- The exponent the scale takes. -/
def adjV {s : Shape} (w : IVec s 32) : IVec s 32 :=
  select (cmpi .eq (minsi w (broadcast s 252#32)) (broadcast s 0#32)) (broadcast s 126#32) (minsi w (broadcast s 252#32))

/-- The scale. -/
def scaleV {s : Shape} (w : IVec s 32) : FVec Ideal s .f32 := bitcastToFloat .f32 (shli (addi (adjV w) (broadcast s 1#32)) (broadcast s 23#32))
/-- Its inverse. -/
def invV {s : Shape} (w : IVec s 32) : FVec Ideal s .f32 := bitcastToFloat .f32 (shli (subi (broadcast s 253#32) (adjV w)) (broadcast s 23#32))

theorem scaleV_at {s : Shape} (w : IVec s 32) (j : s.Idx) : scaleV w j = kScale (w j) := by
  unfold scaleV adjV kScale adj
  pointwise

theorem invV_at {s : Shape} (w : IVec s 32) (j : s.Idx) : invV w j = kInv (w j) := by
  unfold invV adjV kInv adj
  pointwise

/-- The codes: the value times the inverse, clipped. -/
def codeV {s t : Shape} (v : FVec Ideal t .f32) (i : FVec Ideal s .f32) (hb : s.Broadcasts t) : FVec Ideal t .fp8e4m3 :=
  truncf .fp8e4m3 (minimumf (broadcast t (Scalar.ofBits .f32 0x43E00000#32)) (maximumf (broadcast t (Scalar.ofBits .f32 0xC3E00000#32)) (mulf v (broadcastTo t i hb)))) bitsLt_fp8e4m3_f32

/-- The scaled maximum of the absolute values of a row. -/
def amaxV {n : ℕ} (v : FVec Ideal ⟨2, ![n, 128]⟩ .f32) (hr : (⟨2, ![n, 128]⟩ : Shape).Reduces [1] ⟨1, ![n]⟩) (hc : (⟨1, ![n]⟩ : Shape).ShapeCasts ⟨2, ![n, 1]⟩) : FVec Ideal ⟨2, ![n, 1]⟩ .f32 :=
  mulf (shapeCast ⟨2, ![n, 1]⟩ (multiReduction .maximumf [1] ⟨1, ![n]⟩ (absf v) 0xFF800000#32 hr (.inl rfl) rfl) hc) (broadcast ⟨2, ![n, 1]⟩ (Scalar.ofBits .f32 0x3B124925#32))

theorem amaxV_at_640 (v : FVec Ideal ⟨2, ![640, 128]⟩ .f32) (hr) (hc) (r : Fin 640) : amaxV v hr hc (ix2 r 0) = amaxC (fun l => v (ix2 r l)) := by
  unfold amaxV amaxC
  pointwise

theorem codeV_at_640 (v : FVec Ideal ⟨2, ![640, 128]⟩ .f32) (i : FVec Ideal ⟨2, ![640, 1]⟩ .f32) (hb) (r : Fin 640) (l : Fin 128) : codeV v i hb (ix2 r l) = codeC (i (ix2 r 0)) (v (ix2 r l)) := by
  unfold codeV codeC
  pointwise

theorem amaxV_at_288 (v : FVec Ideal ⟨2, ![288, 128]⟩ .f32) (hr) (hc) (r : Fin 288) : amaxV v hr hc (ix2 r 0) = amaxC (fun l => v (ix2 r l)) := by
  unfold amaxV amaxC
  pointwise

theorem codeV_at_288 (v : FVec Ideal ⟨2, ![288, 128]⟩ .f32) (i : FVec Ideal ⟨2, ![288, 1]⟩ .f32) (hb) (r : Fin 288) (l : Fin 128) : codeV v i hb (ix2 r l) = codeC (i (ix2 r 0)) (v (ix2 r l)) := by
  unfold codeV codeC
  pointwise

theorem amaxV_at_832 (v : FVec Ideal ⟨2, ![832, 128]⟩ .f32) (hr) (hc) (r : Fin 832) : amaxV v hr hc (ix2 r 0) = amaxC (fun l => v (ix2 r l)) := by
  unfold amaxV amaxC
  pointwise

theorem codeV_at_832 (v : FVec Ideal ⟨2, ![832, 128]⟩ .f32) (i : FVec Ideal ⟨2, ![832, 1]⟩ .f32) (hb) (r : Fin 832) (l : Fin 128) : codeV v i hb (ix2 r l) = codeC (i (ix2 r 0)) (v (ix2 r l)) := by
  unfold codeV codeC
  pointwise

theorem amaxV_at_256 (v : FVec Ideal ⟨2, ![256, 128]⟩ .f32) (hr) (hc) (r : Fin 256) : amaxV v hr hc (ix2 r 0) = amaxC (fun l => v (ix2 r l)) := by
  unfold amaxV amaxC
  pointwise

theorem codeV_at_256 (v : FVec Ideal ⟨2, ![256, 128]⟩ .f32) (i : FVec Ideal ⟨2, ![256, 1]⟩ .f32) (hb) (r : Fin 256) (l : Fin 128) : codeV v i hb (ix2 r l) = codeC (i (ix2 r 0)) (v (ix2 r l)) := by
  unfold codeV codeC
  pointwise

/-! ## Each copy is these -/

theorem am_k0 (X : Blk Ideal) : b_v24 X = amaxV (n := 640) (b_v19 X) reduces_S640x128_S640 shapeCasts_S640_S640x1 := rfl
theorem am_v0 (X : Blk Ideal) : b_v137 X = amaxV (n := 640) (b_v132 X) reduces_S640x128_S640 shapeCasts_S640_S640x1 := rfl
theorem am_k1 (X : Blk Ideal) : b_v248 X = amaxV (n := 288) (b_v243 X) reduces_S288x128_S288 shapeCasts_S288_S288x1 := rfl
theorem am_v1 (X : Blk Ideal) : b_v361 X = amaxV (n := 288) (b_v356 X) reduces_S288x128_S288 shapeCasts_S288_S288x1 := rfl
theorem am_k2 (X : Blk Ideal) : b_v472 X = amaxV (n := 832) (b_v467 X) reduces_S832x128_S832 shapeCasts_S832_S832x1 := rfl
theorem am_v2 (X : Blk Ideal) : b_v585 X = amaxV (n := 832) (b_v580 X) reduces_S832x128_S832 shapeCasts_S832_S832x1 := rfl
theorem am_k3 (X : Blk Ideal) : b_v696 X = amaxV (n := 256) (b_v691 X) reduces_S256x128_S256 shapeCasts_S256_S256x1 := rfl
theorem am_v3 (X : Blk Ideal) : b_v809 X = amaxV (n := 256) (b_v804 X) reduces_S256x128_S256 shapeCasts_S256_S256x1 := rfl

theorem sc_k0 (X : Blk Ideal) : k0_pay13 (F := Ideal) (b_v81 X) = scaleV (searchV (b_v24 X)) := rfl
theorem sc_v0 (X : Blk Ideal) : b_v205 X = scaleV (searchV (b_v137 X)) := rfl
theorem sc_k1 (X : Blk Ideal) : b_v316 X = scaleV (searchV (b_v248 X)) := rfl
theorem sc_v1 (X : Blk Ideal) : b_v429 X = scaleV (searchV (b_v361 X)) := rfl
theorem sc_k2 (X : Blk Ideal) : b_v540 X = scaleV (searchV (b_v472 X)) := rfl
theorem sc_v2 (X : Blk Ideal) : b_v653 X = scaleV (searchV (b_v585 X)) := rfl
theorem sc_k3 (X : Blk Ideal) : k0_pay86 (F := Ideal) (b_v761 X) = scaleV (searchV (b_v696 X)) := rfl
theorem sc_v3 (X : Blk Ideal) : b_v877 X = scaleV (searchV (b_v809 X)) := rfl

theorem co_k0 (X : Blk Ideal) : k0_pay14 (b_v19 X) (b_v81 X) = codeV (b_v19 X) (invV (searchV (b_v24 X))) broadcasts_S640x1_S640x128 := rfl
theorem co_k1 (X : Blk Ideal) : b_v328 X = codeV (b_v243 X) (invV (searchV (b_v248 X))) broadcasts_S288x1_S288x128 := rfl
theorem co_k2 (X : Blk Ideal) : k0_pay62 (b_v547 X) (Scalar.ofBits (F := Ideal) .f32 0x43E00000#32) (b_v548 X) = codeV (b_v467 X) (invV (searchV (b_v472 X))) broadcasts_S832x1_S832x128 := rfl
theorem co_k3 (X : Blk Ideal) : k0_pay87 (b_v691 X) (b_v759 X) = codeV (b_v691 X) (invV (searchV (b_v696 X))) broadcasts_S256x1_S256x128 := rfl
theorem co_v0 (X : Blk Ideal) : k0_pay28 (b_v132 X) (b_v209 X) = shapeCast S1x640x128 (codeV (b_v132 X) (invV (searchV (b_v137 X))) broadcasts_S640x1_S640x128) shapeCasts_S640x128_S1x640x128 := rfl
theorem co_v1 (X : Blk Ideal) : k0_pay50 (b_v356 X) (b_v420 X) (b_v422 X) = shapeCast S1x288x128 (codeV (b_v356 X) (invV (searchV (b_v361 X))) broadcasts_S288x1_S288x128) shapeCasts_S288x128_S1x288x128 := rfl
theorem co_v2 (X : Blk Ideal) : k0_pay75 (b_v580 X) (b_v585 X) (b_v628 X) (b_v630 X) (b_v634 X) = shapeCast S1x832x128 (codeV (b_v580 X) (invV (searchV (b_v585 X))) broadcasts_S832x1_S832x128) shapeCasts_S832x128_S1x832x128 := rfl
theorem co_v3 (X : Blk Ideal) : k0_pay98 (b_v889 X) = shapeCast S1x256x128 (codeV (b_v804 X) (invV (searchV (b_v809 X))) broadcasts_S256x1_S256x128) shapeCasts_S256x128_S1x256x128 := rfl

end Cert.KernelIdeal.Step
end
-- ==== Proof.KIPoint.lean ====
/- One step of the kernel read at an index: its loads, the products that make the keys and the values before quantisation, the
scores. -/
module

public import proofs.«01_k».proof.Proof.KIQuant

@[expose] public section

noncomputable section

namespace Cert.KernelIdeal.Step

open Idealize.ShloMosaic
open Cert.KernelIdeal Cert.KernelIdeal.Gen Cert.Quant

/-! ## The loads -/

theorem hz2 : (![0, 0] : Fin 2 → Nat) = fun _ => 0 := funext fun a => by fin_cases a <;> rfl
theorem hz3 : (![0, 0, 0] : Fin 3 → Nat) = fun _ => 0 := funext fun a => by fin_cases a <;> rfl
theorem ld_wk (X : Blk Ideal) : View.ld X.wk r_S7168x128_S7168x128_0_0 = X.wk := View.ld_unit_zero (S := S7168x128) hz2 _ _
theorem ld_wv (X : Blk Ideal) : View.ld X.wv r_S7168x128_S7168x128_0_0 = X.wv := View.ld_unit_zero (S := S7168x128) hz2 _ _
theorem ld_q (X : Blk Ideal) : View.ld X.q r_S1x256x128_S1x256x128_0_0_0 = X.q := View.ld_unit_zero (S := S1x256x128) hz3 _ _
theorem ld_cm (X : Blk Ideal) : View.ld X.cm r_S1x640x7168_S1x640x7168_0_0_0 = X.cm := View.ld_unit_zero (S := S1x640x7168) hz3 _ _
theorem ld_sk (X : Blk Ideal) : View.ld X.sk r_S1x1x128_S1x1x128_0_0_0 = X.sk := View.ld_unit_zero (S := S1x1x128) hz3 _ _
theorem ld_nw (X : Blk Ideal) : View.ld X.nw r_S1x288x7168_S1x288x7168_0_0_0 = X.nw := View.ld_unit_zero (S := S1x288x7168) hz3 _ _
theorem ld_mm (X : Blk Ideal) : View.ld X.mm r_S1x832x7168_S1x832x7168_0_0_0 = X.mm := View.ld_unit_zero (S := S1x832x7168) hz3 _ _
theorem ld_xc (X : Blk Ideal) : View.ld X.xc r_S1x256x7168_S1x256x7168_0_0_0 = X.xc := View.ld_unit_zero (S := S1x256x7168) hz3 _ _
theorem ld_sv (X : Blk Ideal) : View.ld X.sv r_S1x1x128_S1x1x128_0_0_0 = X.sv := View.ld_unit_zero (S := S1x1x128) hz3 _ _
theorem ld_scr (g : Vec Ideal S2016x256 .f32) : View.ld g r_S2016x256_S2016x256_0_0 = g := View.ld_unit_zero (S := S2016x256) hz2 _ _
theorem ld_codes (g : Vec Ideal S1x2016x128 .fp8e4m3) : View.ld g r_S1x2016x128_S1x2016x128_0_0_0 = g := View.ld_unit_zero (S := S1x2016x128) hz3 _ _
theorem ld_csc0 (g : Vec Ideal S1x2016x1 .f32) (r : Fin 640) : View.ld g r_S1x2016x1_S1x640x1_0_0_0 (ix3 0 r 0) = g (ix3 0 ⟨0 + r.val, by omega⟩ 0) := by
  refine congrArg g (funext fun a => ?_)
  match a with
  | ⟨0, _⟩ => rfl
  | ⟨1, _⟩ => exact Fin.ext (by show 0 + 1 * r.val = 0 + r.val; omega)
  | ⟨2, _⟩ => rfl
theorem ld_csc1 (g : Vec Ideal S1x2016x1 .f32) (r : Fin 288) : View.ld g r_S1x2016x1_S1x288x1_0_640_0 (ix3 0 r 0) = g (ix3 0 ⟨640 + r.val, by omega⟩ 0) := by
  refine congrArg g (funext fun a => ?_)
  match a with
  | ⟨0, _⟩ => rfl
  | ⟨1, _⟩ => exact Fin.ext (by show 640 + 1 * r.val = 640 + r.val; omega)
  | ⟨2, _⟩ => rfl
theorem ld_csc2 (g : Vec Ideal S1x2016x1 .f32) (r : Fin 832) : View.ld g r_S1x2016x1_S1x832x1_0_928_0 (ix3 0 r 0) = g (ix3 0 ⟨928 + r.val, by omega⟩ 0) := by
  refine congrArg g (funext fun a => ?_)
  match a with
  | ⟨0, _⟩ => rfl
  | ⟨1, _⟩ => exact Fin.ext (by show 928 + 1 * r.val = 928 + r.val; omega)
  | ⟨2, _⟩ => rfl
theorem ld_csc3 (g : Vec Ideal S1x2016x1 .f32) (r : Fin 256) : View.ld g r_S1x2016x1_S1x256x1_0_1760_0 (ix3 0 r 0) = g (ix3 0 ⟨1760 + r.val, by omega⟩ 0) := by
  refine congrArg g (funext fun a => ?_)
  match a with
  | ⟨0, _⟩ => rfl
  | ⟨1, _⟩ => exact Fin.ext (by show 1760 + 1 * r.val = 1760 + r.val; omega)
  | ⟨2, _⟩ => rfl

/-! ## The keys and values before quantisation, segment by segment -/

theorem kd0 (v0 v2 v8 v11 v16) (r : Fin 640) (l : Fin 128) : k0_pay7 (F := Ideal) v0 v2 v8 v11 v16 (ix2 r l) = (∑ x : Fin 7168, v8 (ix3 0 r x) * v0 (ix2 x l)) * v11 (ix3 0 r 0) * v16 (ix3 0 0 l) := by
  pointwise [k0_pay7, k0_pay6, k0_pay4]
theorem vd0 (v0 v2 v8 v11 v16) (r : Fin 640) (l : Fin 128) : k0_pay20 (k0_pay6 (F := Ideal) v0 v2 v8 v11) v16 (ix2 r l) = (∑ x : Fin 7168, v8 (ix3 0 r x) * v2 (ix2 x l)) * v11 (ix3 0 r 0) * v16 (ix3 0 0 l) := by
  pointwise [k0_pay20, k0_pay6, k0_pay4]
theorem kd1 (v0 v2 v8 v11 v16) (r : Fin 288) (l : Fin 128) : k0_pay31 (F := Ideal) (k0_pay4 v0 v2) v8 v11 v16 (ix2 r l) = (∑ x : Fin 7168, v8 (ix3 0 r x) * v0 (ix2 x l)) * v11 (ix3 0 r 0) * v16 (ix3 0 0 l) := by
  pointwise [k0_pay31, k0_pay30, k0_pay4]
theorem vd1 (v0 v2 v8 v11 v16) (r : Fin 288) (l : Fin 128) : k0_pay43 (k0_pay30 (F := Ideal) (k0_pay4 v0 v2) v8 v11) v16 (ix2 r l) = (∑ x : Fin 7168, v8 (ix3 0 r x) * v2 (ix2 x l)) * v11 (ix3 0 r 0) * v16 (ix3 0 0 l) := by
  pointwise [k0_pay43, k0_pay30, k0_pay4]
theorem kd2 (v0 v2 v8 v11 v16) (r : Fin 832) (l : Fin 128) : k0_pay54 (F := Ideal) (k0_pay52 (k0_pay4 v0 v2) v8) v11 v16 (ix2 r l) = (∑ x : Fin 7168, v8 (ix3 0 r x) * v0 (ix2 x l)) * v11 (ix3 0 r 0) * v16 (ix3 0 0 l) := by
  pointwise [k0_pay54, k0_pay53, k0_pay52, k0_pay4]
theorem vd2 (v0 v2 v8 v11 v16) (r : Fin 832) (l : Fin 128) : k0_pay66 (k0_pay53 (F := Ideal) (k0_pay52 (k0_pay4 v0 v2) v8) v11) v16 (ix2 r l) = (∑ x : Fin 7168, v8 (ix3 0 r x) * v2 (ix2 x l)) * v11 (ix3 0 r 0) * v16 (ix3 0 0 l) := by
  pointwise [k0_pay66, k0_pay53, k0_pay52, k0_pay4]
theorem kd3 (v0 v2 v8 v11 v16) (r : Fin 256) (l : Fin 128) : k0_pay79 (F := Ideal) (k0_pay4 v0 v2) v8 v11 v16 (ix2 r l) = (∑ x : Fin 7168, v8 (ix3 0 r x) * v0 (ix2 x l)) * v11 (ix3 0 r 0) * v16 (ix3 0 0 l) := by
  pointwise [k0_pay79, k0_pay78, k0_pay4]
theorem vd3 (v0 v2 v8 v11 v16) (r : Fin 256) (l : Fin 128) : k0_pay92 (k0_pay91 (k0_pay78 (F := Ideal) (k0_pay4 v0 v2) v8 v11)) v16 (ix2 r l) = (∑ x : Fin 7168, v8 (ix3 0 r x) * v2 (ix2 x l)) * v11 (ix3 0 r 0) * v16 (ix3 0 0 l) := by
  pointwise [k0_pay92, k0_pay91, k0_pay78, k0_pay4]

/-! ## The scores, segment by segment -/

theorem st0 (v7 v19 v81 v92) (r : Fin 640) (q : Fin 256) : k0_pay19 (F := Ideal) v92 (k0_pay17 v7 v19 v81) k0_pay18 (ix2 r q) = (∑ l : Fin 128, k0_pay14 v19 v81 (ix2 r l) * v7 (ix2 q l)) * (v92 (ix2 r 0) * Ideal.ofBits .f32 1035273459#32) := by
  pointwise [k0_pay19, k0_pay17, k0_pay18]
theorem st1 (v7 v328 v92) (r : Fin 288) (q : Fin 256) : k0_pay42 (F := Ideal) v7 v92 v328 (ix2 r q) = (∑ l : Fin 128, v328 (ix2 r l) * v7 (ix2 q l)) * (v92 (ix2 r 0) * Ideal.ofBits .f32 1035273459#32) := by
  pointwise [k0_pay42]
theorem st2 (v7 v540 v547 c v548) (r : Fin 832) (q : Fin 256) : k0_pay65 (F := Ideal) v7 v540 v547 c v548 (ix2 r q) = (∑ l : Fin 128, k0_pay62 v547 c v548 (ix2 r l) * v7 (ix2 q l)) * (v540 (ix2 r 0) * Ideal.ofBits .f32 1035273459#32) := by
  pointwise [k0_pay65]
theorem st3 (v7 v691 v759 v761) (r : Fin 256) (q : Fin 256) : k0_pay90 (F := Ideal) v7 v691 v759 v761 (ix2 r q) = (∑ l : Fin 128, k0_pay87 v691 v759 (ix2 r l) * v7 (ix2 q l)) * (k0_pay86 (F := Ideal) v761 (ix2 r 0) * Ideal.ofBits .f32 1035273459#32) := by
  pointwise [k0_pay90]

/-! ## The last part of the step -/

theorem pay5_at (v) (q : Fin 256) (l : Fin 128) : k0_pay5 (F := Ideal) v (ix2 q l) = v (ix3 0 q l) := by
  pointwise [k0_pay5]
theorem pay1_at (v924 v928 v931) (q : Fin 256) (l : Fin 128) : k0_pay1 (F := Ideal) v924 v928 v931 (ix3 0 q l) = (∑ r : Fin 2016, v931 (ix2 r l) * v928 (ix2 r q)) * Ideal.div 1 (v924 (ix2 0 q)) := by
  pointwise [k0_pay1]
theorem pay101_at (s) (q : Fin 256) : k0_pay101 (F := Ideal) s (ix2 0 q) = ∑ r : Fin 2016, k0_pay100 s (ix2 r q) := by
  pointwise [k0_pay101]
theorem pay103_at (s) (r : Fin 2016) (l : Fin 128) : k0_pay103 (F := Ideal) s (ix2 r l) = s (ix3 0 r l) := by
  pointwise [k0_pay103]
theorem pay102_at (v205 v429 v653 v877 s) (r : Fin 2016) (q : Fin 256) : k0_pay102 (F := Ideal) v205 v429 v653 v877 s (ix2 r q) = k0_pay100 s (ix2 r q) *
    (if h : r.val < 640 then v205 (ix2 ⟨r.val, h⟩ 0) else if h : r.val - 640 < 288 then v429 (ix2 ⟨r.val - 640, h⟩ 0)
      else if h : r.val - 640 - 288 < 832 then v653 (ix2 ⟨r.val - 640 - 288, h⟩ 0) else v877 (ix2 ⟨r.val - 640 - 288 - 832, by omega⟩ 0)) := by
  pointwise [k0_pay102]
theorem pay100_at (s) (r : Fin 2016) (q : Fin 256) : k0_pay100 (F := Ideal) s (ix2 r q) = probC (fun x => s (ix2 x q)) q.val r := by
  unfold probC maskC
  pointwise [k0_pay100]

end Cert.KernelIdeal.Step
end
-- ==== Proof.Soft.lean ====
/- The attention of one head over the extended reals: dividing the result by the sum of the probabilities, or the probabilities
themselves, comes to the same, whatever the scores are. -/
module

public import proofs.«01_k».proof.Proof.Quant

@[expose] public section

noncomputable section

namespace Cert.Quant

open Idealize.ShloMosaic

theorem ofBits_neg_inf : Ideal.ofBits .f32 4286578688#32 = ⊥ := by
  simp [Ideal.ofBits, Ideal.ieee]

theorem absf_nonneg (x : EReal) : 0 ≤ FloatOps.absf (F := Ideal) (φ := .f32) x := by
  show (0 : EReal) ≤ max x (-x)
  rcases le_total 0 x with h | h
  · exact le_max_of_le_left h
  · exact le_max_of_le_right (EReal.neg_nonneg.2 h)

theorem ofBits_inv448 : 0 ≤ Ideal.ofBits .f32 991054117#32 := by
  simp [Ideal.ofBits, Ideal.ieee]
  positivity

theorem amaxC_nonneg (v : Fin 128 → EReal) : 0 ≤ amaxC v := by
  refine mul_nonneg ?_ ofBits_inv448
  exact (absf_nonneg (v 0)).trans ((Finset.le_fold_max _).2 (Or.inr ⟨0, Finset.mem_univ _, le_rfl⟩))

/-- The scale is a real number. -/
theorem scale_real {x : EReal} (hx : 0 ≤ x) : ∃ r : ℝ, Ideal.exp2 (rExp x) = (r : EReal) := by
  obtain ⟨n, he, hn, hlo, hhi⟩ := expField_spec hx
  exact ⟨_, by rw [rExp_eq hn hlo hhi, Ideal.exp2_coe]⟩

theorem ofBits_448 : Ideal.ofBits .f32 1138753536#32 = ((448 : ℝ) : EReal) := by
  simp [Ideal.ofBits, Ideal.ieee]
  rw [← EReal.coe_mul]
  norm_num
theorem ofBits_neg448 : Ideal.ofBits .f32 3286237184#32 = ((-448 : ℝ) : EReal) := by
  simp [Ideal.ofBits, Ideal.ieee]
  rw [← EReal.coe_mul]
  norm_num

/-- A code is a real number: it was clipped. -/
theorem codeC_real (i v : EReal) : ∃ r : ℝ, codeC i v = (r : EReal) := by
  unfold codeC
  rw [ofBits_448, ofBits_neg448]
  have h1 : min ((448 : ℝ) : EReal) (max ((-448 : ℝ) : EReal) (v * i)) ≠ ⊤ := ne_top_of_le_ne_top (EReal.coe_ne_top 448) (min_le_left _ _)
  have h2 : min ((448 : ℝ) : EReal) (max ((-448 : ℝ) : EReal) (v * i)) ≠ ⊥ := by
    refine ne_bot_of_le_ne_bot (EReal.coe_ne_bot (-448)) (le_min ?_ (le_max_left _ _))
    exact_mod_cast (by norm_num : (-448 : ℝ) ≤ 448)
  exact ⟨_, (EReal.coe_toReal h1 h2).symm⟩

/-- The probabilities are all zero, or they are real numbers with a positive sum. -/
theorem prob_cases {n : ℕ} (w : Fin n → EReal) :
    (∀ r, Ideal.exp (w r - Finset.fold max ⊥ w Finset.univ) = 0)
    ∨ ∃ p : Fin n → ℝ, (∀ r, Ideal.exp (w r - Finset.fold max ⊥ w Finset.univ) = (p r : EReal)) ∧ 0 < ∑ r, p r := by
  have hle : ∀ r, w r ≤ Finset.fold max ⊥ w Finset.univ := fun r => (Finset.le_fold_max _).2 (Or.inr ⟨r, Finset.mem_univ _, le_rfl⟩)
  have hatt : Finset.fold max ⊥ w Finset.univ ≠ ⊥ → ∃ r, w r = Finset.fold max ⊥ w Finset.univ := fun h => by
    rcases (Finset.le_fold_max _).1 (le_refl (Finset.fold max ⊥ w Finset.univ)) with h' | ⟨r, -, h'⟩
    · exact absurd (le_bot_iff.1 h') h
    · exact ⟨r, le_antisymm (hle r) h'⟩
  generalize hM : Finset.fold max ⊥ w Finset.univ = M at *
  induction M using EReal.rec with
  | bot =>
    left; intro r
    rw [le_bot_iff.1 (hle r)]
    simp [Ideal.exp_bot]
  | top =>
    left; intro r
    rw [EReal.sub_top]; exact Ideal.exp_bot
  | coe M =>
    right
    obtain ⟨r0, h0⟩ := hatt (EReal.coe_ne_bot M)
    have hne : ∀ r, w r ≠ ⊤ := fun r => ne_top_of_le_ne_top (EReal.coe_ne_top M) (hle r)
    have key : ∀ r, ∃ p : ℝ, Ideal.exp (w r - (M : EReal)) = (p : EReal) ∧ 0 ≤ p := fun r => by
      have := hne r
      generalize w r = y at this
      induction y using EReal.rec with
      | bot => exact ⟨0, by rw [EReal.bot_sub]; exact Ideal.exp_bot, le_rfl⟩
      | top => exact absurd rfl this
      | coe x => exact ⟨Real.exp (x - M), by rw [← EReal.coe_sub]; exact Ideal.exp_coe _, (Real.exp_pos _).le⟩
    choose p hp hp0 using key
    refine ⟨p, hp, Finset.sum_pos' (fun r _ => hp0 r) ⟨r0, Finset.mem_univ _, ?_⟩⟩
    have h1 := hp r0
    rw [h0, ← EReal.coe_sub, sub_self, Ideal.exp_coe, Real.exp_zero] at h1
    have : (1 : ℝ) = p r0 := by exact_mod_cast h1
    rw [← this]; exact one_pos

theorem coe_sum {n : ℕ} (f : Fin n → ℝ) : ((∑ r, f r : ℝ) : EReal) = ∑ r, (f r : EReal) :=
  map_sum (⟨⟨Real.toEReal, EReal.coe_zero⟩, EReal.coe_add⟩ : ℝ →+ EReal) f Finset.univ

/-- The equation of the attention. -/
theorem attn_eq {n : ℕ} (w vm v : Fin n → EReal) (hvm : ∀ r, ∃ x : ℝ, vm r = (x : EReal)) (hv : ∀ r, ∃ x : ℝ, v r = (x : EReal)) :
    (∑ r, v r * (Ideal.exp (w r - Finset.fold max ⊥ w Finset.univ) * vm r)) * Ideal.div 1 (∑ r, Ideal.exp (w r - Finset.fold max ⊥ w Finset.univ))
      = ∑ r, Ideal.exp (w r - Finset.fold max ⊥ w Finset.univ) * Ideal.div 1 (∑ x, Ideal.exp (w x - Finset.fold max ⊥ w Finset.univ)) * vm r * v r := by
  choose a ha using hvm
  choose b hb using hv
  rcases prob_cases w with h | ⟨p, hp, hs⟩
  · simp [h]
  · simp only [hp, ha, hb, ← coe_sum]
    unfold Ideal.div
    rw [if_neg (by exact_mod_cast hs.ne'), ← EReal.coe_inv, one_mul]
    simp only [← EReal.coe_mul, ← coe_sum]
    refine congrArg Real.toEReal ?_
    rw [Finset.sum_mul]
    exact Finset.sum_congr rfl fun r _ => by ring

theorem prob_attn (s : Fin 2016 → EReal) (q : ℕ) (vm v : Fin 2016 → EReal) (hvm : ∀ r, ∃ x : ℝ, vm r = (x : EReal)) (hv : ∀ r, ∃ x : ℝ, v r = (x : EReal)) :
    (∑ r, v r * (probC s q r * vm r)) * Ideal.div 1 (∑ r, probC s q r) = ∑ r, probC s q r * Ideal.div 1 (∑ x, probC s q x) * vm r * v r := by
  unfold probC
  rw [ofBits_neg_inf]
  exact attn_eq (fun r : Fin 2016 => maskC r.val q (s r)) vm v hvm hv

end Cert.Quant
end
-- ==== Proof.KIValue.lean ====
/- What one step of the kernel leaves in each output window and scratch, at an index, from the blocks staged for it. -/
module

public import proofs.«01_k».proof.Proof.KIPoint
public import proofs.«01_k».proof.Proof.Soft

@[expose] public section

noncomputable section

namespace Cert.KernelIdeal.Step

open Idealize.ShloMosaic
open Cert.KernelIdeal Cert.KernelIdeal.Gen Cert.Quant

/-! ## The keys and values of the step -/

/-- A row of the context staged for the step. -/
def ctxRow (X : Blk Ideal) (r : Fin 2016) (x : Fin 7168) : EReal :=
  if h : r.val < 640 then X.cm (ix3 0 ⟨r.val, h⟩ x)
  else if h : r.val - 640 < 288 then X.nw (ix3 0 ⟨r.val - 640, h⟩ x)
  else if h : r.val - 640 - 288 < 832 then X.mm (ix3 0 ⟨r.val - 640 - 288, h⟩ x)
  else X.xc (ix3 0 ⟨r.val - 640 - 288 - 832, by omega⟩ x)

theorem ctxRow_0 (X : Blk Ideal) (r : Fin 640) (x : Fin 7168) : ctxRow X ⟨0 + r.val, by omega⟩ x = X.cm (ix3 0 r x) := by
  unfold ctxRow
  rw [dif_pos (by show 0 + r.val < 640; omega)]
  exact congrArg (fun t : Fin 640 => X.cm (ix3 0 t x)) (Fin.ext (by show 0 + r.val = r.val; omega))
theorem ctxRow_1 (X : Blk Ideal) (r : Fin 288) (x : Fin 7168) : ctxRow X ⟨640 + r.val, by omega⟩ x = X.nw (ix3 0 r x) := by
  unfold ctxRow
  rw [dif_neg (by show ¬ (640 + r.val < 640); omega)]
  rw [dif_pos (by show 640 + r.val - 640 < 288; omega)]
  exact congrArg (fun t : Fin 288 => X.nw (ix3 0 t x)) (Fin.ext (by show 640 + r.val - 640 = r.val; omega))
theorem ctxRow_2 (X : Blk Ideal) (r : Fin 832) (x : Fin 7168) : ctxRow X ⟨928 + r.val, by omega⟩ x = X.mm (ix3 0 r x) := by
  unfold ctxRow
  rw [dif_neg (by show ¬ (928 + r.val < 640); omega)]
  rw [dif_neg (by show ¬ (928 + r.val - 640 < 288); omega)]
  rw [dif_pos (by show 928 + r.val - 640 - 288 < 832; omega)]
  exact congrArg (fun t : Fin 832 => X.mm (ix3 0 t x)) (Fin.ext (by show 928 + r.val - 640 - 288 = r.val; omega))
theorem ctxRow_3 (X : Blk Ideal) (r : Fin 256) (x : Fin 7168) : ctxRow X ⟨1760 + r.val, by omega⟩ x = X.xc (ix3 0 r x) := by
  unfold ctxRow
  rw [dif_neg (by show ¬ (1760 + r.val < 640); omega)]
  rw [dif_neg (by show ¬ (1760 + r.val - 640 < 288); omega)]
  rw [dif_neg (by show ¬ (1760 + r.val - 640 - 288 < 832); omega)]
  exact congrArg (fun t : Fin 256 => X.xc (ix3 0 t x)) (Fin.ext (by show 1760 + r.val - 640 - 288 - 832 = r.val; omega))

/-- A key or value of the step before quantisation: the row times a column of the weight, the row's scale and the column's. -/
def rowDot (X : Blk Ideal) (w : Vec Ideal S7168x128 .fp8e4m3) (s : Vec Ideal S1x1x128 .f32) (r : Fin 2016) (l : Fin 128) : EReal :=
  (∑ x : Fin 7168, ctxRow X r x * w (ix2 x l)) * X.csc (ix3 0 r 0) * s (ix3 0 0 l)

/-- The keys. -/
def rowK (X : Blk Ideal) (r : Fin 2016) (l : Fin 128) : EReal := rowDot X X.wk X.sk r l
/-- The values. -/
def rowV (X : Blk Ideal) (r : Fin 2016) (l : Fin 128) : EReal := rowDot X X.wv X.sv r l

theorem rowK_0 (X : Blk Ideal) (r : Fin 640) (l : Fin 128) : b_v19 X (ix2 r l) = rowK X ⟨0 + r.val, by omega⟩ l := by
  refine (kd0 _ _ _ _ _ r l).trans ?_
  unfold rowK rowDot
  rw [ld_wk, ld_cm, ld_sk, ld_csc0]
  simp only [ctxRow_0]
theorem rowV_0 (X : Blk Ideal) (r : Fin 640) (l : Fin 128) : b_v132 X (ix2 r l) = rowV X ⟨0 + r.val, by omega⟩ l := by
  refine (vd0 _ _ _ _ _ r l).trans ?_
  unfold rowV rowDot
  rw [ld_wv, ld_cm, ld_sv, ld_csc0]
  simp only [ctxRow_0]
theorem rowK_1 (X : Blk Ideal) (r : Fin 288) (l : Fin 128) : b_v243 X (ix2 r l) = rowK X ⟨640 + r.val, by omega⟩ l := by
  refine (kd1 _ _ _ _ _ r l).trans ?_
  unfold rowK rowDot
  rw [ld_wk, ld_nw, ld_sk, ld_csc1]
  simp only [ctxRow_1]
theorem rowV_1 (X : Blk Ideal) (r : Fin 288) (l : Fin 128) : b_v356 X (ix2 r l) = rowV X ⟨640 + r.val, by omega⟩ l := by
  refine (vd1 _ _ _ _ _ r l).trans ?_
  unfold rowV rowDot
  rw [ld_wv, ld_nw, ld_sv, ld_csc1]
  simp only [ctxRow_1]
theorem rowK_2 (X : Blk Ideal) (r : Fin 832) (l : Fin 128) : b_v467 X (ix2 r l) = rowK X ⟨928 + r.val, by omega⟩ l := by
  refine (kd2 _ _ _ _ _ r l).trans ?_
  unfold rowK rowDot
  rw [ld_wk, ld_mm, ld_sk, ld_csc2]
  simp only [ctxRow_2]
theorem rowV_2 (X : Blk Ideal) (r : Fin 832) (l : Fin 128) : b_v580 X (ix2 r l) = rowV X ⟨928 + r.val, by omega⟩ l := by
  refine (vd2 _ _ _ _ _ r l).trans ?_
  unfold rowV rowDot
  rw [ld_wv, ld_mm, ld_sv, ld_csc2]
  simp only [ctxRow_2]
theorem rowK_3 (X : Blk Ideal) (r : Fin 256) (l : Fin 128) : b_v691 X (ix2 r l) = rowK X ⟨1760 + r.val, by omega⟩ l := by
  refine (kd3 _ _ _ _ _ r l).trans ?_
  unfold rowK rowDot
  rw [ld_wk, ld_xc, ld_sk, ld_csc3]
  simp only [ctxRow_3]
theorem rowV_3 (X : Blk Ideal) (r : Fin 256) (l : Fin 128) : b_v804 X (ix2 r l) = rowV X ⟨1760 + r.val, by omega⟩ l := by
  refine (vd3 _ _ _ _ _ r l).trans ?_
  unfold rowV rowDot
  rw [ld_wv, ld_xc, ld_sv, ld_csc3]
  simp only [ctxRow_3]

/-! ## Scales -/

theorem ksCol_eq (X : Blk Ideal) (r : Fin 2016) : ksCol X r = kScale (expField (amaxC (rowK X r))) := by
  refine row_elim (P := fun r => ksCol X r = kScale (expField (amaxC (rowK X r)))) ?_ ?_ ?_ ?_ r <;> intro q
  · rw [ksCol_0, sc_k0, scaleV_at, searchV_at, am_k0, amaxV_at_640]; simp only [rowK_0]
  · rw [ksCol_1, sc_k1, scaleV_at, searchV_at, am_k1, amaxV_at_288]; simp only [rowK_1]
  · rw [ksCol_2, sc_k2, scaleV_at, searchV_at, am_k2, amaxV_at_832]; simp only [rowK_2]
  · rw [ksCol_3, sc_k3, scaleV_at, searchV_at, am_k3, amaxV_at_256]; simp only [rowK_3]

theorem vsCol_eq (X : Blk Ideal) (r : Fin 2016) : vsCol X r = kScale (expField (amaxC (rowV X r))) := by
  refine row_elim (P := fun r => vsCol X r = kScale (expField (amaxC (rowV X r)))) ?_ ?_ ?_ ?_ r <;> intro q
  · rw [vsCol_0, sc_v0, scaleV_at, searchV_at, am_v0, amaxV_at_640]; simp only [rowV_0]
  · rw [vsCol_1, show k0_pay49 (F := Ideal) (b_v420 X) (b_v422 X) = b_v429 X from rfl, sc_v1, scaleV_at, searchV_at, am_v1, amaxV_at_288]; simp only [rowV_1]
  · rw [vsCol_2, show k0_pay74 (b_v585 X) (b_v628 X) (b_v630 X) (b_v634 X) = b_v653 X from rfl, sc_v2, scaleV_at, searchV_at, am_v2, amaxV_at_832]; simp only [rowV_2]
  · rw [vsCol_3, sc_v3, scaleV_at, searchV_at, am_v3, amaxV_at_256]; simp only [rowV_3]

/-! ## Codes -/

/-- A code of the step. -/
def codeK (X : Blk Ideal) (r : Fin 2016) (l : Fin 128) : EReal := codeC (kInv (expField (amaxC (rowK X r)))) (rowK X r l)
def codeW (X : Blk Ideal) (r : Fin 2016) (l : Fin 128) : EReal := codeC (kInv (expField (amaxC (rowV X r)))) (rowV X r l)

theorem codeK_0 (X : Blk Ideal) (r : Fin 640) (l : Fin 128) : k0_pay14 (b_v19 X) (b_v81 X) (ix2 r l) = codeK X ⟨0 + r.val, by omega⟩ l := by
  rw [co_k0, codeV_at_640, invV_at, searchV_at, am_k0, amaxV_at_640]
  simp only [rowK_0]
  rfl
theorem codeK_1 (X : Blk Ideal) (r : Fin 288) (l : Fin 128) : b_v328 X (ix2 r l) = codeK X ⟨640 + r.val, by omega⟩ l := by
  rw [co_k1, codeV_at_288, invV_at, searchV_at, am_k1, amaxV_at_288]
  simp only [rowK_1]
  rfl
theorem codeK_2 (X : Blk Ideal) (r : Fin 832) (l : Fin 128) : k0_pay62 (b_v547 X) (Scalar.ofBits (F := Ideal) .f32 0x43E00000#32) (b_v548 X) (ix2 r l) = codeK X ⟨928 + r.val, by omega⟩ l := by
  rw [co_k2, codeV_at_832, invV_at, searchV_at, am_k2, amaxV_at_832]
  simp only [rowK_2]
  rfl
theorem codeK_3 (X : Blk Ideal) (r : Fin 256) (l : Fin 128) : k0_pay87 (b_v691 X) (b_v759 X) (ix2 r l) = codeK X ⟨1760 + r.val, by omega⟩ l := by
  rw [co_k3, codeV_at_256, invV_at, searchV_at, am_k3, amaxV_at_256]
  simp only [rowK_3]
  rfl
theorem lift_640 (v : FVec Ideal S640x128 .fp8e4m3) (r : Fin 640) (l : Fin 128) : shapeCast S1x640x128 v shapeCasts_S640x128_S1x640x128 (ix3 0 r l) = v (ix2 r l) := by
  pointwise
theorem codeW_0 (X : Blk Ideal) (r : Fin 640) (l : Fin 128) : k0_pay28 (b_v132 X) (b_v209 X) (ix3 0 r l) = codeW X ⟨0 + r.val, by omega⟩ l := by
  rw [co_v0, lift_640, codeV_at_640, invV_at, searchV_at, am_v0, amaxV_at_640]
  simp only [rowV_0]
  rfl
theorem lift_288 (v : FVec Ideal S288x128 .fp8e4m3) (r : Fin 288) (l : Fin 128) : shapeCast S1x288x128 v shapeCasts_S288x128_S1x288x128 (ix3 0 r l) = v (ix2 r l) := by
  pointwise
theorem codeW_1 (X : Blk Ideal) (r : Fin 288) (l : Fin 128) : k0_pay50 (b_v356 X) (b_v420 X) (b_v422 X) (ix3 0 r l) = codeW X ⟨640 + r.val, by omega⟩ l := by
  rw [co_v1, lift_288, codeV_at_288, invV_at, searchV_at, am_v1, amaxV_at_288]
  simp only [rowV_1]
  rfl
theorem lift_832 (v : FVec Ideal S832x128 .fp8e4m3) (r : Fin 832) (l : Fin 128) : shapeCast S1x832x128 v shapeCasts_S832x128_S1x832x128 (ix3 0 r l) = v (ix2 r l) := by
  pointwise
theorem codeW_2 (X : Blk Ideal) (r : Fin 832) (l : Fin 128) : k0_pay75 (b_v580 X) (b_v585 X) (b_v628 X) (b_v630 X) (b_v634 X) (ix3 0 r l) = codeW X ⟨928 + r.val, by omega⟩ l := by
  rw [co_v2, lift_832, codeV_at_832, invV_at, searchV_at, am_v2, amaxV_at_832]
  simp only [rowV_2]
  rfl
theorem lift_256 (v : FVec Ideal S256x128 .fp8e4m3) (r : Fin 256) (l : Fin 128) : shapeCast S1x256x128 v shapeCasts_S256x128_S1x256x128 (ix3 0 r l) = v (ix2 r l) := by
  pointwise
theorem codeW_3 (X : Blk Ideal) (r : Fin 256) (l : Fin 128) : k0_pay98 (b_v889 X) (ix3 0 r l) = codeW X ⟨1760 + r.val, by omega⟩ l := by
  rw [co_v3, lift_256, codeV_at_256, invV_at, searchV_at, am_v3, amaxV_at_256]
  simp only [rowV_3]
  rfl
theorem keep_0 (u v) (r : Fin 640) (l : Fin 128) : k0_pay15 (F := Ideal) u v (ix3 0 r l) = k0_pay14 (F := Ideal) u v (ix2 r l) := by
  pointwise [k0_pay15]
theorem keep_1 (u v w x) (r : Fin 288) (l : Fin 128) : k0_pay39 (F := Ideal) u v w x (ix3 0 r l) = k0_pay38 (F := Ideal) u v w x (ix2 r l) := by
  pointwise [k0_pay39]
theorem keep_2 (u c v) (r : Fin 832) (l : Fin 128) : k0_pay63 (F := Ideal) u c v (ix3 0 r l) = k0_pay62 (F := Ideal) u c v (ix2 r l) := by
  pointwise [k0_pay63]
theorem keep_3 (u v) (r : Fin 256) (l : Fin 128) : k0_pay88 (F := Ideal) u v (ix3 0 r l) = k0_pay87 (F := Ideal) u v (ix2 r l) := by
  pointwise [k0_pay88]

theorem kOut_at (X : Blk Ideal) (r : Fin 2016) (l : Fin 128) : kOut X (ix3 0 r l) = codeK X r l := by
  refine row_elim (P := fun r => kOut X (ix3 0 r l) = codeK X r l) ?_ ?_ ?_ ?_ r <;> intro q
  · refine (canon_codes_0 _ _ _ _ q l).trans ((keep_0 (b_v19 X) (b_v81 X) q l).trans (codeK_0 X q l))
  · refine (canon_codes_1 _ _ _ _ q l).trans ((keep_1 (b_v243 X) (b_v248 X) (b_v291 X) (b_v292 X) q l).trans (codeK_1 X q l))
  · refine (canon_codes_2 _ _ _ _ q l).trans ((keep_2 (b_v547 X) (Scalar.ofBits (F := Ideal) .f32 0x43E00000#32) (b_v548 X) q l).trans (codeK_2 X q l))
  · refine (canon_codes_3 _ _ _ _ q l).trans ((keep_3 (b_v691 X) (b_v759 X) q l).trans (codeK_3 X q l))

theorem vOut_at (X : Blk Ideal) (r : Fin 2016) (l : Fin 128) : vOut X (ix3 0 r l) = codeW X r l := by
  refine row_elim (P := fun r => vOut X (ix3 0 r l) = codeW X r l) ?_ ?_ ?_ ?_ r <;> intro q
  · exact (canon_codes_0 _ _ _ _ q l).trans (codeW_0 X q l)
  · exact (canon_codes_1 _ _ _ _ q l).trans (codeW_1 X q l)
  · exact (canon_codes_2 _ _ _ _ q l).trans (codeW_2 X q l)
  · exact (canon_codes_3 _ _ _ _ q l).trans (codeW_3 X q l)

/-! ## Scores and the attention -/

theorem q_at (X : Blk Ideal) (q : Fin 256) (l : Fin 128) : b_v7 X (ix2 q l) = X.q (ix3 0 q l) :=
  (pay5_at _ q l).trans (congrFun (ld_q X) _)

/-- A scaled score of the step. -/
def scoreK (X : Blk Ideal) (q : Fin 256) (r : Fin 2016) : EReal :=
  (∑ l : Fin 128, codeK X r l * X.q (ix3 0 q l)) * (ksCol X r * Ideal.ofBits .f32 1035273459#32)

theorem sScr_at (X : Blk Ideal) (r : Fin 2016) (q : Fin 256) : sScr X (ix2 r q) = scoreK X q r := by
  refine row_elim (P := fun r => sScr X (ix2 r q) = scoreK X q r) ?_ ?_ ?_ ?_ r <;> intro p
  · refine (canon_scr_0 _ _ _ _ p q).trans ((st0 (b_v7 X) (b_v19 X) (b_v81 X) (b_v92 X) p q).trans ?_)
    unfold scoreK
    rw [ksCol_0]
    refine congrArg (fun s : EReal => s * (b_v92 X (ix2 p 0) * Ideal.ofBits .f32 1035273459#32)) (Finset.sum_congr rfl fun l _ => ?_)
    exact congrArg₂ (fun s t : EReal => s * t) (codeK_0 X p l) (q_at X q l)
  · refine (canon_scr_1 _ _ _ _ p q).trans ((st1 (b_v7 X) (b_v328 X) (b_v316 X) p q).trans ?_)
    unfold scoreK
    rw [ksCol_1]
    refine congrArg (fun s : EReal => s * (b_v316 X (ix2 p 0) * Ideal.ofBits .f32 1035273459#32)) (Finset.sum_congr rfl fun l _ => ?_)
    exact congrArg₂ (fun s t : EReal => s * t) (codeK_1 X p l) (q_at X q l)
  · refine (canon_scr_2 _ _ _ _ p q).trans ((st2 (b_v7 X) (b_v540 X) (b_v547 X) (Scalar.ofBits (F := Ideal) .f32 0x43E00000#32) (b_v548 X) p q).trans ?_)
    unfold scoreK
    rw [ksCol_2]
    refine congrArg (fun s : EReal => s * (b_v540 X (ix2 p 0) * Ideal.ofBits .f32 1035273459#32)) (Finset.sum_congr rfl fun l _ => ?_)
    exact congrArg₂ (fun s t : EReal => s * t) (codeK_2 X p l) (q_at X q l)
  · refine (canon_scr_3 _ _ _ _ p q).trans ((st3 (b_v7 X) (b_v691 X) (b_v759 X) (b_v761 X) p q).trans ?_)
    unfold scoreK
    rw [ksCol_3]
    refine congrArg (fun s : EReal => s * (k0_pay86 (F := Ideal) (b_v761 X) (ix2 p 0) * Ideal.ofBits .f32 1035273459#32)) (Finset.sum_congr rfl fun l _ => ?_)
    exact congrArg₂ (fun s t : EReal => s * t) (codeK_3 X p l) (q_at X q l)

theorem vs_dite (X : Blk Ideal) (r : Fin 2016) :
    (if h : r.val < 640 then b_v205 X (ix2 ⟨r.val, h⟩ 0) else if h : r.val - 640 < 288 then b_v429 X (ix2 ⟨r.val - 640, h⟩ 0)
      else if h : r.val - 640 - 288 < 832 then b_v653 X (ix2 ⟨r.val - 640 - 288, h⟩ 0) else b_v877 X (ix2 ⟨r.val - 640 - 288 - 832, by omega⟩ 0)) = vsCol X r := by
  unfold vsCol
  by_cases h0 : r.val < 640
  · rw [dif_pos h0, dif_pos h0]
  · rw [dif_neg h0, dif_neg h0]
    by_cases h1 : r.val < 928
    · rw [dif_pos (by omega), dif_pos h1]; rfl
    · rw [dif_neg (by omega), dif_neg h1]
      by_cases h2 : r.val < 1760
      · rw [dif_pos (by omega), dif_pos h2]
        exact congrArg (fun t : Fin 832 => b_v653 X (ix2 t 0)) (Fin.ext (by show r.val - 640 - 288 = r.val - 928; omega))
      · rw [dif_neg (by omega), dif_neg h2]
        exact congrArg (fun t : Fin 256 => b_v877 X (ix2 t 0)) (Fin.ext (by show r.val - 640 - 288 - 832 = r.val - 1760; omega))

theorem v924_at (X : Blk Ideal) (q : Fin 256) : b_v924 X (ix2 0 q) = ∑ r : Fin 2016, probC (scoreK X q) q.val r := by
  refine (pay101_at _ q).trans (Finset.sum_congr rfl fun r _ => ?_)
  rw [pay100_at, ld_scr]
  simp only [sScr_at]

theorem v928_at (X : Blk Ideal) (r : Fin 2016) (q : Fin 256) : b_v928 X (ix2 r q) = probC (scoreK X q) q.val r * vsCol X r := by
  refine (pay102_at _ _ _ _ _ r q).trans ?_
  rw [vs_dite, pay100_at, ld_scr]
  simp only [sScr_at]

theorem v931_at (X : Blk Ideal) (r : Fin 2016) (l : Fin 128) : b_v931 X (ix2 r l) = codeW X r l := by
  refine (pay103_at _ r l).trans ?_
  rw [ld_codes]
  exact vOut_at X r l

theorem oOut_at (X : Blk Ideal) (q : Fin 256) (l : Fin 128) :
    oOut X (ix3 0 q l) = (∑ r : Fin 2016, codeW X r l * (probC (scoreK X q) q.val r * vsCol X r)) * Ideal.div 1 (∑ r : Fin 2016, probC (scoreK X q) q.val r) := by
  refine (canon_emb r_S1x256x128_S1x256x128_0_0_0 _ _ _ (ix3 0 q l) fun a => ?_).trans ?_
  · match a with
    | ⟨0, _⟩ => rfl
    | ⟨1, _⟩ => show q.val = 0 + 1 * q.val; omega
    | ⟨2, _⟩ => show l.val = 0 + 1 * l.val; omega
  refine (pay1_at _ _ _ q l).trans ?_
  rw [v924_at]
  refine congrArg (fun s : EReal => s * Ideal.div 1 (∑ r : Fin 2016, probC (scoreK X q) q.val r)) (Finset.sum_congr rfl fun r _ => ?_)
  exact congrArg₂ (fun s t : EReal => s * t) (v931_at X r l) (v928_at X r q)

/-! ## In the plain formulas -/

theorem ksCol_plain (X : Blk Ideal) (r : Fin 2016) : ksCol X r = Ideal.exp2 (rExp (amaxC (rowK X r))) :=
  (ksCol_eq X r).trans (scale_eq (amaxC_nonneg _)).1
theorem vsCol_plain (X : Blk Ideal) (r : Fin 2016) : vsCol X r = Ideal.exp2 (rExp (amaxC (rowV X r))) :=
  (vsCol_eq X r).trans (scale_eq (amaxC_nonneg _)).1
theorem codeK_plain (X : Blk Ideal) (r : Fin 2016) (l : Fin 128) : codeK X r l = codeC (Ideal.exp2 (0 - rExp (amaxC (rowK X r)))) (rowK X r l) :=
  congrArg (fun i => codeC i (rowK X r l)) (scale_eq (amaxC_nonneg _)).2
theorem codeW_plain (X : Blk Ideal) (r : Fin 2016) (l : Fin 128) : codeW X r l = codeC (Ideal.exp2 (0 - rExp (amaxC (rowV X r)))) (rowV X r l) :=
  congrArg (fun i => codeC i (rowV X r l)) (scale_eq (amaxC_nonneg _)).2

theorem oOut_plain (X : Blk Ideal) (q : Fin 256) (l : Fin 128) :
    oOut X (ix3 0 q l) = ∑ r : Fin 2016, probC (scoreK X q) q.val r * Ideal.div 1 (∑ x : Fin 2016, probC (scoreK X q) q.val x) * vsCol X r * codeW X r l :=
  (oOut_at X q l).trans (prob_attn _ _ _ _ (fun r => by rw [vsCol_plain]; exact scale_real (amaxC_nonneg _)) fun r => codeC_real _ _)

end Cert.KernelIdeal.Step
end
-- ==== Proof.RValue.lean ====
/- What the reference computes, read at an index of each of its results. -/
module

public import proofs.«01_k».proof.Proof.Gen.ReferenceIdeal.Value
public import proofs.«01_k».proof.Proof.Quant
public import Idealize.ShloMosaic.PureOps.Ideal
public import Idealize.ShloMosaic.Lib.Pointwise

@[expose] public section

noncomputable section

namespace Cert.ReferenceIdeal.Step

open Idealize.ShloMosaic
open Cert.ReferenceIdeal Cert.ReferenceIdeal.Gen Cert.ReferenceIdeal.Value Cert.Quant

/-- A row of the context: the compressed rows, the new rows, the kept rows of the memory, the rows of the sequence. -/
def ctxAt (v0 : FVec Ideal S6x640x7168 .fp8e4m3) (v1 : FVec Ideal S6x288x7168 .fp8e4m3) (v2 : FVec Ideal S6x832x7168 .fp8e4m3) (v3 : FVec Ideal S6x256x7168 .fp8e4m3) (b : Fin 6) (r : Fin 2016) (x : Fin 7168) : EReal :=
  if h : r.val < 640 then v0 (ix3 b ⟨r.val, h⟩ x)
  else if h : r.val - 640 < 288 then v1 (ix3 b ⟨r.val - 640, h⟩ x)
  else if h : r.val - 640 - 288 < 832 then v2 (ix3 b ⟨r.val - 640 - 288, h⟩ x)
  else v3 (ix3 b ⟨r.val - 640 - 288 - 832, by omega⟩ x)

theorem ctx_at (v0 : FVec Ideal S6x640x7168 .fp8e4m3)  (v1 : FVec Ideal S6x288x7168 .fp8e4m3)  (v2 : FVec Ideal S6x832x7168 .fp8e4m3)  (v3 : FVec Ideal S6x256x7168 .fp8e4m3) (b : Fin 6) (r : Fin 2016) (x : Fin 7168) (hr) :
    shapeCast S12096x7168 (concatenate S6x2016x7168 1 [⟨S6x640x7168, v0⟩, ⟨S6x288x7168, v1⟩, ⟨S6x832x7168, v2⟩, ⟨S6x256x7168, v3⟩] concatenates_S6x640x7168_S6x288x7168_S6x832x7168_S6x256x7168_S6x2016x7168_d1) shapeCasts_S6x2016x7168_S12096x7168 (ix2 ⟨b.val * 2016 + r.val, hr⟩ x) = ctxAt v0 v1 v2 v3 b r x := by
  unfold ctxAt
  pointwise

theorem w_at (v6 : FVec Ideal S7168x2x56x128 .fp8e4m3) (x : Fin 7168) (p : Fin 2) (h : Fin 56) (l : Fin 128) (hr) : shapeCast S7168x14336 v6 shapeCasts_S7168x2x56x128_S7168x14336 (ix2 x ⟨p.val * 7168 + h.val * 128 + l.val, hr⟩) = v6 (ix4 x p h l) := by
  pointwise

theorem dot_at (v5 : FVec Ideal S12096x7168 .fp8e4m3) (v7 : FVec Ideal S7168x14336 .fp8e4m3) (b : Fin 6) (r : Fin 2016) (p : Fin 2) (h : Fin 56) (l : Fin 128) : shapeCast S6x2016x2x56x128 (matmul dot_S12096x7168_S7168x14336_S12096x14336_1_0_0_1_n_n none v5 v7 (constant S12096x14336 .f32 0x00000000#32)) shapeCasts_S12096x14336_S6x2016x2x56x128 (ix5 b r p h l) = ∑ x : Fin 7168, v5 (ix2 ⟨b.val * 2016 + r.val, by omega⟩ x) * v7 (ix2 x ⟨p.val * 7168 + h.val * 128 + l.val, by omega⟩) := by
  pointwise

/-- A key (part 0) or value (part 1) of a context row and a head, before quantisation. -/
def kvAt (v0 : FVec Ideal S6x640x7168 .fp8e4m3) (v1 : FVec Ideal S6x288x7168 .fp8e4m3) (v2 : FVec Ideal S6x832x7168 .fp8e4m3) (v3 : FVec Ideal S6x256x7168 .fp8e4m3) (v6 : FVec Ideal S7168x2x56x128 .fp8e4m3) (v10 : FVec Ideal S6x2016x1 .f32) (v14 : FVec Ideal S2x56x128 .f32) (p : Fin 2) (b : Fin 6) (h : Fin 56) (r : Fin 2016) (l : Fin 128) : EReal :=
  (∑ x : Fin 7168, ctxAt v0 v1 v2 v3 b r x * v6 (ix4 x p h l)) * v10 (ix3 b r 0) * v14 (ix3 p h l)

theorem scl_at (v9 : FVec Ideal S6x2016x2x56x128 .f32) (v10 : FVec Ideal S6x2016x1 .f32) (v14 : FVec Ideal S2x56x128 .f32) (b : Fin 6) (r : Fin 2016) (x : Fin 2) (h : Fin 56) (l : Fin 128) : mulf (mulf v9 (broadcastTo S6x2016x2x56x128 (shapeCast S6x2016x1x1x1 v10 shapeCasts_S6x2016x1_S6x2016x1x1x1) broadcasts_S6x2016x1x1x1_S6x2016x2x56x128)) (broadcastTo S6x2016x2x56x128 (shapeCast S1x1x2x56x128 v14 shapeCasts_S2x56x128_S1x1x2x56x128) broadcasts_S1x1x2x56x128_S6x2016x2x56x128) (ix5 b r x h l) = v9 (ix5 b r x h l) * v10 (ix3 b r 0) * v14 (ix3 x h l) := by
  pointwise

theorem pay4_at (v0 v1 v2 v3 v6 v10 v14) (b : Fin 6) (r : Fin 2016) (p : Fin 2) (h : Fin 56) (l : Fin 128) : k0_pay4 (F := Ideal) v0 v1 v2 v3 v6 v10 v14 (ix5 b r p h l) = kvAt v0 v1 v2 v3 v6 v10 v14 p b h r l := by
  refine (scl_at _ v10 v14 b r p h l).trans ?_
  rw [dot_at]
  unfold kvAt
  refine congrArg (fun s : EReal => s * v10 (ix3 b r 0) * v14 (ix3 p h l)) (Finset.sum_congr rfl fun x _ => ?_)
  rw [ctx_at, w_at]

/-! ## The payloads at an index -/

theorem pay5_at (v0 v1 v2 v3 v6 v10 v14) (b : Fin 6) (r : Fin 2016) (h : Fin 56) (l : Fin 128) : k0_pay5 (F := Ideal) v0 v1 v2 v3 v6 v10 v14 (ix4 b r h l) = kvAt v0 v1 v2 v3 v6 v10 v14 0 b h r l := by
  rw [← pay4_at]
  unfold k0_pay5
  generalize k0_pay4 (F := Ideal) v0 v1 v2 v3 v6 v10 v14 = g
  pointwise

theorem pay12_at (v17) (b : Fin 6) (r : Fin 2016) (h : Fin 56) (l : Fin 128) : k0_pay12 (F := Ideal) v17 (ix4 b r h l) = v17 (ix5 b r 1 h l) := by
  pointwise [k0_pay12]

theorem max_at (v : FVec Ideal S6x2016x56x128 .f32) (b : Fin 6) (r : Fin 2016) (h : Fin 56) (h1 h2) : multiReduction .maximumf [3] S6x2016x56 v 0xFF800000#32 reduces_S6x2016x56x128_S6x2016x56 h1 h2 (ix3 b r h) = Finset.univ.fold max (Ideal.ofBits .f32 0xFF800000#32) (fun x => v (ix4 b r h x)) := by
  pointwise

/-- The scaled maximum of a row and head. -/
def amaxR (v : FVec Ideal S6x2016x56x128 .f32) : FVec Ideal S6x2016x56 .f32 :=
  mulf (multiReduction .maximumf [3] S6x2016x56 (absf v) 0xFF800000#32 reduces_S6x2016x56x128_S6x2016x56 (.inl rfl) rfl) (broadcast S6x2016x56 (Scalar.ofBits .f32 0x3B124925#32))

theorem mulc_at (w : FVec Ideal S6x2016x56 .f32) (b : Fin 6) (r : Fin 2016) (h : Fin 56) : mulf w (broadcast S6x2016x56 (Scalar.ofBits .f32 0x3B124925#32)) (ix3 b r h) = w (ix3 b r h) * Ideal.ofBits .f32 991054117#32 := by
  pointwise

theorem amaxR_at (v : FVec Ideal S6x2016x56x128 .f32) (b : Fin 6) (r : Fin 2016) (h : Fin 56) : amaxR v (ix3 b r h) = amaxC (fun l => v (ix4 b r h l)) := by
  unfold amaxR
  rw [mulc_at]
  exact congrArg (fun s : EReal => s * Ideal.ofBits .f32 991054117#32) (max_at (absf v) b r h _ _)

theorem pay9_at (w : FVec Ideal S6x2016x56 .f32) (b : Fin 6) (r : Fin 2016) (h : Fin 56) :
    k0_pay9 (F := Ideal) w (addf (floor (divf (log w) (broadcast S6x2016x56 (Scalar.log (Scalar.ofBits .f32 0x40000000#32))))) (broadcast S6x2016x56 (Scalar.ofBits .f32 0x3F800000#32))) k0_pay8 (ix3 b r h) = rExp (w (ix3 b r h)) := by
  unfold rExp
  pointwise [k0_pay9, k0_pay8]

theorem exp2_at (w : FVec Ideal S6x2016x56 .f32) (b : Fin 6) (r : Fin 2016) (h : Fin 56) : exp2 w (ix3 b r h) = Ideal.exp2 (w (ix3 b r h)) := rfl

/-- The codes, from the values and the exponents. -/
def codeR (v : FVec Ideal S6x2016x56x128 .f32) (e : FVec Ideal S6x2016x56 .f32) : FVec Ideal S6x2016x56x128 .fp8e4m3 :=
  truncf .fp8e4m3 (minimumf (broadcast S6x2016x56x128 (Scalar.ofBits .f32 0x43E00000#32)) (maximumf (broadcast S6x2016x56x128 (Scalar.ofBits .f32 0xC3E00000#32)) (mulf v (broadcastTo S6x2016x56x128 (shapeCast S6x2016x56x1 (exp2 (subf (broadcast S6x2016x56 (Scalar.ofBits .f32 0x00000000#32)) e)) shapeCasts_S6x2016x56_S6x2016x56x1) broadcasts_S6x2016x56x1_S6x2016x56x128)))) bitsLt_fp8e4m3_f32

theorem codeR_at (v : FVec Ideal S6x2016x56x128 .f32) (e : FVec Ideal S6x2016x56 .f32) (b : Fin 6) (r : Fin 2016) (h : Fin 56) (l : Fin 128) :
    codeR v e (ix4 b r h l) = codeC (Ideal.exp2 (0 - e (ix3 b r h))) (v (ix4 b r h l)) := by
  unfold codeR codeC
  pointwise
  rfl

/-- The exponents of a whole array of values. -/
def expR (v : FVec Ideal S6x2016x56x128 .f32) : FVec Ideal S6x2016x56 .f32 :=
  k0_pay9 (F := Ideal) (amaxR v) (addf (floor (divf (log (amaxR v)) (broadcast S6x2016x56 (Scalar.log (Scalar.ofBits .f32 0x40000000#32))))) (broadcast S6x2016x56 (Scalar.ofBits .f32 0x3F800000#32))) k0_pay8

theorem expR_at (v : FVec Ideal S6x2016x56x128 .f32) (b : Fin 6) (r : Fin 2016) (h : Fin 56) : expR v (ix3 b r h) = rExp (amaxC (fun l => v (ix4 b r h l))) := by
  unfold expR
  rw [pay9_at, amaxR_at]

/-! ## The attention -/

/-- The scores. -/
def scoreR (v37 : FVec Ideal S6x2016x56 .f32) (v48 : FVec Ideal S6x2016x56x128 .fp8e4m3) (v86 : FVec Ideal S6x256x7168 .bf16) : FVec Ideal S6x56x256x2016 .f32 :=
   mulf (shapeCast S6x56x256x2016 (matmul dot_S336x256x128_S336x2016x128_S336x256x2016_2_2_1_1_0_0 none (shapeCast S336x256x128 (transpose S6x56x256x128 [0, 2, 1, 3] (shapeCast S6x256x56x128 v86 shapeCasts_S6x256x7168_S6x256x56x128) transposes_S6x256x56x128_p0_2_1_3_S6x56x256x128) shapeCasts_S6x56x256x128_S336x256x128) (shapeCast S336x2016x128 (transpose S6x56x2016x128 [0, 2, 1, 3] (extf .bf16 v48 bitsLt_fp8e4m3_bf16) transposes_S6x2016x56x128_p0_2_1_3_S6x56x2016x128) shapeCasts_S6x56x2016x128_S336x2016x128) (constant S336x256x2016 .f32 0x00000000#32)) shapeCasts_S336x256x2016_S6x56x256x2016)
     (broadcastTo S6x56x256x2016 (mulf (shapeCast S6x56x1x2016 (k0_pay17 v37) shapeCasts_S6x56x2016_S6x56x1x2016) (broadcast S6x56x1x2016 (Scalar.ofBits .f32 0x3DB504F3#32))) broadcasts_S6x56x1x2016_S6x56x256x2016)

theorem scoreR_at (v37 v48 v86) (b : Fin 6) (h : Fin 56) (q : Fin 256) (r : Fin 2016) :
    scoreR v37 v48 v86 (ix4 b h q r) = (∑ x : Fin 128, v86 (ix3 b q ⟨h.val * 128 + x.val, by omega⟩) * v48 (ix4 b r h x)) * (v37 (ix3 b r h) * Ideal.ofBits .f32 1035273459#32) := by
  unfold scoreR
  pointwise [k0_pay17]

/-- The scores, minus infinity where the row is not seen. -/
def maskR (v97 : FVec Ideal S6x56x256x2016 .f32) : FVec Ideal S6x56x256x2016 .f32 :=
  select (broadcastTo S6x56x256x2016 (shapeCast S1x1x256x2016 (andi (ori (cmpi .slt (iota .tc S1x1x256x2016 32 [3] iota_S1x1x256x2016_d3_w32) (broadcast S1x1x256x2016 918#32)) (cmpi .sge (iota .tc S1x1x256x2016 32 [3] iota_S1x1x256x2016_d3_w32) (broadcast S1x1x256x2016 928#32))) (cmpi .sle (subi (iota .tc S1x1x256x2016 32 [3] iota_S1x1x256x2016_d3_w32) (broadcast S1x1x256x2016 1760#32)) (iota .tc S1x1x256x2016 32 [2] iota_S1x1x256x2016_d2_w32))) shapeCasts_S1x1x256x2016_S1x1x256x2016) broadcasts_S1x1x256x2016_S6x56x256x2016) v97 (broadcast S6x56x256x2016 (Scalar.ofBits .f32 0xFF800000#32))

theorem maskR_at (v97 : FVec Ideal S6x56x256x2016 .f32) (b : Fin 6) (h : Fin 56) (q : Fin 256) (r : Fin 2016) : maskR v97 (ix4 b h q r) = maskC r.val q.val (v97 (ix4 b h q r)) := by
  unfold maskR maskC
  pointwise

/-- The unnormalised probabilities, from the masked scores. -/
def softR (v112 : FVec Ideal S6x56x256x2016 .f32) : FVec Ideal S6x56x256x2016 .f32 :=
  exp (subf v112 (broadcastTo S6x56x256x2016 (shapeCast S6x56x256x1 (multiReduction .maximumf [3] S6x56x256 v112 0xFF800000#32 reduces_S6x56x256x2016_S6x56x256 (.inl rfl) rfl) shapeCasts_S6x56x256_S6x56x256x1) broadcasts_S6x56x256x1_S6x56x256x2016))

theorem softR_at (v112 : FVec Ideal S6x56x256x2016 .f32) (b : Fin 6) (h : Fin 56) (q : Fin 256) (r : Fin 2016) :
    softR v112 (ix4 b h q r) = Ideal.exp (v112 (ix4 b h q r) - Finset.fold max (Ideal.ofBits .f32 4286578688#32) (fun x : Fin 2016 => v112 (ix4 b h q x)) Finset.univ) := by
  unfold softR
  pointwise

/-- The normalised probabilities. -/
def normR (v117 : FVec Ideal S6x56x256x2016 .f32) : FVec Ideal S6x56x256x2016 .f32 :=
  mulf v117 (broadcastTo S6x56x256x2016 (divf (broadcast S6x56x256x1 (Scalar.ofBits .f32 0x3F800000#32)) (shapeCast S6x56x256x1 (multiReduction .add [3] S6x56x256 v117 0x00000000#32 reduces_S6x56x256x2016_S6x56x256 (.inl rfl) rfl) shapeCasts_S6x56x256_S6x56x256x1)) broadcasts_S6x56x256x1_S6x56x256x2016)

theorem normR_at (v117 : FVec Ideal S6x56x256x2016 .f32) (b : Fin 6) (h : Fin 56) (q : Fin 256) (r : Fin 2016) :
    normR v117 (ix4 b h q r) = v117 (ix4 b h q r) * Ideal.div 1 (∑ x : Fin 2016, v117 (ix4 b h q x)) := by
  unfold normR
  pointwise

theorem pay20_eq (v37 v48 v86) : k0_pay20 (F := Ideal) v37 v48 v86 = normR (softR (maskR (scoreR v37 v48 v86))) := rfl

theorem pay20_at (v37 v48 v86) (b : Fin 6) (h : Fin 56) (q : Fin 256) (r : Fin 2016) :
    k0_pay20 (F := Ideal) v37 v48 v86 (ix4 b h q r) = probC (fun r => scoreR v37 v48 v86 (ix4 b h q r)) q.val r
      * Ideal.div 1 (∑ x : Fin 2016, probC (fun r => scoreR v37 v48 v86 (ix4 b h q r)) q.val x) := by
  rw [pay20_eq, normR_at]
  simp only [softR_at, maskR_at]
  rfl

theorem pay3_at (v85 v123 v124) (b : Fin 6) (q : Fin 256) (h : Fin 56) (l : Fin 128) (hc) :
    k0_pay3 (F := Ideal) v85 v123 v124 (ix3 b q ⟨h.val * 128 + l.val, hc⟩) = ∑ r : Fin 2016, v123 (ix4 b h q r) * v124 (ix4 b h 0 r) * v85 (ix4 b h r l) := by
  pointwise [k0_pay3]

theorem wide_at (v) (b : Fin 6) (r : Fin 2016) (h : Fin 56) (l : Fin 128) :
    transpose S6x56x2016x128 [0, 2, 1, 3] (extf (F := Ideal) .bf16 v bitsLt_fp8e4m3_bf16) transposes_S6x2016x56x128_p0_2_1_3_S6x56x2016x128 (ix4 b h r l) = v (ix4 b r h l) := by
  pointwise

theorem pay21_at (v) (b : Fin 6) (r : Fin 2016) (h : Fin 56) : k0_pay21 (F := Ideal) v (ix4 b h 0 r) = v (ix3 b r h) := by
  pointwise [k0_pay21, k0_pay18]
theorem pay17_at (v) (b : Fin 6) (r : Fin 2016) (h : Fin 56) : k0_pay17 (F := Ideal) v (ix3 b h r) = v (ix3 b r h) := by
  pointwise [k0_pay17]
theorem pay18_at (v) (b : Fin 6) (r : Fin 2016) (h : Fin 56) : k0_pay18 (F := Ideal) v (ix3 b h r) = v (ix3 b r h) := by
  pointwise [k0_pay18]
theorem pay1_at (v) (b : Fin 6) (r : Fin 2016) (h : Fin 56) (l : Fin 128) (hc) : k0_pay1 (F := Ideal) v (ix3 b r ⟨h.val * 128 + l.val, hc⟩) = v (ix4 b r h l) := by
  pointwise [k0_pay1]
theorem pay2_at (v) (b : Fin 6) (r : Fin 2016) (h : Fin 56) (l : Fin 128) (hc) : k0_pay2 (F := Ideal) v (ix3 b r ⟨h.val * 128 + l.val, hc⟩) = v (ix4 b r h l) := by
  pointwise [k0_pay2]

/-! ## The results at an index -/

section
variable (a0 : Vec Ideal S6x640x7168 .fp8e4m3) (a1 : Vec Ideal S6x288x7168 .fp8e4m3) (a2 : Vec Ideal S6x1664x7168 .fp8e4m3) (a3 : Vec Ideal S6x256x7168 .fp8e4m3) (a4 : Vec Ideal S6x2016x1 .f32) (a5 : Vec Ideal S7168x2x56x128 .fp8e4m3) (a6 : Vec Ideal S2x56x128 .f32) (a7 : Vec Ideal S6x256x7168 .bf16)

/-- The keys before quantisation, as an array. -/
def kArr : FVec Ideal S6x2016x56x128 .f32 := k0_pay5 (View.ld a0 r0_0) (View.ld a1 r0_1) (View.ld a2 r0_2) (View.ld a3 r0_3) (View.ld a5 r0_4) (View.ld a4 r0_5) (View.ld a6 r0_6)
/-- The values before quantisation, as an array. -/
def vArr : FVec Ideal S6x2016x56x128 .f32 := k0_pay12 (k0_pay22 a0 a1 a2 a3 a4 a5 a6 a7)

theorem pay26_eq : k0_pay26 a0 a1 a2 a3 a4 a5 a6 a7 = exp2 (expR (kArr a0 a1 a2 a3 a4 a5 a6)) := rfl
theorem pay27_eq : k0_pay27 a0 a1 a2 a3 a4 a5 a6 a7 = codeR (kArr a0 a1 a2 a3 a4 a5 a6) (expR (kArr a0 a1 a2 a3 a4 a5 a6)) := rfl
theorem pay28_eq : k0_pay28 a0 a1 a2 a3 a4 a5 a6 a7 = exp2 (expR (vArr a0 a1 a2 a3 a4 a5 a6 a7)) := rfl
theorem pay29_eq : k0_pay16 (Scalar.ofBits .f32 0x43E00000#32) (k0_pay29 a0 a1 a2 a3 a4 a5 a6 a7) = codeR (vArr a0 a1 a2 a3 a4 a5 a6 a7) (expR (vArr a0 a1 a2 a3 a4 a5 a6 a7)) := rfl

/-- A key (part 0) or value (part 1) of a row and head, before quantisation. -/
def kvA (p : Fin 2) (b : Fin 6) (h : Fin 56) (r : Fin 2016) (l : Fin 128) : EReal :=
  kvAt (View.ld a0 r0_0) (View.ld a1 r0_1) (View.ld a2 r0_2) (View.ld a3 r0_3) (View.ld a5 r0_4) (View.ld a4 r0_5) (View.ld a6 r0_6) p b h r l

/-- The scale. -/
def scA (p : Fin 2) (b : Fin 6) (h : Fin 56) (r : Fin 2016) : EReal := Ideal.exp2 (rExp (amaxC (kvA a0 a1 a2 a3 a4 a5 a6 p b h r)))
/-- A code. -/
def coA (p : Fin 2) (b : Fin 6) (h : Fin 56) (r : Fin 2016) (l : Fin 128) : EReal :=
  codeC (Ideal.exp2 (0 - rExp (amaxC (kvA a0 a1 a2 a3 a4 a5 a6 p b h r)))) (kvA a0 a1 a2 a3 a4 a5 a6 p b h r l)
/-- A scaled score. -/
def stA (b : Fin 6) (h : Fin 56) (q : Fin 256) (r : Fin 2016) : EReal :=
  (∑ x : Fin 128, a7 (ix3 b q ⟨h.val * 128 + x.val, by omega⟩) * coA a0 a1 a2 a3 a4 a5 a6 0 b h r x) * (scA a0 a1 a2 a3 a4 a5 a6 0 b h r * Ideal.ofBits .f32 1035273459#32)
/-- An entry of the attention's result. -/
def oA (b : Fin 6) (h : Fin 56) (q : Fin 256) (l : Fin 128) : EReal :=
  ∑ r : Fin 2016, probC (stA a0 a1 a2 a3 a4 a5 a6 a7 b h q) q.val r * Ideal.div 1 (∑ x : Fin 2016, probC (stA a0 a1 a2 a3 a4 a5 a6 a7 b h q) q.val x)
    * scA a0 a1 a2 a3 a4 a5 a6 1 b h r * coA a0 a1 a2 a3 a4 a5 a6 1 b h r l

theorem kArr_at (b : Fin 6) (r : Fin 2016) (h : Fin 56) (l : Fin 128) : kArr a0 a1 a2 a3 a4 a5 a6 (ix4 b r h l) = kvA a0 a1 a2 a3 a4 a5 a6 0 b h r l := pay5_at _ _ _ _ _ _ _ b r h l
theorem vArr_at (b : Fin 6) (r : Fin 2016) (h : Fin 56) (l : Fin 128) : vArr a0 a1 a2 a3 a4 a5 a6 a7 (ix4 b r h l) = kvA a0 a1 a2 a3 a4 a5 a6 1 b h r l :=
  (pay12_at _ b r h l).trans (pay4_at _ _ _ _ _ _ _ b r 1 h l)

theorem p26_at (b : Fin 6) (r : Fin 2016) (h : Fin 56) : k0_pay26 a0 a1 a2 a3 a4 a5 a6 a7 (ix3 b r h) = scA a0 a1 a2 a3 a4 a5 a6 0 b h r := by
  rw [pay26_eq, exp2_at, expR_at]; simp only [kArr_at]; rfl
theorem p28_at (b : Fin 6) (r : Fin 2016) (h : Fin 56) : k0_pay28 a0 a1 a2 a3 a4 a5 a6 a7 (ix3 b r h) = scA a0 a1 a2 a3 a4 a5 a6 1 b h r := by
  rw [pay28_eq, exp2_at, expR_at]; simp only [vArr_at]; rfl
theorem p27_at (b : Fin 6) (r : Fin 2016) (h : Fin 56) (l : Fin 128) : k0_pay27 a0 a1 a2 a3 a4 a5 a6 a7 (ix4 b r h l) = coA a0 a1 a2 a3 a4 a5 a6 0 b h r l := by
  rw [pay27_eq, codeR_at, expR_at]; simp only [kArr_at]; rfl
theorem p29_at (b : Fin 6) (r : Fin 2016) (h : Fin 56) (l : Fin 128) : k0_pay16 (Scalar.ofBits .f32 0x43E00000#32) (k0_pay29 a0 a1 a2 a3 a4 a5 a6 a7) (ix4 b r h l) = coA a0 a1 a2 a3 a4 a5 a6 1 b h r l := by
  rw [pay29_eq, codeR_at, expR_at]; simp only [vArr_at]; rfl

theorem G8_at (b : Fin 6) (r : Fin 2016) (h : Fin 56) (l : Fin 128) (hc) : G8 a0 a1 a2 a3 a4 a5 a6 a7 (ix3 b r ⟨h.val * 128 + l.val, hc⟩) = coA a0 a1 a2 a3 a4 a5 a6 0 b h r l :=
  (pay1_at _ b r h l hc).trans (p27_at a0 a1 a2 a3 a4 a5 a6 a7 b r h l)
theorem G9_at (b : Fin 6) (r : Fin 2016) (h : Fin 56) (l : Fin 128) (hc) : G9 a0 a1 a2 a3 a4 a5 a6 a7 (ix3 b r ⟨h.val * 128 + l.val, hc⟩) = coA a0 a1 a2 a3 a4 a5 a6 1 b h r l :=
  (pay2_at _ b r h l hc).trans (p29_at a0 a1 a2 a3 a4 a5 a6 a7 b r h l)
theorem G10_at (b : Fin 6) (r : Fin 2016) (h : Fin 56) : G10 a0 a1 a2 a3 a4 a5 a6 a7 (ix3 b h r) = scA a0 a1 a2 a3 a4 a5 a6 0 b h r :=
  (pay17_at _ b r h).trans (p26_at a0 a1 a2 a3 a4 a5 a6 a7 b r h)
theorem G11_at (b : Fin 6) (r : Fin 2016) (h : Fin 56) : G11 a0 a1 a2 a3 a4 a5 a6 a7 (ix3 b h r) = scA a0 a1 a2 a3 a4 a5 a6 1 b h r :=
  (pay18_at _ b r h).trans (p28_at a0 a1 a2 a3 a4 a5 a6 a7 b r h)

theorem score_at (b : Fin 6) (h : Fin 56) (q : Fin 256) : (fun r => scoreR (k0_pay26 a0 a1 a2 a3 a4 a5 a6 a7) (k0_pay27 a0 a1 a2 a3 a4 a5 a6 a7) a7 (ix4 b h q r)) = stA a0 a1 a2 a3 a4 a5 a6 a7 b h q := by
  funext r
  rw [scoreR_at, p26_at]
  simp only [p27_at]
  rfl

theorem G12_at (b : Fin 6) (q : Fin 256) (h : Fin 56) (l : Fin 128) (hc) : G12 a0 a1 a2 a3 a4 a5 a6 a7 (ix3 b q ⟨h.val * 128 + l.val, hc⟩) = oA a0 a1 a2 a3 a4 a5 a6 a7 b h q l := by
  refine (pay3_at _ _ _ b q h l hc).trans (Finset.sum_congr rfl fun r _ => ?_)
  refine congrArg₂ (fun s t : EReal => s * t) (congrArg₂ (fun s t : EReal => s * t) ?_ ?_) ?_
  · rw [← score_at]; exact pay20_at _ _ _ b h q r
  · exact (pay21_at _ b r h).trans (p28_at a0 a1 a2 a3 a4 a5 a6 a7 b r h)
  · exact (wide_at _ b r h l).trans (p29_at a0 a1 a2 a3 a4 a5 a6 a7 b r h l)

end

end Cert.ReferenceIdeal.Step
end
-- ==== Proof.KIArray.lean ====
/- One step of the kernel against the reference's formulas: the same keys, values, scales, codes and attention, read
   from the argument arrays. -/
module

public import proofs.«01_k».proof.Proof.KIBlk
public import proofs.«01_k».proof.Proof.KIValue
public import proofs.«01_k».proof.Proof.RValue

@[expose] public section

noncomputable section

namespace Cert.KernelIdeal.Step

open Idealize.ShloMosaic Idealize.ShloMosaic.TcCoe Idealize.ShloMosaic.Tactic Idealize.SL.Sem
open Cert.KernelIdeal Cert.KernelIdeal.Gen Cert.Quant
open Cert.ReferenceIdeal.Step (ctxAt kvAt kvA scA coA stA oA)

variable (m : (ℓ : Loc nD τ sig) → Buf (Elt Ideal) ℓ) (c : Dev nD)

/-! ## The arguments -/

abbrev A0 : Vec Ideal S6x640x7168 .fp8e4m3 := m ((c : Thread nD τ).loc main_arg0)
abbrev A1 : Vec Ideal S6x288x7168 .fp8e4m3 := m ((c : Thread nD τ).loc main_arg1)
abbrev A2 : Vec Ideal S6x1664x7168 .fp8e4m3 := m ((c : Thread nD τ).loc main_arg2)
abbrev A3 : Vec Ideal S6x256x7168 .fp8e4m3 := m ((c : Thread nD τ).loc main_arg3)
abbrev A4 : Vec Ideal S6x2016x1 .f32 := m ((c : Thread nD τ).loc main_arg4)
abbrev A5 : Vec Ideal S7168x2x56x128 .fp8e4m3 := m ((c : Thread nD τ).loc main_arg5)
abbrev A6 : Vec Ideal S2x56x128 .f32 := m ((c : Thread nD τ).loc main_arg6)
abbrev A7 : Vec Ideal S6x256x7168 .bf16 := m ((c : Thread nD τ).loc main_arg7)

/-- A key (part 0) or value (part 1) as the reference has it. -/
abbrev kvM := kvA (A0 m c) (A1 m c) (A2 m c) (A3 m c) (A4 m c) (A5 m c) (A6 m c)
abbrev scM := scA (A0 m c) (A1 m c) (A2 m c) (A3 m c) (A4 m c) (A5 m c) (A6 m c)
abbrev coM := coA (A0 m c) (A1 m c) (A2 m c) (A3 m c) (A4 m c) (A5 m c) (A6 m c)
abbrev stM := stA (A0 m c) (A1 m c) (A2 m c) (A3 m c) (A4 m c) (A5 m c) (A6 m c) (A7 m c)
abbrev oM := oA (A0 m c) (A1 m c) (A2 m c) (A3 m c) (A4 m c) (A5 m c) (A6 m c) (A7 m c)

/-! ## The reference's loads -/

theorem ld0_at (b : Fin 6) (r : Fin 640) (x : Fin 7168) : View.ld (A0 m c) Cert.ReferenceIdeal.Gen.r0_0 (ix3 b r x) = A0 m c (ix3 b r x) := by
  pointwise
theorem ld1_at (b : Fin 6) (r : Fin 288) (x : Fin 7168) : View.ld (A1 m c) Cert.ReferenceIdeal.Gen.r0_1 (ix3 b r x) = A1 m c (ix3 b r x) := by
  pointwise
theorem ld2_at (b : Fin 6) (r : Fin 832) (x : Fin 7168) : View.ld (A2 m c) Cert.ReferenceIdeal.Gen.r0_2 (ix3 b r x) = A2 m c (ix3 b ⟨832 + r.val, by omega⟩ x) := by
  pointwise
theorem ld3_at (b : Fin 6) (r : Fin 256) (x : Fin 7168) : View.ld (A3 m c) Cert.ReferenceIdeal.Gen.r0_3 (ix3 b r x) = A3 m c (ix3 b r x) := by
  pointwise
theorem ld4_at (x : Fin 7168) (p : Fin 2) (h : Fin 56) (l : Fin 128) : View.ld (A5 m c) Cert.ReferenceIdeal.Gen.r0_4 (ix4 x p h l) = A5 m c (ix4 x p h l) := by
  pointwise
theorem ld5_at (b : Fin 6) (r : Fin 2016) : View.ld (A4 m c) Cert.ReferenceIdeal.Gen.r0_5 (ix3 b r 0) = A4 m c (ix3 b r 0) := by
  pointwise
theorem ld6_at (p : Fin 2) (h : Fin 56) (l : Fin 128) : View.ld (A6 m c) Cert.ReferenceIdeal.Gen.r0_6 (ix3 p h l) = A6 m c (ix3 p h l) := by
  pointwise

/-! ## One step -/

section
variable (t : Fin cfg0.N) (b : Fin 6) (h : Fin 56) (e : t.val = 56 * b.val + h.val)
include e

theorem ctx_step (r : Fin 2016) (x : Fin 7168) :
    ctxRow (blkAt m c t) r x = ctxAt (View.ld (A0 m c) Cert.ReferenceIdeal.Gen.r0_0) (View.ld (A1 m c) Cert.ReferenceIdeal.Gen.r0_1) (View.ld (A2 m c) Cert.ReferenceIdeal.Gen.r0_2) (View.ld (A3 m c) Cert.ReferenceIdeal.Gen.r0_3) b r x := by
  unfold ctxRow ctxAt
  split_ifs
  · rw [ld0_at]; exact cm_at m c t b h e _ x
  · rw [ld1_at]; exact nw_at m c t b h e _ x
  · rw [ld2_at]; exact mm_at m c t b h e _ x
  · rw [ld3_at]; exact xc_at m c t b h e _ x

theorem rowK_step (r : Fin 2016) (l : Fin 128) : rowK (blkAt m c t) r l = kvM m c 0 b h r l := by
  unfold rowK rowDot kvM kvA kvAt
  rw [ld5_at, ld6_at, csc_at m c t b h e, sk_at m c t b h e]
  refine congrArg (fun s : EReal => s * A4 m c (ix3 b r 0) * A6 m c (ix3 0 h l)) (Finset.sum_congr rfl fun x _ => ?_)
  rw [ctx_step m c t b h e, wk_at m c t b h e, ld4_at]

theorem rowV_step (r : Fin 2016) (l : Fin 128) : rowV (blkAt m c t) r l = kvM m c 1 b h r l := by
  unfold rowV rowDot kvM kvA kvAt
  rw [ld5_at, ld6_at, csc_at m c t b h e, sv_at m c t b h e]
  refine congrArg (fun s : EReal => s * A4 m c (ix3 b r 0) * A6 m c (ix3 1 h l)) (Finset.sum_congr rfl fun x _ => ?_)
  rw [ctx_step m c t b h e, wv_at m c t b h e, ld4_at]

theorem ksM_step (r : Fin 2016) : ksCol (blkAt m c t) r = scM m c 0 b h r := by
  rw [ksCol_plain, funext (rowK_step m c t b h e r)]; rfl
theorem vsM_step (r : Fin 2016) : vsCol (blkAt m c t) r = scM m c 1 b h r := by
  rw [vsCol_plain, funext (rowV_step m c t b h e r)]; rfl

theorem codeK_step (r : Fin 2016) (l : Fin 128) : codeK (blkAt m c t) r l = coM m c 0 b h r l := by
  rw [codeK_plain, funext (rowK_step m c t b h e r)]; rfl
theorem codeW_step (r : Fin 2016) (l : Fin 128) : codeW (blkAt m c t) r l = coM m c 1 b h r l := by
  rw [codeW_plain, funext (rowV_step m c t b h e r)]; rfl

theorem score_step (q : Fin 256) : scoreK (blkAt m c t) q = stM m c b h q := by
  funext r
  unfold scoreK stM stA
  rw [ksM_step m c t b h e]
  refine congrArg (fun s : EReal => s * (scM m c 0 b h r * Ideal.ofBits .f32 1035273459#32)) (Finset.sum_congr rfl fun x _ => ?_)
  rw [codeK_step m c t b h e, qBlk_at m c t b h e, mul_comm]

theorem o_step (q : Fin 256) (l : Fin 128) : oOut (blkAt m c t) (ix3 0 q l) = oM m c b h q l := by
  rw [oOut_plain, score_step m c t b h e]
  unfold oM oA
  refine Finset.sum_congr rfl fun r _ => ?_
  rw [vsM_step m c t b h e, codeW_step m c t b h e]

end

end Cert.KernelIdeal.Step

end
-- ==== Proof.KIFinal.lean ====
/- The kernel's result arrays after the run: the reference's results of the same arguments. -/
module

public import proofs.«01_k».proof.Proof.KIArray
public import Idealize.ShloMosaic.Lib.Pipeline.Covers

@[expose] public section

noncomputable section

namespace Cert.KernelIdeal.Step

open Idealize.ShloMosaic Idealize.ShloMosaic.TcCoe Idealize.ShloMosaic.Tactic Idealize.SL.Sem
open Cert.KernelIdeal Cert.KernelIdeal.Gen Cert.Quant
open Cert.ReferenceIdeal.Step (G8_at G9_at G10_at G11_at G12_at)

variable (m : (ℓ : Loc nD τ sig) → Buf (Elt Ideal) ℓ) (c : Dev nD)

abbrev R8 := Cert.ReferenceIdeal.Value.G8 (F := Ideal) (A0 m c) (A1 m c) (A2 m c) (A3 m c) (A4 m c) (A5 m c) (A6 m c) (A7 m c)
abbrev R9 := Cert.ReferenceIdeal.Value.G9 (F := Ideal) (A0 m c) (A1 m c) (A2 m c) (A3 m c) (A4 m c) (A5 m c) (A6 m c) (A7 m c)
abbrev R10 := Cert.ReferenceIdeal.Value.G10 (F := Ideal) (A0 m c) (A1 m c) (A2 m c) (A3 m c) (A4 m c) (A5 m c) (A6 m c) (A7 m c)
abbrev R11 := Cert.ReferenceIdeal.Value.G11 (F := Ideal) (A0 m c) (A1 m c) (A2 m c) (A3 m c) (A4 m c) (A5 m c) (A6 m c) (A7 m c)
abbrev R12 := Cert.ReferenceIdeal.Value.G12 (F := Ideal) (A0 m c) (A1 m c) (A2 m c) (A3 m c) (A4 m c) (A5 m c) (A6 m c) (A7 m c)

/-- The batch element of a point. -/
def bOf (t : Fin cfg0.N) : Fin 6 := ⟨t.val / 56, by have := t.isLt; have := cfgN; omega⟩
/-- The head of a point. -/
def hOf (t : Fin cfg0.N) : Fin 56 := ⟨t.val % 56, Nat.mod_lt _ (by omega)⟩

theorem pt_eq (t : Fin cfg0.N) : t.val = 56 * (bOf t).val + (hOf t).val := by
  show t.val = 56 * (t.val / 56) + t.val % 56
  omega

/-- The point of a batch element and a head. -/
def ptOf (b : Fin 6) (h : Fin 56) : Fin cfg0.N := ⟨56 * b.val + h.val, by rw [cfgN]; omega⟩

theorem ix_kv (y : S1x2016x128.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
theorem ix_sc (y : S1x56x2016.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
theorem ix_o (y : S1x256x128.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl

/-! ## What a point writes back is its block of the reference's result -/

theorem pt10 (t : Fin cfg0.N) (r : Fin 2016) (l : Fin 128) :
    kOut (blkAt m c t) (ix3 0 r l) = R8 m c ((win0_10.blk t).view.emb (ix3 0 r l : S1x2016x128.Idx)) := by
  have i : win0_10.index t = ![(bOf t).val, 0, (hOf t).val] := (idx_all t).2.2.2.2.2.2.2.2.2.2.1
  rw [kOut_at, codeK_step m c t (bOf t) (hOf t) (pt_eq t)]
  refine (G8_at (A0 m c) (A1 m c) (A2 m c) (A3 m c) (A4 m c) (A5 m c) (A6 m c) (A7 m c) (bOf t) r (hOf t) l (by have := (hOf t).isLt; omega)).symm.trans ?_
  refine congrArg (R8 m c) ?_
  blk_ext [i]

theorem final10 : (dats m 0 c).arrAt 10 cfg0.N = R8 m c := by
  refine (dats m 0 c).arrAt_eq_of_covers 10 _ (by decide +kernel) fun t hf y => ?_
  blk_simp
  rw [after0_10]
  obtain ⟨r, l, rfl⟩ : ∃ (r : Fin 2016) (l : Fin 128), y = (ix3 0 r l : S1x2016x128.Idx) := ⟨_, _, ix_kv y⟩
  exact pt10 m c t r l

theorem pt11 (t : Fin cfg0.N) (r : Fin 2016) (l : Fin 128) :
    vOut (blkAt m c t) (ix3 0 r l) = R9 m c ((win0_11.blk t).view.emb (ix3 0 r l : S1x2016x128.Idx)) := by
  have i : win0_11.index t = ![(bOf t).val, 0, (hOf t).val] := (idx_all t).2.2.2.2.2.2.2.2.2.2.2.1
  rw [vOut_at, codeW_step m c t (bOf t) (hOf t) (pt_eq t)]
  refine (G9_at (A0 m c) (A1 m c) (A2 m c) (A3 m c) (A4 m c) (A5 m c) (A6 m c) (A7 m c) (bOf t) r (hOf t) l (by have := (hOf t).isLt; omega)).symm.trans ?_
  refine congrArg (R9 m c) ?_
  blk_ext [i]

theorem final11 : (dats m 0 c).arrAt 11 cfg0.N = R9 m c := by
  refine (dats m 0 c).arrAt_eq_of_covers 11 _ (by decide +kernel) fun t hf y => ?_
  blk_simp
  rw [after0_11]
  obtain ⟨r, l, rfl⟩ : ∃ (r : Fin 2016) (l : Fin 128), y = (ix3 0 r l : S1x2016x128.Idx) := ⟨_, _, ix_kv y⟩
  exact pt11 m c t r l

theorem pt12 (t : Fin cfg0.N) (h : Fin 56) (r : Fin 2016) :
    kscOut (ksAll m c (t.val / 56)) (ix3 0 h r) = R10 m c ((win0_12.blk t).view.emb (ix3 0 h r : S1x56x2016.Idx)) := by
  have i : win0_12.index t = ![(bOf t).val, 0, 0] := (idx_all t).2.2.2.2.2.2.2.2.2.2.2.2.1
  refine (kscOut_at _ h r).trans ?_
  show ksCol (blkN m c (56 * (bOf t).val + h.val)) r = _
  rw [blkN_val m c (ptOf (bOf t) h) (56 * (bOf t).val + h.val) rfl, ksM_step m c (ptOf (bOf t) h) (bOf t) h rfl]
  refine (G10_at (A0 m c) (A1 m c) (A2 m c) (A3 m c) (A4 m c) (A5 m c) (A6 m c) (A7 m c) (bOf t) r h).symm.trans ?_
  refine congrArg (R10 m c) ?_
  blk_ext [i]

theorem final12 : (dats m 0 c).arrAt 12 cfg0.N = R10 m c := by
  refine (dats m 0 c).arrAt_eq_of_covers 12 _ (by decide +kernel) fun t hf y => ?_
  blk_simp
  rw [after0_12]
  obtain ⟨h, r, rfl⟩ : ∃ (h : Fin 56) (r : Fin 2016), y = (ix3 0 h r : S1x56x2016.Idx) := ⟨_, _, ix_sc y⟩
  exact pt12 m c t h r

theorem pt13 (t : Fin cfg0.N) (h : Fin 56) (r : Fin 2016) :
    vscOut (vsAll m c (t.val / 56)) (ix3 0 h r) = R11 m c ((win0_13.blk t).view.emb (ix3 0 h r : S1x56x2016.Idx)) := by
  have i : win0_13.index t = ![(bOf t).val, 0, 0] := (idx_all t).2.2.2.2.2.2.2.2.2.2.2.2.2.1
  refine (kscOut_at _ h r).trans ?_
  show vsCol (blkN m c (56 * (bOf t).val + h.val)) r = _
  rw [blkN_val m c (ptOf (bOf t) h) (56 * (bOf t).val + h.val) rfl, vsM_step m c (ptOf (bOf t) h) (bOf t) h rfl]
  refine (G11_at (A0 m c) (A1 m c) (A2 m c) (A3 m c) (A4 m c) (A5 m c) (A6 m c) (A7 m c) (bOf t) r h).symm.trans ?_
  refine congrArg (R11 m c) ?_
  blk_ext [i]

theorem final13 : (dats m 0 c).arrAt 13 cfg0.N = R11 m c := by
  refine (dats m 0 c).arrAt_eq_of_covers 13 _ (by decide +kernel) fun t hf y => ?_
  blk_simp
  rw [after0_13]
  obtain ⟨h, r, rfl⟩ : ∃ (h : Fin 56) (r : Fin 2016), y = (ix3 0 h r : S1x56x2016.Idx) := ⟨_, _, ix_sc y⟩
  exact pt13 m c t h r

theorem pt14 (t : Fin cfg0.N) (r : Fin 256) (l : Fin 128) :
    oOut (blkAt m c t) (ix3 0 r l) = R12 m c ((win0_14.blk t).view.emb (ix3 0 r l : S1x256x128.Idx)) := by
  have i : win0_14.index t = ![(bOf t).val, 0, (hOf t).val] := (idx_all t).2.2.2.2.2.2.2.2.2.2.2.2.2.2
  rw [o_step m c t (bOf t) (hOf t) (pt_eq t)]
  refine (G12_at (A0 m c) (A1 m c) (A2 m c) (A3 m c) (A4 m c) (A5 m c) (A6 m c) (A7 m c) (bOf t) r (hOf t) l (by have := (hOf t).isLt; omega)).symm.trans ?_
  refine congrArg (R12 m c) ?_
  blk_ext [i]

theorem final14 : (dats m 0 c).arrAt 14 cfg0.N = R12 m c := by
  refine (dats m 0 c).arrAt_eq_of_covers 14 _ (by decide +kernel) fun t hf y => ?_
  blk_simp
  rw [after0_14]
  obtain ⟨r, l, rfl⟩ : ∃ (r : Fin 256) (l : Fin 128), y = (ix3 0 r l : S1x256x128.Idx) := ⟨_, _, ix_o y⟩
  exact pt14 m c t r l

/-! ## The run -/

variable (ρ : Dev nD → PrngReg)

/-- Every execution of the kernel ends with its five result arrays at the reference's results of its arguments, and
    the arguments as they were. -/
theorem run : θ_run defs (onTc (τ := τ) (main (F := Ideal))) ⟨m, fun _ => 0, ρ⟩ fun r => ∀ c : Dev nD,
      r.2.mem ((c : Thread nD τ).loc main_v3_0) = R8 m c
      ∧ r.2.mem ((c : Thread nD τ).loc main_v3_1) = R9 m c
      ∧ r.2.mem ((c : Thread nD τ).loc main_v3_2) = R10 m c
      ∧ r.2.mem ((c : Thread nD τ).loc main_v3_3) = R11 m c
      ∧ r.2.mem ((c : Thread nD τ).loc main_v3_4) = R12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨((h.1 c).1 10).trans (final10 m c), ((h.1 c).1 11).trans (final11 m c), ((h.1 c).1 12).trans (final12 m c),
      ((h.1 c).1 13).trans (final13 m c), ((h.1 c).1 14).trans (final14 m c), h.2 c⟩)
    (θ_run_and (run_main m ρ) (unchanged m ρ))

end Cert.KernelIdeal.Step

end
-- ==== Proof.QWide.lean ====
/- The quantiser of a row of 7168 values: the kernel's block expressions and the reference's array expressions, read at
   an index. -/
module

public import proofs.«01_k».proof.Proof.KIQuant
public import proofs.«01_k».proof.Proof.Soft

@[expose] public section

noncomputable section

namespace Cert.Quant

open Idealize.ShloMosaic
open Cert.KernelIdeal.Gen (bitsLt_fp8e4m3_f32)
open Cert.KernelIdeal.Step (searchV searchV_at scaleV scaleV_at invV invV_at codeV)

/-- The scaled maximum of the absolute values of a row of 7168. -/
def amaxW (v : Fin 7168 → EReal) : EReal :=
  Finset.fold max (Ideal.ofBits .f32 4286578688#32) (fun x => FloatOps.absf (F := Ideal) (φ := .f32) (v x)) Finset.univ * Ideal.ofBits .f32 991054117#32

theorem amaxW_nonneg (v : Fin 7168 → EReal) : 0 ≤ amaxW v := by
  refine mul_nonneg ?_ ofBits_inv448
  exact (absf_nonneg (v 0)).trans ((Finset.le_fold_max _).2 (Or.inr ⟨0, Finset.mem_univ _, le_rfl⟩))

/-- The scale of a row, as the reference has it. -/
def scaleW (v : Fin 7168 → EReal) : EReal := Ideal.exp2 (rExp (amaxW v))
/-- The code of an entry of a row, as the reference has it. -/
def codeW (v : Fin 7168 → EReal) (x : Fin 7168) : EReal := codeC (Ideal.exp2 (0 - rExp (amaxW v))) (v x)

/-! ## The kernel's block -/

/-- The scaled row maxima of a block. -/
def amaxK {n : ℕ} (v : FVec Ideal ⟨2, ![n, 7168]⟩ .f32) (hr : (⟨2, ![n, 7168]⟩ : Shape).Reduces [1] ⟨1, ![n]⟩) (hc : (⟨1, ![n]⟩ : Shape).ShapeCasts ⟨2, ![n, 1]⟩) : FVec Ideal ⟨2, ![n, 1]⟩ .f32 :=
  mulf (shapeCast ⟨2, ![n, 1]⟩ (multiReduction .maximumf [1] ⟨1, ![n]⟩ (absf v) 0xFF800000#32 hr (.inl rfl) rfl) hc) (broadcast ⟨2, ![n, 1]⟩ (Scalar.ofBits .f32 0x3B124925#32))

theorem mulc_at {s : Shape} (w : FVec Ideal s .f32) (j : s.Idx) : mulf w (broadcast s (Scalar.ofBits .f32 0x3B124925#32)) j = w j * Ideal.ofBits .f32 991054117#32 := by
  pointwise

theorem max2_at_256 (v : FVec Ideal ⟨2, ![256, 7168]⟩ .f32) (hr) (r : Fin 256) (h1 h2) : multiReduction .maximumf [1] ⟨1, ![256]⟩ v 0xFF800000#32 hr h1 h2 (ix1 r) = Finset.univ.fold max (Ideal.ofBits .f32 0xFF800000#32) (fun x => v (ix2 r x)) := by
  pointwise

theorem col_at_256 (v : FVec Ideal ⟨1, ![256]⟩ .f32) (hc : (⟨1, ![256]⟩ : Shape).ShapeCasts ⟨2, ![256, 1]⟩) (r : Fin 256) : shapeCast ⟨2, ![256, 1]⟩ v hc (ix2 r 0) = v (ix1 r) := by
  pointwise

theorem amaxK_at_256 (v : FVec Ideal ⟨2, ![256, 7168]⟩ .f32) (hr) (hc) (r : Fin 256) : amaxK v hr hc (ix2 r 0) = amaxW (fun l => v (ix2 r l)) := by
  unfold amaxK
  rw [mulc_at, col_at_256]
  exact congrArg (fun s : EReal => s * Ideal.ofBits .f32 991054117#32) (max2_at_256 (absf v) hr r _ _)

theorem max2_at_288 (v : FVec Ideal ⟨2, ![288, 7168]⟩ .f32) (hr) (r : Fin 288) (h1 h2) : multiReduction .maximumf [1] ⟨1, ![288]⟩ v 0xFF800000#32 hr h1 h2 (ix1 r) = Finset.univ.fold max (Ideal.ofBits .f32 0xFF800000#32) (fun x => v (ix2 r x)) := by
  pointwise

theorem col_at_288 (v : FVec Ideal ⟨1, ![288]⟩ .f32) (hc : (⟨1, ![288]⟩ : Shape).ShapeCasts ⟨2, ![288, 1]⟩) (r : Fin 288) : shapeCast ⟨2, ![288, 1]⟩ v hc (ix2 r 0) = v (ix1 r) := by
  pointwise

theorem amaxK_at_288 (v : FVec Ideal ⟨2, ![288, 7168]⟩ .f32) (hr) (hc) (r : Fin 288) : amaxK v hr hc (ix2 r 0) = amaxW (fun l => v (ix2 r l)) := by
  unfold amaxK
  rw [mulc_at, col_at_288]
  exact congrArg (fun s : EReal => s * Ideal.ofBits .f32 991054117#32) (max2_at_288 (absf v) hr r _ _)

theorem codeV_wide_256 (v : FVec Ideal ⟨2, ![256, 7168]⟩ .f32) (i : FVec Ideal ⟨2, ![256, 1]⟩ .f32) (hb) (r : Fin 256) (l : Fin 7168) : codeV v i hb (ix2 r l) = codeC (i (ix2 r 0)) (v (ix2 r l)) := by
  unfold codeV codeC
  pointwise

theorem codeV_wide_288 (v : FVec Ideal ⟨2, ![288, 7168]⟩ .f32) (i : FVec Ideal ⟨2, ![288, 1]⟩ .f32) (hb) (r : Fin 288) (l : Fin 7168) : codeV v i hb (ix2 r l) = codeC (i (ix2 r 0)) (v (ix2 r l)) := by
  unfold codeV codeC
  pointwise

/-- The scale that the search finds is the reference's. -/
theorem scaleK_eq {s : Shape} (w : FVec Ideal s .f32) (j : s.Idx) (v : Fin 7168 → EReal) (h : w j = amaxW v) : scaleV (searchV w) j = scaleW v := by
  rw [scaleV_at, searchV_at, h]
  exact (scale_eq (amaxW_nonneg v)).1

/-- So is its inverse. -/
theorem invK_eq {s : Shape} (w : FVec Ideal s .f32) (j : s.Idx) (v : Fin 7168 → EReal) (h : w j = amaxW v) : invV (searchV w) j = Ideal.exp2 (0 - rExp (amaxW v)) := by
  rw [invV_at, searchV_at, h]
  exact (scale_eq (amaxW_nonneg v)).2

/-! ## The reference's array -/

theorem exp2_at {s : Shape} (w : FVec Ideal s .f32) (j : s.Idx) : exp2 w j = Ideal.exp2 (w j) := rfl

/-- The exponents of the reference, from the scaled maxima. -/
def expV {s : Shape} (w : FVec Ideal s .f32) : FVec Ideal s .f32 :=
  select (cmpf .olt w (broadcast s (Scalar.ofBits .f32 0x00800000#32))) (broadcast s (Scalar.ofBits .f32 0x00000000#32))
    (minimumf (addf (floor (divf (log w) (broadcast s (Scalar.log (Scalar.ofBits .f32 0x40000000#32))))) (broadcast s (Scalar.ofBits .f32 0x3F800000#32))) (broadcast s (Scalar.ofBits .f32 0x42FC0000#32)))

theorem expV_at {s : Shape} (w : FVec Ideal s .f32) (j : s.Idx) : expV w j = rExp (w j) := by
  unfold expV rExp
  pointwise

/-- The scaled row maxima of the reference. -/
def amaxA {n : ℕ} (v : FVec Ideal ⟨3, ![6, n, 7168]⟩ .f32) (hr : (⟨3, ![6, n, 7168]⟩ : Shape).Reduces [2] ⟨2, ![6, n]⟩) : FVec Ideal ⟨2, ![6, n]⟩ .f32 :=
  mulf (multiReduction .maximumf [2] ⟨2, ![6, n]⟩ (absf v) 0xFF800000#32 hr (.inl rfl) rfl) (broadcast ⟨2, ![6, n]⟩ (Scalar.ofBits .f32 0x3B124925#32))

theorem max3_at_256 (v : FVec Ideal ⟨3, ![6, 256, 7168]⟩ .f32) (hr) (b : Fin 6) (r : Fin 256) (h1 h2) : multiReduction .maximumf [2] ⟨2, ![6, 256]⟩ v 0xFF800000#32 hr h1 h2 (ix2 b r) = Finset.univ.fold max (Ideal.ofBits .f32 0xFF800000#32) (fun x => v (ix3 b r x)) := by
  pointwise

theorem max3_at_288 (v : FVec Ideal ⟨3, ![6, 288, 7168]⟩ .f32) (hr) (b : Fin 6) (r : Fin 288) (h1 h2) : multiReduction .maximumf [2] ⟨2, ![6, 288]⟩ v 0xFF800000#32 hr h1 h2 (ix2 b r) = Finset.univ.fold max (Ideal.ofBits .f32 0xFF800000#32) (fun x => v (ix3 b r x)) := by
  pointwise

theorem amaxA_at_256 (v : FVec Ideal ⟨3, ![6, 256, 7168]⟩ .f32) (hr) (b : Fin 6) (r : Fin 256) : amaxA v hr (ix2 b r) = amaxW (fun l => v (ix3 b r l)) := by
  unfold amaxA
  rw [mulc_at]
  exact congrArg (fun s : EReal => s * Ideal.ofBits .f32 991054117#32) (max3_at_256 (absf v) hr b r _ _)

theorem amaxA_at_288 (v : FVec Ideal ⟨3, ![6, 288, 7168]⟩ .f32) (hr) (b : Fin 6) (r : Fin 288) : amaxA v hr (ix2 b r) = amaxW (fun l => v (ix3 b r l)) := by
  unfold amaxA
  rw [mulc_at]
  exact congrArg (fun s : EReal => s * Ideal.ofBits .f32 991054117#32) (max3_at_288 (absf v) hr b r _ _)

/-- The codes of the reference, from the values and the exponents. -/
def codeA {n : ℕ} (v : FVec Ideal ⟨3, ![6, n, 7168]⟩ .f32) (e : FVec Ideal ⟨2, ![6, n]⟩ .f32) (hc : (⟨2, ![6, n]⟩ : Shape).ShapeCasts ⟨3, ![6, n, 1]⟩) (hb : (⟨3, ![6, n, 1]⟩ : Shape).Broadcasts ⟨3, ![6, n, 7168]⟩) : FVec Ideal ⟨3, ![6, n, 7168]⟩ .fp8e4m3 :=
  truncf .fp8e4m3 (minimumf (broadcast ⟨3, ![6, n, 7168]⟩ (Scalar.ofBits .f32 0x43E00000#32)) (maximumf (broadcast ⟨3, ![6, n, 7168]⟩ (Scalar.ofBits .f32 0xC3E00000#32)) (mulf v (broadcastTo ⟨3, ![6, n, 7168]⟩ (shapeCast ⟨3, ![6, n, 1]⟩ (exp2 (subf (broadcast ⟨2, ![6, n]⟩ (Scalar.ofBits .f32 0x00000000#32)) e)) hc) hb)))) bitsLt_fp8e4m3_f32

theorem codeA_at_256 (v : FVec Ideal ⟨3, ![6, 256, 7168]⟩ .f32) (e) (hc) (hb) (b : Fin 6) (r : Fin 256) (l : Fin 7168) : codeA v e hc hb (ix3 b r l) = codeC (Ideal.exp2 (0 - e (ix2 b r))) (v (ix3 b r l)) := by
  unfold codeA codeC
  pointwise
  rfl

theorem codeA_at_288 (v : FVec Ideal ⟨3, ![6, 288, 7168]⟩ .f32) (e) (hc) (hb) (b : Fin 6) (r : Fin 288) (l : Fin 7168) : codeA v e hc hb (ix3 b r l) = codeC (Ideal.exp2 (0 - e (ix2 b r))) (v (ix3 b r l)) := by
  unfold codeA codeC
  pointwise
  rfl

end Cert.Quant
end
-- ==== Proof.XValue.lean ====
/- The kernel that quantises the sequence: each step's codes and scales, and its result arrays after the run, against the
   reference's. -/
module

public import proofs.«01_k».proof.Proof.QWide
public import proofs.«01_k».proof.Proof.Gen.KernelXIdeal.Frame
public import proofs.«01_k».proof.Proof.Gen.ReferenceXIdeal.Value
public import Idealize.ShloMosaic.Lib.Pipeline.ValueKit
public import Idealize.ShloMosaic.Lib.Pipeline.Covers

@[expose] public section

noncomputable section

/-! ## The reference at an index -/

namespace Cert.ReferenceXIdeal.Step

open Idealize.ShloMosaic
open Cert.ReferenceXIdeal Cert.ReferenceXIdeal.Gen Cert.ReferenceXIdeal.Value Cert.Quant

theorem exp_eq (v : Vec Ideal S6x256x7168 .bf16) : k0_pay2 (F := Ideal) v = expV (amaxA (n := 256) (k0_pay1 v) reduces_S6x256x7168_S6x256) := rfl
theorem code_eq (v : Vec Ideal S6x256x7168 .bf16) : k0_pay3 (F := Ideal) v = codeA (n := 256) (k0_pay1 v) (k0_pay2 v) shapeCasts_S6x256_S6x256x1 broadcasts_S6x256x1_S6x256x7168 := rfl
theorem val_at (v : Vec Ideal S6x256x7168 .bf16) (j : S6x256x7168.Idx) : k0_pay1 (F := Ideal) v j = v j := rfl

theorem exp_at (v : Vec Ideal S6x256x7168 .bf16) (b : Fin 6) (r : Fin 256) : k0_pay2 (F := Ideal) v (ix2 b r) = rExp (amaxW (fun l => v (ix3 b r l))) := by
  rw [exp_eq, expV_at, amaxA_at_256]
  rfl

theorem G1_at (v : Vec Ideal S6x256x7168 .bf16) (b : Fin 6) (r : Fin 256) (l : Fin 7168) : G1 (F := Ideal) v (ix3 b r l) = codeW (fun l => v (ix3 b r l)) l := by
  show k0_pay3 (F := Ideal) v (ix3 b r l) = _
  rw [code_eq, codeA_at_256, exp_at]
  rfl

theorem col_at (w : FVec Ideal S6x256 .f32) (b : Fin 6) (r : Fin 256) (h) : shapeCast S6x256x1 w h (ix3 b r 0) = w (ix2 b r) := by
  pointwise

theorem G2_at (v : Vec Ideal S6x256x7168 .bf16) (b : Fin 6) (r : Fin 256) : G2 (F := Ideal) v (ix3 b r 0) = scaleW (fun l => v (ix3 b r l)) := by
  have e : G2 (F := Ideal) v = shapeCast S6x256x1 (exp2 (k0_pay2 (F := Ideal) v)) shapeCasts_S6x256_S6x256x1 := rfl
  rw [e, col_at, exp2_at, exp_at]
  rfl

end Cert.ReferenceXIdeal.Step

/-! ## The kernel's step -/

namespace Cert.KernelXIdeal.Step

open Idealize.ShloMosaic Idealize.ShloMosaic.TcCoe Idealize.ShloMosaic.Tactic Idealize.SL.Sem
open Cert.KernelXIdeal Cert.KernelXIdeal.Gen Cert.Quant
open Cert.KernelIdeal.Step (searchV scaleV invV codeV)
open Cert.ReferenceXIdeal.Step (G1_at G2_at)

/-- The values of a step's block. -/
def rows (x0 : Vec Ideal S1x256x7168 .bf16) : FVec Ideal S256x7168 .f32 := k0_pay3 (F := Ideal) (View.ld x0 r0_0)
/-- The scaled row maxima of a step's block. -/
def amx (x0 : Vec Ideal S1x256x7168 .bf16) : FVec Ideal S256x1 .f32 := amaxK (n := 256) (rows x0) reduces_S256x7168_S256 shapeCasts_S256_S256x1

theorem scale_eqv (x0 : Vec Ideal S1x256x7168 .bf16) : k0_pay9 (F := Ideal) (k0_pay11 x0) (k0_pay12 x0) (k0_pay13 x0) (k0_pay14 x0) = scaleV (searchV (amx x0)) := rfl
theorem code_eqv (x0 : Vec Ideal S1x256x7168 .bf16) : k0_pay10 (F := Ideal) (k0_pay3 (View.ld x0 r0_0)) (k0_pay11 x0) (k0_pay12 x0) (k0_pay13 x0) (k0_pay14 x0) = codeV (rows x0) (invV (searchV (amx x0))) broadcasts_S256x1_S256x7168 := rfl

theorem rows_at (x0 : Vec Ideal S1x256x7168 .bf16) (r : Fin 256) (l : Fin 7168) : rows x0 (ix2 r l) = x0 (ix3 0 r l) := by
  unfold rows
  pointwise [k0_pay3]

theorem amx_at (x0 : Vec Ideal S1x256x7168 .bf16) (r : Fin 256) : amx x0 (ix2 r 0) = amaxW (fun l => x0 (ix3 0 r l)) := by
  unfold amx
  rw [amaxK_at_256]
  simp only [rows_at]

theorem pay1_at (w : FVec Ideal S256x7168 .fp8e4m3) (r : Fin 256) (l : Fin 7168) : k0_pay1 (F := Ideal) w (ix3 0 r l) = w (ix2 r l) := by
  pointwise [k0_pay1]
theorem pay2_at (w : FVec Ideal S256x1 .f32) (r : Fin 256) : k0_pay2 (F := Ideal) w (ix3 0 r 0) = w (ix2 r 0) := by
  pointwise [k0_pay2]

theorem out1_at (x0 : Vec Ideal S1x256x7168 .bf16) (r : Fin 256) (l : Fin 7168) : out0_1 (F := Ideal) x0 (ix3 0 r l) = codeW (fun l => x0 (ix3 0 r l)) l := by
  unfold out0_1
  rw [View.canon_unit_zero (by decide), pay1_at, code_eqv, codeV_wide_256, invK_eq _ _ _ (amx_at x0 r), rows_at]
  rfl

theorem out2_at (x0 : Vec Ideal S1x256x7168 .bf16) (r : Fin 256) : out0_2 (F := Ideal) x0 (ix3 0 r 0) = scaleW (fun l => x0 (ix3 0 r l)) := by
  unfold out0_2
  rw [View.canon_unit_zero (by decide), pay2_at, scale_eqv]
  exact scaleK_eq _ _ _ (amx_at x0 r)

/-! ## The result arrays -/

variable (m : (ℓ : Loc nD τ sig) → Buf (Elt Ideal) ℓ) (c : Dev nD)

abbrev A0 : Vec Ideal S6x256x7168 .bf16 := m ((c : Thread nD τ).loc main_arg0)
abbrev R1 := Cert.ReferenceXIdeal.Value.G1 (F := Ideal) (A0 m c)
abbrev R2 := Cert.ReferenceXIdeal.Value.G2 (F := Ideal) (A0 m c)

theorem idx_all : ∀ t : Fin cfg0.N, win0_0.index t = ![t.val, 0, 0] ∧ win0_1.index t = ![t.val, 0, 0] ∧ win0_2.index t = ![t.val, 0, 0] :=
  (by decide +kernel : ∀ t : Fin grid0.N, _)

/-- The batch element of a point. -/
def bOf (t : Fin cfg0.N) : Fin 6 := ⟨t.val, lt_of_lt_of_eq t.isLt (by decide)⟩

theorem x_at (t : Fin cfg0.N) (r : Fin 256) (l : Fin 7168) : iblk m c 0 t (ix3 0 r l : S1x256x7168.Idx) = A0 m c (ix3 (bOf t) r l) := by
  have i : win0_0.index t = ![(bOf t).val, 0, 0] := (idx_all t).1
  show _ = m ((c : Thread nD τ).loc main_arg0) (ix3 (bOf t) r l)
  blk_ext [iblk, V_main_arg0, i]

theorem ix_c (y : S1x256x7168.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
theorem ix_s (y : S1x256x1.Idx) : y = ix3 0 (y 1) 0 := by
  funext a
  match a with
  | ⟨0, _⟩ => exact Fin.ext (by have : (y 0).val < 1 := (y 0).isLt; show (y 0).val = 0; omega)
  | ⟨1, _⟩ => rfl
  | ⟨2, _⟩ => exact Fin.ext (by have : (y 2).val < 1 := (y 2).isLt; show (y 2).val = 0; omega)

theorem pt1 (t : Fin cfg0.N) (r : Fin 256) (l : Fin 7168) :
    out0_1 (F := Ideal) (iblk m c 0 t) (ix3 0 r l) = R1 m c ((win0_1.blk t).view.emb (ix3 0 r l : S1x256x7168.Idx)) := by
  have i : win0_1.index t = ![(bOf t).val, 0, 0] := (idx_all t).2.1
  rw [out1_at]
  refine (congrArg (fun v => codeW v l) (funext fun l => x_at m c t r l)).trans ?_
  refine (G1_at (A0 m c) (bOf t) r l).symm.trans ?_
  refine congrArg (R1 m c) ?_
  blk_ext [i]

theorem final1 : (dats m 0 c).arrAt 1 cfg0.N = R1 m c := by
  refine (dats m 0 c).arrAt_eq_of_covers 1 _ (by decide +kernel) fun t hf y => ?_
  blk_simp
  rw [after0_1]
  obtain ⟨r, l, rfl⟩ : ∃ (r : Fin 256) (l : Fin 7168), y = (ix3 0 r l : S1x256x7168.Idx) := ⟨_, _, ix_c y⟩
  exact pt1 m c t r l

theorem pt2 (t : Fin cfg0.N) (r : Fin 256) :
    out0_2 (F := Ideal) (iblk m c 0 t) (ix3 0 r 0) = R2 m c ((win0_2.blk t).view.emb (ix3 0 r 0 : S1x256x1.Idx)) := by
  have i : win0_2.index t = ![(bOf t).val, 0, 0] := (idx_all t).2.2
  rw [out2_at]
  refine (congrArg scaleW (funext fun l => x_at m c t r l)).trans ?_
  refine (G2_at (A0 m c) (bOf t) r).symm.trans ?_
  refine congrArg (R2 m c) ?_
  blk_ext [i]

theorem final2 : (dats m 0 c).arrAt 2 cfg0.N = R2 m c := by
  refine (dats m 0 c).arrAt_eq_of_covers 2 _ (by decide +kernel) fun t hf y => ?_
  blk_simp
  rw [after0_2]
  obtain ⟨r, rfl⟩ : ∃ r : Fin 256, y = (ix3 0 r 0 : S1x256x1.Idx) := ⟨_, ix_s y⟩
  exact pt2 m c t r

variable (ρ : Dev nD → PrngReg)

/-- Every execution ends with the codes and the scales at the reference's, and the argument as it was. -/
theorem run : θ_run defs (onTc (τ := τ) (main (F := Ideal))) ⟨m, fun _ => 0, ρ⟩ fun r => ∀ c : Dev nD,
      r.2.mem ((c : Thread nD τ).loc main_v0_0) = R1 m c
      ∧ r.2.mem ((c : Thread nD τ).loc main_v0_1) = R2 m c
      ∧ r.2.mem ((c : Thread nD τ).loc main_arg0) = m ((c : Thread nD τ).loc main_arg0) :=
  (θ_run defs _ _).mono (fun r h c => ⟨((h.1 c).1 1).trans (final1 m c), ((h.1 c).1 2).trans (final2 m c), h.2 c⟩)
    (θ_run_and (run_main m ρ) (unchanged m ρ))

end Cert.KernelXIdeal.Step

end
-- ==== Proof.NewValue.lean ====
/- The kernel that quantises the new rows: each step's codes, its rows for the context and its scales, and its result
   arrays after the run, against the reference's. -/
module

public import proofs.«01_k».proof.Proof.QWide
public import proofs.«01_k».proof.Proof.Gen.KernelNewIdeal.Frame
public import proofs.«01_k».proof.Proof.Gen.ReferenceNewIdeal.Value
public import Idealize.ShloMosaic.Lib.Pipeline.ValueKit
public import Idealize.ShloMosaic.Lib.Pipeline.Covers

@[expose] public section

noncomputable section

namespace Cert.Quant

open Idealize.ShloMosaic

/-- A row of the context's new part: the codes of the new rows, then one row of the memory, then zeros. -/
def newpC (k : EReal) (u : EReal) (r : ℕ) : EReal := if r < 277 then k else if r = 277 then u else Ideal.ofBits .f32 0x00000000#32

end Cert.Quant

/-! ## The reference at an index -/

namespace Cert.ReferenceNewIdeal.Step

open Idealize.ShloMosaic
open Cert.ReferenceNewIdeal Cert.ReferenceNewIdeal.Gen Cert.ReferenceNewIdeal.Value Cert.Quant

theorem exp_eq (v : Vec Ideal S6x288x7168 .f32) : k0_pay2 (F := Ideal) v = expV (amaxA (n := 288) v reduces_S6x288x7168_S6x288) := rfl
theorem code_eq (v : Vec Ideal S6x288x7168 .f32) : k0_pay4 (F := Ideal) v = codeA (n := 288) v (k0_pay2 v) shapeCasts_S6x288_S6x288x1 broadcasts_S6x288x1_S6x288x7168 := rfl

theorem exp_at (v : Vec Ideal S6x288x7168 .f32) (b : Fin 6) (r : Fin 288) : k0_pay2 (F := Ideal) v (ix2 b r) = rExp (amaxW (fun l => v (ix3 b r l))) := by
  rw [exp_eq, expV_at, amaxA_at_288]

theorem code_at (v : Vec Ideal S6x288x7168 .f32) (b : Fin 6) (r : Fin 288) (l : Fin 7168) : k0_pay4 (F := Ideal) v (ix3 b r l) = codeW (fun l => v (ix3 b r l)) l := by
  rw [code_eq, codeA_at_288, exp_at]
  rfl

theorem cut_at (w : FVec Ideal S6x288x7168 .fp8e4m3) (b : Fin 6) (r : Fin 277) (l : Fin 7168) :
    extractStridedSlice S6x277x7168 ![0, 0, 0] w slices_S6x288x7168_o0_0_0_S6x277x7168 (ix3 b r l) = w (ix3 b ⟨r.val, by omega⟩ l) := by
  pointwise

theorem cat_at (x : FVec Ideal S6x277x7168 .fp8e4m3) (y : FVec Ideal S6x1x7168 .fp8e4m3) (z : FVec Ideal S6x10x7168 .fp8e4m3) (b : Fin 6) (r : Fin 288) (l : Fin 7168) :
    concatenate S6x288x7168 1 [⟨S6x277x7168, x⟩, ⟨S6x1x7168, y⟩, ⟨S6x10x7168, z⟩] concatenates_S6x277x7168_S6x1x7168_S6x10x7168_S6x288x7168_d1 (ix3 b r l)
      = if h : r.val < 277 then x (ix3 b ⟨r.val, h⟩ l) else if h : r.val - 277 < 1 then y (ix3 b ⟨r.val - 277, h⟩ l) else z (ix3 b ⟨r.val - 277 - 1, by omega⟩ l) := by
  pointwise

theorem ld_at (a : Vec Ideal S6x1664x7168 .fp8e4m3) (b : Fin 6) (l : Fin 7168) : View.ld a r0_1 (ix3 b 0 l) = a (ix3 b 831 l) := by
  pointwise

theorem G2_at (v : Vec Ideal S6x288x7168 .f32) (a : Vec Ideal S6x1664x7168 .fp8e4m3) (b : Fin 6) (r : Fin 288) (l : Fin 7168) :
    G2 (F := Ideal) v a (ix3 b r l) = newpC (codeW (fun l => v (ix3 b r l)) l) (a (ix3 b 831 l)) r.val := by
  refine (cat_at _ _ _ b r l).trans ?_
  unfold newpC
  by_cases h : r.val < 277
  · rw [dif_pos h, if_pos h, cut_at]
    exact code_at v b r l
  · rw [dif_neg h, if_neg h]
    by_cases h' : r.val = 277
    · rw [dif_pos (by omega), if_pos h', ← ld_at a b l]
      exact congrArg (fun i => View.ld a r0_1 (ix3 b i l)) (Fin.ext (show r.val - 277 = 0 by omega))
    · rw [dif_neg (by omega), if_neg h']
      rfl

theorem G3_at (v : Vec Ideal S6x288x7168 .f32) (a : Vec Ideal S6x1664x7168 .fp8e4m3) (b : Fin 6) (r : Fin 277) (l : Fin 7168) :
    G3 (F := Ideal) v a (ix3 b r l) = codeW (fun l => v (ix3 b ⟨r.val, by omega⟩ l)) l := by
  refine (cut_at (k0_pay4 (F := Ideal) v) b r l).trans ?_
  exact code_at v b ⟨r.val, by omega⟩ l

theorem col_at (w : FVec Ideal S6x288 .f32) (b : Fin 6) (r : Fin 288) (h) : shapeCast S6x288x1 w h (ix3 b r 0) = w (ix2 b r) := by
  pointwise

theorem G4_at (v : Vec Ideal S6x288x7168 .f32) (a : Vec Ideal S6x1664x7168 .fp8e4m3) (b : Fin 6) (r : Fin 288) : G4 (F := Ideal) v a (ix3 b r 0) = scaleW (fun l => v (ix3 b r l)) := by
  have e : G4 (F := Ideal) v a = shapeCast S6x288x1 (exp2 (k0_pay2 (F := Ideal) v)) shapeCasts_S6x288_S6x288x1 := rfl
  rw [e, col_at, exp2_at, exp_at]
  rfl

end Cert.ReferenceNewIdeal.Step

/-! ## The kernel's step -/

namespace Cert.KernelNewIdeal.Step

open Idealize.ShloMosaic Idealize.ShloMosaic.TcCoe Idealize.ShloMosaic.Tactic Idealize.SL.Sem
open Cert.KernelNewIdeal Cert.KernelNewIdeal.Gen Cert.Quant
open Cert.KernelIdeal.Step (searchV scaleV invV codeV)
open Cert.ReferenceNewIdeal.Step (G2_at G3_at G4_at)

/-- The values of a step's block. -/
def rows (x0 : Vec Ideal S1x288x7168 .f32) : FVec Ideal S288x7168 .f32 := k0_pay4 (F := Ideal) (View.ld x0 r0_0)
/-- The scaled row maxima of a step's block. -/
def amx (x0 : Vec Ideal S1x288x7168 .f32) : FVec Ideal S288x1 .f32 := amaxK (n := 288) (rows x0) reduces_S288x7168_S288 shapeCasts_S288_S288x1

theorem scale_eqv (x0 : Vec Ideal S1x288x7168 .f32) (x1 : Vec Ideal S1x32x7168 .fp8e4m3) : k0_pay8 (F := Ideal) (k0_pay10 x0 x1) (k0_pay11 x0 x1) = scaleV (searchV (amx x0)) := rfl
theorem code_eqv (x0 : Vec Ideal S1x288x7168 .f32) (x1 : Vec Ideal S1x32x7168 .fp8e4m3) (j : S288x7168.Idx) : k0_pay12 (F := Ideal) x0 x1 j = codeV (rows x0) (invV (searchV (amx x0))) broadcasts_S288x1_S288x7168 j := rfl

theorem rows_at (x0 : Vec Ideal S1x288x7168 .f32) (r : Fin 288) (l : Fin 7168) : rows x0 (ix2 r l) = x0 (ix3 0 r l) := by
  unfold rows
  pointwise [k0_pay4]

theorem amx_at (x0 : Vec Ideal S1x288x7168 .f32) (r : Fin 288) : amx x0 (ix2 r 0) = amaxW (fun l => x0 (ix3 0 r l)) := by
  unfold amx
  rw [amaxK_at_288]
  simp only [rows_at]

theorem code_at (x0 : Vec Ideal S1x288x7168 .f32) (x1 : Vec Ideal S1x32x7168 .fp8e4m3) (r : Fin 288) (l : Fin 7168) : k0_pay12 (F := Ideal) x0 x1 (ix2 r l) = codeW (fun l => x0 (ix3 0 r l)) l := by
  rw [code_eqv, codeV_wide_288, invK_eq _ _ _ (amx_at x0 r), rows_at]
  rfl

theorem lt_277 : ∀ r : Fin 288, IntOp.cmpi .slt (BitVec.ofNat 32 r.val) 277#32 = if r.val < 277 then 1#1 else 0#1 := by decide +kernel
theorem eq_277 : ∀ r : Fin 288, IntOp.cmpi .eq (BitVec.ofNat 32 r.val) 277#32 = if r.val = 277 then 1#1 else 0#1 := by decide +kernel

theorem pay1_sel (w : FVec Ideal S288x7168 .f32) (u : Vec Ideal S1x1x7168 .fp8e4m3) (r : Fin 288) (l : Fin 7168) :
    k0_pay1 (F := Ideal) w (iota .tc S288x1 32 [0] iota_S288x1_d0_w32) u (ix3 0 r l)
      = Scalar.select (IntOp.cmpi .slt (BitVec.ofNat 32 r.val) 277#32) (w (ix2 r l)) (Scalar.select (IntOp.cmpi .eq (BitVec.ofNat 32 r.val) 277#32) (u (ix3 0 0 l)) (Ideal.ofBits .f32 0x00000000#32)) := by
  pointwise [k0_pay1]

theorem pay1_at (w : FVec Ideal S288x7168 .f32) (u : Vec Ideal S1x1x7168 .fp8e4m3) (r : Fin 288) (l : Fin 7168) :
    k0_pay1 (F := Ideal) w (iota .tc S288x1 32 [0] iota_S288x1_d0_w32) u (ix3 0 r l) = newpC (w (ix2 r l)) (u (ix3 0 0 l)) r.val := by
  rw [pay1_sel, lt_277, eq_277]
  unfold newpC
  by_cases h : r.val < 277
  · rw [if_pos h, if_pos h]
    rfl
  · rw [if_neg h, if_neg h]
    by_cases h' : r.val = 277
    · rw [if_pos h', if_pos h']
      rfl
    · rw [if_neg h', if_neg h']
      rfl

theorem pay2_at (w : FVec Ideal S288x7168 .f32) (r : Fin 277) (l : Fin 7168) : k0_pay2 (F := Ideal) w (ix3 0 r l) = w (ix2 ⟨r.val, by omega⟩ l) := by
  pointwise [k0_pay2]
theorem pay3_at (w : FVec Ideal S288x1 .f32) (r : Fin 288) : k0_pay3 (F := Ideal) w (ix3 0 r 0) = w (ix2 r 0) := by
  pointwise [k0_pay3]

theorem ld_at (a : Vec Ideal S1x32x7168 .fp8e4m3) (l : Fin 7168) : View.ld a r0_1 (ix3 0 0 l) = a (ix3 0 31 l) := by
  pointwise

theorem out2_at (x0 : Vec Ideal S1x288x7168 .f32) (x1 : Vec Ideal S1x32x7168 .fp8e4m3) (r : Fin 288) (l : Fin 7168) :
    out0_2 (F := Ideal) x0 x1 (ix3 0 r l) = newpC (codeW (fun l => x0 (ix3 0 r l)) l) (x1 (ix3 0 31 l)) r.val := by
  unfold out0_2
  rw [View.canon_unit_zero (by decide), pay1_at, code_at, ld_at]

theorem out3_at (x0 : Vec Ideal S1x288x7168 .f32) (x1 : Vec Ideal S1x32x7168 .fp8e4m3) (r : Fin 277) (l : Fin 7168) :
    out0_3 (F := Ideal) x0 x1 (ix3 0 r l) = codeW (fun l => x0 (ix3 0 ⟨r.val, by omega⟩ l)) l := by
  unfold out0_3
  rw [View.canon_unit_zero (by decide), pay2_at, code_at]

theorem out4_at (x0 : Vec Ideal S1x288x7168 .f32) (x1 : Vec Ideal S1x32x7168 .fp8e4m3) (r : Fin 288) : out0_4 (F := Ideal) x0 x1 (ix3 0 r 0) = scaleW (fun l => x0 (ix3 0 r l)) := by
  unfold out0_4
  rw [View.canon_unit_zero (by decide), pay3_at, scale_eqv]
  exact scaleK_eq _ _ _ (amx_at x0 r)

/-! ## The result arrays -/

variable (m : (ℓ : Loc nD τ sig) → Buf (Elt Ideal) ℓ) (c : Dev nD)

abbrev A0 : Vec Ideal S6x288x7168 .f32 := m ((c : Thread nD τ).loc main_arg0)
abbrev A1 : Vec Ideal S6x1664x7168 .fp8e4m3 := m ((c : Thread nD τ).loc main_arg1)
abbrev R2 := Cert.ReferenceNewIdeal.Value.G2 (F := Ideal) (A0 m c) (A1 m c)
abbrev R3 := Cert.ReferenceNewIdeal.Value.G3 (F := Ideal) (A0 m c) (A1 m c)
abbrev R4 := Cert.ReferenceNewIdeal.Value.G4 (F := Ideal) (A0 m c) (A1 m c)

theorem idx_all : ∀ t : Fin cfg0.N, win0_0.index t = ![t.val, 0, 0] ∧ win0_1.index t = ![t.val, 25, 0] ∧ win0_2.index t = ![t.val, 0, 0] ∧
    win0_3.index t = ![t.val, 0, 0] ∧ win0_4.index t = ![t.val, 0, 0] :=
  (by decide +kernel : ∀ t : Fin grid0.N, _)

/-- The batch element of a point. -/
def bOf (t : Fin cfg0.N) : Fin 6 := ⟨t.val, lt_of_lt_of_eq t.isLt (by decide)⟩

theorem c_at (t : Fin cfg0.N) (r : Fin 288) (l : Fin 7168) : iblk m c 0 t (ix3 0 r l : S1x288x7168.Idx) = A0 m c (ix3 (bOf t) r l) := by
  have i : win0_0.index t = ![(bOf t).val, 0, 0] := (idx_all t).1
  show _ = m ((c : Thread nD τ).loc main_arg0) (ix3 (bOf t) r l)
  blk_ext [iblk, V_main_arg0, i]

theorem m_at (t : Fin cfg0.N) (l : Fin 7168) : iblk m c 1 t (ix3 0 31 l : S1x32x7168.Idx) = A1 m c (ix3 (bOf t) 831 l) := by
  have i : win0_1.index t = ![(bOf t).val, 25, 0] := (idx_all t).2.1
  show _ = m ((c : Thread nD τ).loc main_arg1) (ix3 (bOf t) 831 l)
  blk_ext [iblk, V_main_arg1, i]

theorem ix_p (y : S1x288x7168.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
theorem ix_n (y : S1x277x7168.Idx) : y = ix3 0 (y 1) (y 2) := by
  funext a
  match a with
  | ⟨0, _⟩ => exact Fin.ext (by have : (y 0).val < 1 := (y 0).isLt; show (y 0).val = 0; omega)
  | ⟨1, _⟩ => rfl
  | ⟨2, _⟩ => rfl
theorem ix_s (y : S1x288x1.Idx) : y = ix3 0 (y 1) 0 := by
  funext a
  match a with
  | ⟨0, _⟩ => exact Fin.ext (by have : (y 0).val < 1 := (y 0).isLt; show (y 0).val = 0; omega)
  | ⟨1, _⟩ => rfl
  | ⟨2, _⟩ => exact Fin.ext (by have : (y 2).val < 1 := (y 2).isLt; show (y 2).val = 0; omega)

theorem pt2 (t : Fin cfg0.N) (r : Fin 288) (l : Fin 7168) :
    out0_2 (F := Ideal) (iblk m c 0 t) (iblk m c 1 t) (ix3 0 r l) = R2 m c ((win0_2.blk t).view.emb (ix3 0 r l : S1x288x7168.Idx)) := by
  have i : win0_2.index t = ![(bOf t).val, 0, 0] := (idx_all t).2.2.1
  rw [out2_at]
  refine (congrArg₂ (fun v u => newpC (codeW v l) u r.val) (funext fun l => c_at m c t r l) (m_at m c t l)).trans ?_
  refine (G2_at (A0 m c) (A1 m c) (bOf t) r l).symm.trans ?_
  refine congrArg (R2 m c) ?_
  blk_ext [i]

theorem final2 : (dats m 0 c).arrAt 2 cfg0.N = R2 m c := by
  refine (dats m 0 c).arrAt_eq_of_covers 2 _ (by decide +kernel) fun t hf y => ?_
  blk_simp
  rw [after0_2]
  obtain ⟨r, l, rfl⟩ : ∃ (r : Fin 288) (l : Fin 7168), y = (ix3 0 r l : S1x288x7168.Idx) := ⟨_, _, ix_p y⟩
  exact pt2 m c t r l

theorem pt3 (t : Fin cfg0.N) (r : Fin 277) (l : Fin 7168) :
    out0_3 (F := Ideal) (iblk m c 0 t) (iblk m c 1 t) (ix3 0 r l) = R3 m c ((win0_3.blk t).view.emb (ix3 0 r l : S1x277x7168.Idx)) := by
  have i : win0_3.index t = ![(bOf t).val, 0, 0] := (idx_all t).2.2.2.1
  rw [out3_at]
  refine (congrArg (fun v => codeW v l) (funext fun l => c_at m c t ⟨r.val, by omega⟩ l)).trans ?_
  refine (G3_at (A0 m c) (A1 m c) (bOf t) r l).symm.trans ?_
  refine congrArg (R3 m c) ?_
  blk_ext [i]

theorem final3 : (dats m 0 c).arrAt 3 cfg0.N = R3 m c := by
  refine (dats m 0 c).arrAt_eq_of_covers 3 _ (by decide +kernel) fun t hf y => ?_
  blk_simp
  rw [after0_3]
  obtain ⟨r, l, rfl⟩ : ∃ (r : Fin 277) (l : Fin 7168), y = (ix3 0 r l : S1x277x7168.Idx) := ⟨_, _, ix_n y⟩
  exact pt3 m c t r l

theorem pt4 (t : Fin cfg0.N) (r : Fin 288) :
    out0_4 (F := Ideal) (iblk m c 0 t) (iblk m c 1 t) (ix3 0 r 0) = R4 m c ((win0_4.blk t).view.emb (ix3 0 r 0 : S1x288x1.Idx)) := by
  have i : win0_4.index t = ![(bOf t).val, 0, 0] := (idx_all t).2.2.2.2
  rw [out4_at]
  refine (congrArg scaleW (funext fun l => c_at m c t r l)).trans ?_
  refine (G4_at (A0 m c) (A1 m c) (bOf t) r).symm.trans ?_
  refine congrArg (R4 m c) ?_
  blk_ext [i]

theorem final4 : (dats m 0 c).arrAt 4 cfg0.N = R4 m c := by
  refine (dats m 0 c).arrAt_eq_of_covers 4 _ (by decide +kernel) fun t hf y => ?_
  blk_simp
  rw [after0_4]
  obtain ⟨r, rfl⟩ : ∃ r : Fin 288, y = (ix3 0 r 0 : S1x288x1.Idx) := ⟨_, ix_s y⟩
  exact pt4 m c t r

variable (ρ : Dev nD → PrngReg)

/-- Every execution ends with the context's new rows, the codes and the scales at the reference's, and the arguments as
    they were. -/
theorem run : θ_run defs (onTc (τ := τ) (main (F := Ideal))) ⟨m, fun _ => 0, ρ⟩ fun r => ∀ c : Dev nD,
      r.2.mem ((c : Thread nD τ).loc main_v0_0) = R2 m c
      ∧ r.2.mem ((c : Thread nD τ).loc main_v0_1) = R3 m c
      ∧ r.2.mem ((c : Thread nD τ).loc main_v0_2) = R4 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final2 m c), ((h.1 c).1 3).trans (final3 m c), ((h.1 c).1 4).trans (final4 m c), h.2 c⟩)
    (θ_run_and (run_main m ρ) (unchanged m ρ))

end Cert.KernelNewIdeal.Step

end
-- ==== Proof.QValue.lean ====
/- The kernel of the query projection: each step's block of the product, and its result array after the run, against the
   reference's. -/
module

public import proofs.«01_k».proof.Proof.Gen.KernelQIdeal.Value
public import proofs.«01_k».proof.Proof.Gen.ReferenceQIdeal.Value
public import Idealize.ShloMosaic.PureOps.Ideal
public import Idealize.ShloMosaic.Lib.Pointwise
public import Idealize.ShloMosaic.Lib.Pipeline.ValueKit
public import Idealize.ShloMosaic.Lib.Pipeline.Covers

@[expose] public section

noncomputable section

/-! ## The reference at an index -/

namespace Cert.ReferenceQIdeal.Step

open Idealize.ShloMosaic
open Cert.ReferenceQIdeal Cert.ReferenceQIdeal.Gen Cert.ReferenceQIdeal.Value

theorem x_at (v : Vec Ideal S6x256x7168 .fp8e4m3) (b : Fin 6) (q : Fin 256) (x : Fin 7168) (hr) : shapeCast S1536x7168 v shapeCasts_S6x256x7168_S1536x7168 (ix2 ⟨b.val * 256 + q.val, hr⟩ x) = v (ix3 b q x) := by
  pointwise

theorem w_at (v : Vec Ideal S7168x56x128 .fp8e4m3) (x : Fin 7168) (h : Fin 56) (l : Fin 128) (hc) : shapeCast S7168x7168 v shapeCasts_S7168x56x128_S7168x7168 (ix2 x ⟨h.val * 128 + l.val, hc⟩) = v (ix3 x h l) := by
  pointwise

theorem dot_at (v : FVec Ideal S1536x7168 .fp8e4m3) (w : FVec Ideal S7168x7168 .fp8e4m3) (b : Fin 6) (q : Fin 256) (h : Fin 56) (l : Fin 128) :
    shapeCast S6x256x56x128 (matmul dot_S1536x7168_S7168x7168_S1536x7168_1_0_0_1_n_n none v w (constant S1536x7168 .f32 0x00000000#32)) shapeCasts_S1536x7168_S6x256x56x128 (ix4 b q h l) = ∑ x : Fin 7168, v (ix2 ⟨b.val * 256 + q.val, by omega⟩ x) * w (ix2 x ⟨h.val * 128 + l.val, by omega⟩) := by
  pointwise

theorem scl_at (v5 : FVec Ideal S6x256x56x128 .f32) (v6 : Vec Ideal S6x256 .f32) (v10 : Vec Ideal S56x128 .f32) (b : Fin 6) (q : Fin 256) (h : Fin 56) (l : Fin 128) (hr hc) :
    shapeCast S1536x7168 (truncf .bf16 (mulf (mulf v5 (broadcastTo S6x256x56x128 (shapeCast S6x256x1x1 v6 shapeCasts_S6x256_S6x256x1x1) broadcasts_S6x256x1x1_S6x256x56x128)) (broadcastTo S6x256x56x128 (shapeCast S1x1x56x128 v10 shapeCasts_S56x128_S1x1x56x128) broadcasts_S1x1x56x128_S6x256x56x128)) bitsLt_bf16_f32) shapeCasts_S6x256x56x128_S1536x7168
      (ix2 ⟨b.val * 256 + q.val, hr⟩ ⟨h.val * 128 + l.val, hc⟩) = v5 (ix4 b q h l) * v6 (ix2 b q) * v10 (ix2 h l) := by
  pointwise

/-- An entry of the projection: the inner product of the codes, times the two scales. -/
def qAt (a0 : Vec Ideal S6x256x7168 .fp8e4m3) (a1 : Vec Ideal S6x256 .f32) (a2 : Vec Ideal S7168x56x128 .fp8e4m3) (a3 : Vec Ideal S56x128 .f32) (b : Fin 6) (q : Fin 256) (h : Fin 56) (l : Fin 128) : EReal :=
  (∑ x : Fin 7168, a0 (ix3 b q x) * a2 (ix3 x h l)) * a1 (ix2 b q) * a3 (ix2 h l)

theorem G4_at (a0 : Vec Ideal S6x256x7168 .fp8e4m3) (a1 : Vec Ideal S6x256 .f32) (a2 : Vec Ideal S7168x56x128 .fp8e4m3) (a3 : Vec Ideal S56x128 .f32) (b : Fin 6) (q : Fin 256) (h : Fin 56) (l : Fin 128) (hr hc) :
    G4 (F := Ideal) a0 a1 a2 a3 (ix2 ⟨b.val * 256 + q.val, hr⟩ ⟨h.val * 128 + l.val, hc⟩) = qAt a0 a1 a2 a3 b q h l := by
  refine (scl_at _ a1 a3 b q h l hr hc).trans ?_
  rw [dot_at]
  unfold qAt
  refine congrArg (fun s : EReal => s * a1 (ix2 b q) * a3 (ix2 h l)) (Finset.sum_congr rfl fun x _ => ?_)
  rw [x_at, w_at]

end Cert.ReferenceQIdeal.Step

/-! ## The kernel's step -/

namespace Cert.KernelQIdeal.Step

open Idealize.ShloMosaic Idealize.ShloMosaic.TcCoe Idealize.ShloMosaic.Tactic Idealize.SL.Sem
open Cert.KernelQIdeal Cert.KernelQIdeal.Gen
open Cert.ReferenceQIdeal.Step (qAt G4_at)

theorem dot_at (v : Vec Ideal S1536x7168 .fp8e4m3) (w : Vec Ideal S7168x256 .fp8e4m3) (r : Fin 1536) (y : Fin 256) :
    matmul (F := Ideal) (φ₁ := .fp8e4m3) (φ₂ := .fp8e4m3) dot_S1536x7168_S7168x256_S1536x256_1_0_0_1_n_n none (shapeCast S1536x7168 v shapeCasts_S1536x7168_S1536x7168) (shapeCast S7168x256 w shapeCasts_S7168x256_S7168x256) (constant S1536x256 .f32 0x00000000#32) (ix2 r y) = ∑ x : Fin 7168, v (ix2 r x) * w (ix2 x y) := by
  pointwise

theorem scl_at (d : FVec Ideal S1536x256 .f32) (v5 : Vec Ideal S1536x1 .f32) (v9 : Vec Ideal S1x256 .f32) (r : Fin 1536) (y : Fin 256) :
    truncf (F := Ideal) .bf16 (mulf (mulf d (broadcastTo S1536x256 (shapeCast S1536x1 v5 shapeCasts_S1536x1_S1536x1) broadcasts_S1536x1_S1536x256)) (broadcastTo S1536x256 (shapeCast S1x256 v9 shapeCasts_S1x256_S1x256) broadcasts_S1x256_S1536x256)) bitsLt_bf16_f32 (ix2 r y) = d (ix2 r y) * v5 (ix2 r 0) * v9 (ix2 0 y) := by
  pointwise

theorem pay_at (v0 : Vec Ideal S1536x7168 .fp8e4m3) (v2 : Vec Ideal S7168x256 .fp8e4m3) (v5 : Vec Ideal S1536x1 .f32) (v9 : Vec Ideal S1x256 .f32) (r : Fin 1536) (y : Fin 256) :
    k0_pay1 (F := Ideal) v0 v2 v5 v9 (ix2 r y) = (∑ x : Fin 7168, v0 (ix2 r x) * v2 (ix2 x y)) * v5 (ix2 r 0) * v9 (ix2 0 y) := by
  refine (scl_at _ v5 v9 r y).trans ?_
  rw [dot_at]

theorem out_at (x0 : Vec Ideal S1536x7168 .fp8e4m3) (x1 : Vec Ideal S1536x1 .f32) (x2 : Vec Ideal S7168x256 .fp8e4m3) (x3 : Vec Ideal S1x256 .f32) (r : Fin 1536) (y : Fin 256) :
    out0_4 (F := Ideal) x0 x1 x2 x3 (ix2 r y) = (∑ x : Fin 7168, x0 (ix2 r x) * x2 (ix2 x y)) * x1 (ix2 r 0) * x3 (ix2 0 y) := by
  unfold out0_4
  rw [View.canon_unit_zero (by decide), View.ld_unit_zero (S := S1536x7168) (by decide) _ x0, View.ld_unit_zero (S := S7168x256) (by decide) _ x2,
    View.ld_unit_zero (S := S1536x1) (by decide) _ x1, View.ld_unit_zero (S := S1x256) (by decide) _ x3, pay_at]

/-! ## The blocks -/

variable (m : (ℓ : Loc nD τ sig) → Buf (Elt Ideal) ℓ) (c : Dev nD)

abbrev A0 : Vec Ideal S6x256x7168 .fp8e4m3 := m ((c : Thread nD τ).loc main_arg0)
abbrev A1 : Vec Ideal S6x256 .f32 := m ((c : Thread nD τ).loc main_arg1)
abbrev A2 : Vec Ideal S7168x56x128 .fp8e4m3 := m ((c : Thread nD τ).loc main_arg2)
abbrev A3 : Vec Ideal S56x128 .f32 := m ((c : Thread nD τ).loc main_arg3)
abbrev R4 := Cert.ReferenceQIdeal.Value.G4 (F := Ideal) (A0 m c) (A1 m c) (A2 m c) (A3 m c)

theorem idx_all : ∀ t : Fin cfg0.N, win0_0.index t = ![0, 0] ∧ win0_1.index t = ![0, 0] ∧ win0_2.index t = ![0, t.val] ∧
    win0_3.index t = ![0, t.val] ∧ win0_4.index t = ![0, t.val] :=
  (by decide +kernel : ∀ t : Fin grid0.N, _)

theorem cfgN : cfg0.N = 28 := by decide

/-- The head of a point's column. -/
def hOf (t : Fin cfg0.N) (p : Fin 2) : Fin 56 := ⟨2 * t.val + p.val, by have := t.isLt; have := cfgN; omega⟩

theorem xb_at (t : Fin cfg0.N) (b : Fin 6) (q : Fin 256) (x : Fin 7168) (hr) :
    iblk m c 0 t (ix2 ⟨b.val * 256 + q.val, hr⟩ x : S1536x7168.Idx) = A0 m c (ix3 b q x) := by
  have i : win0_0.index t = ![0, 0] := (idx_all t).1
  show _ = m ((c : Thread nD τ).loc main_arg0) (ix3 b q x)
  blk_simp [iblk, i]
  entry_read
  pointwise
  blk_ext [i]

theorem sb_at (t : Fin cfg0.N) (b : Fin 6) (q : Fin 256) (hr) :
    iblk m c 1 t (ix2 ⟨b.val * 256 + q.val, hr⟩ 0 : S1536x1.Idx) = A1 m c (ix2 b q) := by
  have i : win0_1.index t = ![0, 0] := (idx_all t).2.1
  show _ = m ((c : Thread nD τ).loc main_arg1) (ix2 b q)
  blk_simp [iblk, i]
  entry_read
  pointwise
  blk_ext [i]

theorem wb_at (t : Fin cfg0.N) (x : Fin 7168) (p : Fin 2) (l : Fin 128) (hc) :
    iblk m c 2 t (ix2 x ⟨p.val * 128 + l.val, hc⟩ : S7168x256.Idx) = A2 m c (ix3 x (hOf t p) l) := by
  have i : win0_2.index t = ![0, t.val] := (idx_all t).2.2.1
  show _ = m ((c : Thread nD τ).loc main_arg2) (ix3 x (hOf t p) l)
  blk_simp [iblk, i]
  entry_read
  pointwise
  blk_ext [i, hOf]

theorem tb_at (t : Fin cfg0.N) (p : Fin 2) (l : Fin 128) (hc) :
    iblk m c 3 t (ix2 0 ⟨p.val * 128 + l.val, hc⟩ : S1x256.Idx) = A3 m c (ix2 (hOf t p) l) := by
  have i : win0_3.index t = ![0, t.val] := (idx_all t).2.2.2.1
  show _ = m ((c : Thread nD τ).loc main_arg3) (ix2 (hOf t p) l)
  blk_simp [iblk, i]
  entry_read
  pointwise
  blk_ext [i, hOf]

/-! ## The result array -/

theorem out_step (t : Fin cfg0.N) (b : Fin 6) (q : Fin 256) (p : Fin 2) (l : Fin 128) (hr hc) :
    out0_4 (F := Ideal) (iblk m c 0 t) (iblk m c 1 t) (iblk m c 2 t) (iblk m c 3 t) (ix2 ⟨b.val * 256 + q.val, hr⟩ ⟨p.val * 128 + l.val, hc⟩) = qAt (A0 m c) (A1 m c) (A2 m c) (A3 m c) b q (hOf t p) l := by
  refine (out_at _ _ _ _ _ _).trans ?_
  unfold qAt
  refine congrArg₂ (fun s u : EReal => s * u) (congrArg₂ (fun s u : EReal => s * u) (Finset.sum_congr rfl fun x _ => ?_) (sb_at m c t b q hr)) (tb_at m c t p l hc)
  exact congrArg₂ (fun s u : EReal => s * u) (xb_at m c t b q x hr) (wb_at m c t x p l hc)

theorem ix_q (y : S1536x256.Idx) : ∃ (b : Fin 6) (q : Fin 256) (p : Fin 2) (l : Fin 128) (hr : _) (hc : _), y = (ix2 ⟨b.val * 256 + q.val, hr⟩ ⟨p.val * 128 + l.val, hc⟩ : S1536x256.Idx) := by
  have h0 : (y 0).val < 1536 := (y 0).isLt
  have h1 : (y 1).val < 256 := (y 1).isLt
  refine ⟨⟨(y 0).val / 256, by omega⟩, ⟨(y 0).val % 256, by omega⟩, ⟨(y 1).val / 128, by omega⟩, ⟨(y 1).val % 128, by omega⟩, by show _ / 256 * 256 + _ % 256 < 1536; omega, by show _ / 128 * 128 + _ % 128 < 256; omega, ?_⟩
  funext a
  match a with
  | ⟨0, _⟩ => exact Fin.ext (show (y 0).val = (y 0).val / 256 * 256 + (y 0).val % 256 by omega)
  | ⟨1, _⟩ => exact Fin.ext (show (y 1).val = (y 1).val / 128 * 128 + (y 1).val % 128 by omega)

theorem pt4 (t : Fin cfg0.N) (b : Fin 6) (q : Fin 256) (p : Fin 2) (l : Fin 128) (hr hc) :
    out0_4 (F := Ideal) (iblk m c 0 t) (iblk m c 1 t) (iblk m c 2 t) (iblk m c 3 t) (ix2 ⟨b.val * 256 + q.val, hr⟩ ⟨p.val * 128 + l.val, hc⟩)
      = R4 m c ((win0_4.blk t).view.emb (ix2 ⟨b.val * 256 + q.val, hr⟩ ⟨p.val * 128 + l.val, hc⟩ : S1536x256.Idx)) := by
  have i : win0_4.index t = ![0, t.val] := (idx_all t).2.2.2.2
  rw [out_step]
  refine (G4_at (A0 m c) (A1 m c) (A2 m c) (A3 m c) b q (hOf t p) l hr (by have := (hOf t p).isLt; omega)).symm.trans ?_
  refine congrArg (R4 m c) ?_
  blk_ext [i, hOf]

theorem final4 : (dats m 0 c).arrAt 4 cfg0.N = R4 m c := by
  refine (dats m 0 c).arrAt_eq_of_covers 4 _ (by decide +kernel) fun t hf y => ?_
  blk_simp
  rw [after0_4]
  obtain ⟨b, q, p, l, hr, hc, rfl⟩ := ix_q y
  exact pt4 m c t b q p l hr hc

variable (ρ : Dev nD → PrngReg)

/-- Every execution ends with the projection at the reference's, and the arguments as they were. -/
theorem run : θ_run defs (onTc (τ := τ) (main (F := Ideal))) ⟨m, fun _ => 0, ρ⟩ fun r => ∀ c : Dev nD,
      r.2.mem ((c : Thread nD τ).loc main_v4) = R4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (Cert.KernelQIdeal.Value.run_blocks m ρ)

end Cert.KernelQIdeal.Step

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.KernelX
public import proofs.«01_k».proof.Proof.Gen.KernelX.Skeleton
public import proofs.«01_k».proof.Proof.Gen.KernelX.Launch
public import proofs.«01_k».proof.Proof.Gen.KernelX.Points
public import proofs.«01_k».proof.Proof.Gen.KernelX.Frame
public import proofs.«01_k».proof.Proof.Gen.KernelXIdeal
public import proofs.«01_k».proof.Proof.Gen.KernelXIdeal.Skeleton
public import proofs.«01_k».proof.Proof.Gen.KernelXIdeal.Launch
public import proofs.«01_k».proof.Proof.Gen.KernelXIdeal.Points
public import proofs.«01_k».proof.Proof.Gen.KernelXIdeal.Frame
public import proofs.«01_k».proof.Proof.Gen.ReferenceXIdeal
public import proofs.«01_k».proof.Proof.Gen.ReferenceXIdeal.Skeleton
public import proofs.«01_k».proof.Proof.Gen.ReferenceXIdeal.Launch
public import proofs.«01_k».proof.Proof.Gen.ReferenceXIdeal.Points
public import proofs.«01_k».proof.Proof.Gen.ReferenceXIdeal.Frame
public import proofs.«01_k».proof.Proof.Gen.ReferenceXIdeal.Value
public import proofs.«01_k».proof.Proof.Gen.KernelNew
public import proofs.«01_k».proof.Proof.Gen.KernelNew.Skeleton
public import proofs.«01_k».proof.Proof.Gen.KernelNew.Launch
public import proofs.«01_k».proof.Proof.Gen.KernelNew.Points
public import proofs.«01_k».proof.Proof.Gen.KernelNew.Frame
public import proofs.«01_k».proof.Proof.Gen.KernelNewIdeal
public import proofs.«01_k».proof.Proof.Gen.KernelNewIdeal.Skeleton
public import proofs.«01_k».proof.Proof.Gen.KernelNewIdeal.Launch
public import proofs.«01_k».proof.Proof.Gen.KernelNewIdeal.Points
public import proofs.«01_k».proof.Proof.Gen.KernelNewIdeal.Frame
public import proofs.«01_k».proof.Proof.Gen.ReferenceNewIdeal
public import proofs.«01_k».proof.Proof.Gen.ReferenceNewIdeal.Skeleton
public import proofs.«01_k».proof.Proof.Gen.ReferenceNewIdeal.Launch
public import proofs.«01_k».proof.Proof.Gen.ReferenceNewIdeal.Points
public import proofs.«01_k».proof.Proof.Gen.ReferenceNewIdeal.Frame
public import proofs.«01_k».proof.Proof.Gen.ReferenceNewIdeal.Value
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.KernelQIdeal.Value
public import proofs.«01_k».proof.Proof.Gen.ReferenceQIdeal
public import proofs.«01_k».proof.Proof.Gen.ReferenceQIdeal.Skeleton
public import proofs.«01_k».proof.Proof.Gen.ReferenceQIdeal.Launch
public import proofs.«01_k».proof.Proof.Gen.ReferenceQIdeal.Points
public import proofs.«01_k».proof.Proof.Gen.ReferenceQIdeal.Frame
public import proofs.«01_k».proof.Proof.Gen.ReferenceQIdeal.Value
public import proofs.«01_k».proof.Proof.KFrame
public import proofs.«01_k».proof.Proof.KIFrame
public import proofs.«01_k».proof.Proof.KIFinal
public import Idealize.ShloMosaic.Adequacy
public import Idealize.ShloMosaic.Init
public import proofs.«01_k».proof.Proof.XValue
public import proofs.«01_k».proof.Proof.NewValue
public import proofs.«01_k».proof.Proof.QValue

@[expose] public section

noncomputable section

namespace Cert.Proof

open Idealize.ShloMosaic Idealize.SL.Sem Cert.Kernel

/-- Over the extended reals the kernel and the reference leave the same five results of the same arguments: the key and
    value codes, their scales and the attention. -/
theorem algebraic : @Cert.algebraic_KernelIdeal_ReferenceIdeal Cert.KernelIdeal.Gen.facts Cert.ReferenceIdeal.Gen.facts := by
  intro m g m' g' _ ha
  refine ⟨Cert.KernelIdeal.Step.R8 m, Cert.KernelIdeal.Step.R9 m, Cert.KernelIdeal.Step.R10 m, Cert.KernelIdeal.Step.R11 m,
    Cert.KernelIdeal.Step.R12 m, Cert.KernelIdeal.Step.run m g, ?_⟩
  refine (θ_run _ _ _).mono (fun r h c => ?_) (Cert.ReferenceIdeal.Value.run (F := Ideal) m' g')
  obtain ⟨e0, e1, e2, e3, e4, e5, e6, e7⟩ := ha c
  have hc := h c
  rw [e0, e1, e2, e3, e4, e5, e6, e7] at hc
  rw [e0, e1, e2, e3, e4, e5, e6, e7]
  exact hc

/-- The quantiser of the sequence: the same codes and scales. -/
theorem algebraicX : @Cert.algebraic_KernelXIdeal_ReferenceXIdeal Cert.KernelXIdeal.Gen.facts Cert.ReferenceXIdeal.Gen.facts := by
  intro m g m' g' _ ha
  refine ⟨Cert.KernelXIdeal.Step.R1 m, Cert.KernelXIdeal.Step.R2 m, Cert.KernelXIdeal.Step.run m g, ?_⟩
  refine (θ_run _ _ _).mono (fun r h c => ?_) (Cert.ReferenceXIdeal.Value.run (F := Ideal) m' g')
  obtain e0 := ha c
  have hc := h c
  rw [e0] at hc
  rw [e0]
  exact hc

/-- The quantiser of the new rows: the same rows for the context, codes and scales. -/
theorem algebraicNew : @Cert.algebraic_KernelNewIdeal_ReferenceNewIdeal Cert.KernelNewIdeal.Gen.facts Cert.ReferenceNewIdeal.Gen.facts := by
  intro m g m' g' _ ha
  refine ⟨Cert.KernelNewIdeal.Step.R2 m, Cert.KernelNewIdeal.Step.R3 m, Cert.KernelNewIdeal.Step.R4 m, Cert.KernelNewIdeal.Step.run m g, ?_⟩
  refine (θ_run _ _ _).mono (fun r h c => ?_) (Cert.ReferenceNewIdeal.Value.run (F := Ideal) m' g')
  obtain ⟨e0, e1⟩ := ha c
  have hc := h c
  rw [e0, e1] at hc
  rw [e0, e1]
  exact hc

/-- The query projection: the same queries. -/
theorem algebraicQ : @Cert.algebraic_KernelQIdeal_ReferenceQIdeal Cert.KernelQIdeal.Gen.facts Cert.ReferenceQIdeal.Gen.facts := by
  intro m g m' g' _ ha
  refine ⟨Cert.KernelQIdeal.Step.R4 m, Cert.KernelQIdeal.Step.run m g, ?_⟩
  refine (θ_run _ _ _).mono (fun r h c => ?_) (Cert.ReferenceQIdeal.Value.run (F := Ideal) m' g')
  obtain ⟨e0, e1, e2, e3⟩ := ha c
  have hc := h c
  rw [e0, e1, e2, e3] at hc
  rw [e0, e1, e2, e3]
  exact hc

/-- All twenty claims. -/
theorem claim : Cert.Claim := ⟨
  Cert.Kernel.Gen.facts, Cert.KernelIdeal.Gen.facts, Cert.ReferenceIdeal.Gen.facts,
  Cert.KernelX.Gen.facts, Cert.KernelXIdeal.Gen.facts, Cert.ReferenceXIdeal.Gen.facts,
  Cert.KernelNew.Gen.facts, Cert.KernelNewIdeal.Gen.facts, Cert.ReferenceNewIdeal.Gen.facts,
  Cert.KernelQ.Gen.facts, Cert.KernelQIdeal.Gen.facts, Cert.ReferenceQIdeal.Gen.facts,
  fun m ρ _ => Cert.Kernel.Step.frame_main m ρ,
  fun m ρ _ => Cert.KernelIdeal.Step.frame_main m ρ,
  fun m ρ _ => Cert.ReferenceIdeal.Gen.frame m ρ,
  fun m ρ _ => Cert.KernelX.Gen.frame m ρ,
  fun m ρ _ => Cert.KernelXIdeal.Gen.frame m ρ,
  fun m ρ _ => Cert.ReferenceXIdeal.Gen.frame m ρ,
  fun m ρ _ => Cert.KernelNew.Gen.frame m ρ,
  fun m ρ _ => Cert.KernelNewIdeal.Gen.frame m ρ,
  fun m ρ _ => Cert.ReferenceNewIdeal.Gen.frame m ρ,
  fun m ρ _ => Cert.KernelQ.Gen.frame m ρ,
  fun m ρ _ => Cert.KernelQIdeal.Gen.frame m ρ,
  fun m ρ _ => Cert.ReferenceQIdeal.Gen.frame m ρ,
  trivial, algebraic, trivial, algebraicX, trivial, algebraicNew, trivial, algebraicQ⟩

end Cert.Proof

end
